-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v157_1) = v1 c
          ∧ r.2.mem ((c.tc : Thread Cert.ReferenceIdeal.nD Cert.ReferenceIdeal.τ).loc Cert.ReferenceIdeal.main_v157_2) = v2 c
          ∧ r.2.mem ((c.tc : Thread Cert.ReferenceIdeal.nD Cert.ReferenceIdeal.τ).loc Cert.ReferenceIdeal.main_v35_0) = v3 c
          ∧ r.2.mem ((c.tc : Thread Cert.ReferenceIdeal.nD Cert.ReferenceIdeal.τ).loc Cert.ReferenceIdeal.main_v35_1) = v4 c
          ∧ r.2.mem ((c.tc : Thread Cert.ReferenceIdeal.nD Cert.ReferenceIdeal.τ).loc Cert.ReferenceIdeal.main_v35_2) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x8192x16384 : Shape := ⟨3, ![1, 8192, 16384]⟩
abbrev S16384x20480 : Shape := ⟨2, ![16384, 20480]⟩
abbrev S20480 : Shape := ⟨1, ![20480]⟩
abbrev S_ : Shape := ⟨0, ![]⟩

class Facts : Prop where
  bcast_S_S1x8192x16384 : S_.BroadcastsInDim S1x8192x16384 (![] : Fin 0 → Fin S1x8192x16384.rank)

variable [Facts]

def fn {F : FTy → Type} [FloatOps F] (main_arg0 : IVec S1x8192x16384 32) (main_arg1 : IVec S16384x20480 8) (main_arg2 : IVec S20480 32) (main_arg3 : IVec S16384x20480 8) (main_arg4 : IVec S20480 32) : IVec S1x8192x16384 1 :=
  let main_c : IVec S_ 32 := constantI S_ 32 4286578689#32
  let main_v0 : IVec S1x8192x16384 32 := broadcastInDim S1x8192x16384 ![] bcast_S_S1x8192x16384 main_c
  let main_v1 : IVec S1x8192x16384 1 := cmpi .sge main_arg0 main_v0
  let main_c_0 : IVec S_ 32 := constantI S_ 32 8388607#32
  let main_v2 : IVec S1x8192x16384 32 := broadcastInDim S1x8192x16384 ![] bcast_S_S1x8192x16384 main_c_0
  let main_v3 : IVec S1x8192x16384 1 := cmpi .sle main_arg0 main_v2
  let main_v4 : IVec S1x8192x16384 1 := andi main_v1 main_v3
  main_v4
-- ==== Kernel.lean ====
abbrev S1x8192x16384 : Shape := ⟨3, ![1, 8192, 16384]⟩
abbrev S16384x20480 : Shape := ⟨2, ![16384, 20480]⟩
abbrev S20480 : Shape := ⟨1, ![20480]⟩
abbrev S8192x16384 : Shape := ⟨2, ![8192, 16384]⟩
abbrev S8192x1 : Shape := ⟨2, ![8192, 1]⟩
abbrev S64x16384 : Shape := ⟨2, ![64, 16384]⟩
abbrev S64x1 : Shape := ⟨2, ![64, 1]⟩
abbrev S64x512 : Shape := ⟨2, ![64, 512]⟩
abbrev S64 : Shape := ⟨1, ![64]⟩
abbrev S1x20480 : Shape := ⟨2, ![1, 20480]⟩
abbrev S8192x20480 : Shape := ⟨2, ![8192, 20480]⟩
abbrev S8192x160 : Shape := ⟨2, ![8192, 160]⟩
abbrev S1024x16384 : Shape := ⟨2, ![1024, 16384]⟩
abbrev S16384x256 : Shape := ⟨2, ![16384, 256]⟩
abbrev S1024x1 : Shape := ⟨2, ![1024, 1]⟩
abbrev S1x256 : Shape := ⟨2, ![1, 256]⟩
abbrev S1024x256 : Shape := ⟨2, ![1024, 256]⟩
abbrev S1024x160 : Shape := ⟨2, ![1024, 160]⟩
abbrev S256x1024 : Shape := ⟨2, ![256, 1024]⟩
abbrev S256x256 : Shape := ⟨2, ![256, 256]⟩
abbrev S32x1 : Shape := ⟨2, ![32, 1]⟩
abbrev S32x256 : Shape := ⟨2, ![32, 256]⟩
abbrev S32x128 : Shape := ⟨2, ![32, 128]⟩
abbrev S32 : Shape := ⟨1, ![32]⟩
abbrev S1x8192x20480 : Shape := ⟨3, ![1, 8192, 20480]⟩
abbrev S1x8192x160 : Shape := ⟨3, ![1, 8192, 160]⟩
abbrev S1x8192 : Shape := ⟨2, ![1, 8192]⟩

abbrev nBuf : Space → Nat
  | .hbm => 20
  | .vmem => 30
  | .smem => 0
  | _ => 0

abbrev bufTy : (tb : Table) → Fin (tcTables nBuf tb) → BufTy
  | .hbm, ⟨0, _⟩ => ⟨S1x8192x16384, .i32⟩
  | .hbm, ⟨1, _⟩ => ⟨S16384x20480, .i8⟩
  | .hbm, ⟨2, _⟩ => ⟨S20480, .i32⟩
  | .hbm, ⟨3, _⟩ => ⟨S16384x20480, .i8⟩
  | .hbm, ⟨4, _⟩ => ⟨S20480, .i32⟩
  | .hbm, ⟨5, _⟩ => ⟨S8192x16384, .i32⟩
  | .hbm, ⟨6, _⟩ => ⟨S8192x16384, .i8⟩
  | .hbm, ⟨7, _⟩ => ⟨S8192x1, .i32⟩
  | .hbm, ⟨8, _⟩ => ⟨S8192x1, .i32⟩
  | .hbm, ⟨9, _⟩ => ⟨S1x20480, .i32⟩
  | .hbm, ⟨10, _⟩ => ⟨S1x20480, .i32⟩
  | .hbm, ⟨11, _⟩ => ⟨S8192x20480, .i8⟩
  | .hbm, ⟨12, _⟩ => ⟨S8192x160, .i32⟩
  | .hbm, ⟨13, _⟩ => ⟨S8192x160, .i32⟩
  | .hbm, ⟨14, _⟩ => ⟨S1x8192x20480, .i8⟩
  | .hbm, ⟨15, _⟩ => ⟨S1x8192x160, .i32⟩
  | .hbm, ⟨16, _⟩ => ⟨S1x8192x160, .i32⟩
  | .hbm, ⟨17, _⟩ => ⟨S1x8192x16384, .i8⟩
  | .hbm, ⟨18, _⟩ => ⟨S1x8192, .i32⟩
  | .hbm, ⟨19, _⟩ => ⟨S1x8192, .i32⟩
  | .local _ .vmem, ⟨0, _⟩ => ⟨S64x16384, .i32⟩
  | .local _ .vmem, ⟨1, _⟩ => ⟨S64x16384, .i32⟩
  | .local _ .vmem, ⟨2, _⟩ => ⟨S64x16384, .i8⟩
  | .local _ .vmem, ⟨3, _⟩ => ⟨S64x16384, .i8⟩
  | .local _ .vmem, ⟨4, _⟩ => ⟨S64x1, .i32⟩
  | .local _ .vmem, ⟨5, _⟩ => ⟨S64x1, .i32⟩
  | .local _ .vmem, ⟨6, _⟩ => ⟨S64x1, .i32⟩
  | .local _ .vmem, ⟨7, _⟩ => ⟨S64x1, .i32⟩
  | .local _ .vmem, ⟨8, _⟩ => ⟨S1024x16384, .i8⟩
  | .local _ .vmem, ⟨9, _⟩ => ⟨S16384x256, .i8⟩
  | .local _ .vmem, ⟨10, _⟩ => ⟨S16384x256, .i8⟩
  | .local _ .vmem, ⟨11, _⟩ => ⟨S16384x256, .i8⟩
  | .local _ .vmem, ⟨12, _⟩ => ⟨S16384x256, .i8⟩
  | .local _ .vmem, ⟨13, _⟩ => ⟨S1024x1, .i32⟩
  | .local _ .vmem, ⟨14, _⟩ => ⟨S1024x1, .i32⟩
  | .local _ .vmem, ⟨15, _⟩ => ⟨S1024x1, .i32⟩
  | .local _ .vmem, ⟨16, _⟩ => ⟨S1024x1, .i32⟩
  | .local _ .vmem, ⟨17, _⟩ => ⟨S1x256, .i32⟩
  | .local _ .vmem, ⟨18, _⟩ => ⟨S1x256, .i32⟩
  | .local _ .vmem, ⟨19, _⟩ => ⟨S1x256, .i32⟩
  | .local _ .vmem, ⟨20, _⟩ => ⟨S1x256, .i32⟩
  | .local _ .vmem, ⟨21, _⟩ => ⟨S1024x256, .i8⟩
  | .local _ .vmem, ⟨22, _⟩ => ⟨S1024x256, .i8⟩
  | .local _ .vmem, ⟨23, _⟩ => ⟨S1024x160, .i32⟩
  | .local _ .vmem, ⟨24, _⟩ => ⟨S1024x160, .i32⟩
  | .local _ .vmem, ⟨25, _⟩ => ⟨S1024x160, .i32⟩
  | .local _ .vmem, ⟨26, _⟩ => ⟨S1024x160, .i32⟩
  | .local _ .vmem, ⟨27, _⟩ => ⟨S1024x256, .i32⟩
  | .local _ .vmem, ⟨28, _⟩ => ⟨S1024x256, .i32⟩
  | .local _ .vmem, ⟨29, _⟩ => ⟨S1024x256, .f32⟩
  | _, _ => ⟨S1x8192x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_0 : BitVec 32 := 0#32
  let c32_i32 : BitVec 32 := 32#32
  let v1 : BitVec 32 := Scalar.addi c0_i32_0 c32_i32
  let c1_i32 : BitVec 32 := 1#32
  ⟨c0_i32_0, v1, c1_i32⟩
def k0_off1 (k0_t1 : Fin k0_t1_loop.trips) : Fin 2 → Nat :=
  let c0_20 : Index := 0#32
  let c0_i32_0 : BitVec 32 := 0#32
  let c1_i32 : BitVec 32 := 1#32
  let arg5 : BitVec 32 := Scf.iv c0_i32_0 c1_i32 k0_t1
  let c512_i32 : BitVec 32 := 512#32
  let v56 : BitVec 32 := Scalar.muli arg5 c512_i32
  let v57 : Index := Scalar.indexCast v56
  ![0, v57.toNat]
@[reducible] def k0_t2_loop : Scf.Loop 32 :=
  let c0_i32_16 : BitVec 32 := 0#32
  let c32_i32_17 : BitVec 32 := 32#32
  let v55 : BitVec 32 := Scalar.addi c0_i32_16 c32_i32_17
  let c1_i32_18 : BitVec 32 := 1#32
  ⟨c0_i32_16, v55, c1_i32_18⟩
def k0_off2 (k0_t2 : Fin k0_t2_loop.trips) : Fin 2 → Nat :=
  let c0_20 : Index := 0#32
  let c0_i32_16 : BitVec 32 := 0#32
  let c1_i32_18 : BitVec 32 := 1#32
  let arg5 : BitVec 32 := Scf.iv c0_i32_16 c1_i32_18 k0_t2
  let c512_i32 : BitVec 32 := 512#32
  let v56 : BitVec 32 := Scalar.muli arg5 c512_i32
  let v57 : Index := Scalar.indexCast v56
  ![0, v57.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 80], ![false, false]⟩

@[reducible] def k1_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k1_off1 (k1_t1 : Fin k1_t1_loop.trips) : Fin 2 → Nat :=
  let c0_i32 : BitVec 32 := 0#32
  let c1_i32 : BitVec 32 := 1#32
  let arg15 : BitVec 32 := Scf.iv c0_i32 c1_i32 k1_t1
  let c1024_i32 : BitVec 32 := 1024#32
  let v8 : BitVec 32 := Scalar.muli arg15 c1024_i32
  let v9 : Index := Scalar.indexCast v8
  let c0 : Index := 0#32
  ![v9.toNat, 0]
def k1_off2 (k1_t1 : Fin k1_t1_loop.trips) : Fin 2 → Nat :=
  let c0_8 : Index := 0#32
  let c0_i32 : BitVec 32 := 0#32
  let c1_i32 : BitVec 32 := 1#32
  let arg15 : BitVec 32 := Scf.iv c0_i32 c1_i32 k1_t1
  let c1024_i32 : BitVec 32 := 1024#32
  let v8 : BitVec 32 := Scalar.muli arg15 c1024_i32
  let v15 : Index := Scalar.indexCast v8
  ![0, v15.toNat]
def k1_off3 (k1_t1 : Fin k1_t1_loop.trips) : Fin 2 → Nat :=
  let c256 : Index := 256#32
  let c0_i32 : BitVec 32 := 0#32
  let c1_i32 : BitVec 32 := 1#32
  let arg15 : BitVec 32 := Scf.iv c0_i32 c1_i32 k1_t1
  let c1024_i32 : BitVec 32 := 1024#32
  let v8 : BitVec 32 := Scalar.muli arg15 c1024_i32
  let v41 : Index := Scalar.indexCast v8
  ![256, v41.toNat]
def k1_off4 (k1_t1 : Fin k1_t1_loop.trips) : Fin 2 → Nat :=
  let c512 : Index := 512#32
  let c0_i32 : BitVec 32 := 0#32
  let c1_i32 : BitVec 32 := 1#32
  let arg15 : BitVec 32 := Scf.iv c0_i32 c1_i32 k1_t1
  let c1024_i32 : BitVec 32 := 1024#32
  let v8 : BitVec 32 := Scalar.muli arg15 c1024_i32
  let v67 : Index := Scalar.indexCast v8
  ![512, v67.toNat]
def k1_off5 (k1_t1 : Fin k1_t1_loop.trips) : Fin 2 → Nat :=
  let c768 : Index := 768#32
  let c0_i32 : BitVec 32 := 0#32
  let c1_i32 : BitVec 32 := 1#32
  let arg15 : BitVec 32 := Scf.iv c0_i32 c1_i32 k1_t1
  let c1024_i32 : BitVec 32 := 1024#32
  let v8 : BitVec 32 := Scalar.muli arg15 c1024_i32
  let v93 : Index := Scalar.indexCast v8
  ![768, v93.toNat]
@[reducible] def k1_t2_loop : Scf.Loop 32 :=
  let c0_i32_3 : BitVec 32 := 0#32
  let c32_i32 : BitVec 32 := 32#32
  let v4 : BitVec 32 := Scalar.addi c0_i32_3 c32_i32
  let c1_i32_4 : BitVec 32 := 1#32
  ⟨c0_i32_3, v4, c1_i32_4⟩
def k1_off6 (k1_t2 : Fin k1_t2_loop.trips) : Fin 2 → Nat :=
  let c0_i32_3 : BitVec 32 := 0#32
  let c1_i32_4 : BitVec 32 := 1#32
  let arg15 : BitVec 32 := Scf.iv c0_i32_3 c1_i32_4 k1_t2
  let c32_i32_7 : BitVec 32 := 32#32
  let v8 : BitVec 32 := Scalar.muli arg15 c32_i32_7
  let v9 : Index := Scalar.indexCast v8
  let c0 : Index := 0#32
  ![v9.toNat, 0]
def k1_off7 (k1_t2 : Fin k1_t2_loop.trips) : Fin 2 → Nat :=
  let c0_i32_3 : BitVec 32 := 0#32
  let c1_i32_4 : BitVec 32 := 1#32
  let arg15 : BitVec 32 := Scf.iv c0_i32_3 c1_i32_4 k1_t2
  let c32_i32_7 : BitVec 32 := 32#32
  let v8 : BitVec 32 := Scalar.muli arg15 c32_i32_7
  let v17 : Index := Scalar.indexCast v8
  let c0_9 : Index := 0#32
  ![v17.toNat, 0]
def k1_cond2 (i : grid1.Coords) : BitVec 1 :=
  let arg1 : BitVec 32 := BitVec.ofNat 32 (i 1).val
  let c79_i32 : BitVec 32 := 79#32
  let v5 : BitVec 1 := Scalar.cmpi .eq arg1 c79_i32
  let v6 : BitVec 32 := Scalar.extui v5
  let c0_i32_6 : BitVec 32 := 0#32
  let v7 : BitVec 1 := Scalar.cmpi .ne v6 c0_i32_6
  v7

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1024x16384 .i8 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S16384x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16384x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x256 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1024x256 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x160 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1024x160 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== ReferenceIdeal.lean ====
abbrev S1x8192x16384 : Shape := ⟨3, ![1, 8192, 16384]⟩
abbrev S16384x20480 : Shape := ⟨2, ![16384, 20480]⟩
abbrev S20480 : Shape := ⟨1, ![20480]⟩
abbrev S_ : Shape := ⟨0, ![]⟩
abbrev S1x8192 : Shape := ⟨2, ![1, 8192]⟩
abbrev S1x8192x1 : Shape := ⟨3, ![1, 8192, 1]⟩
abbrev S8192x16384 : Shape := ⟨2, ![8192, 16384]⟩
abbrev S8192x16384x1 : Shape := ⟨3, ![8192, 16384, 1]⟩
abbrev S1x16384x20480 : Shape := ⟨3, ![1, 16384, 20480]⟩
abbrev S8192x16384x20480 : Shape := ⟨3, ![8192, 16384, 20480]⟩
abbrev S8192x20480 : Shape := ⟨2, ![8192, 20480]⟩
abbrev S1x8192x20480 : Shape := ⟨3, ![1, 8192, 20480]⟩
abbrev S1x1x20480 : Shape := ⟨3, ![1, 1, 20480]⟩
abbrev S1x8192x160x128 : Shape := ⟨4, ![1, 8192, 160, 128]⟩
abbrev S1x8192x160 : Shape := ⟨3, ![1, 8192, 160]⟩
abbrev S1x8192x160x1 : Shape := ⟨4, ![1, 8192, 160, 1]⟩

abbrev nBuf : Space → Nat
  | .hbm => 316
  | .vmem => 0
  | .smem => 0
  | _ => 0

abbrev hbmTy0_0 (i : Nat) : BufTy := match i % 128 with
  | 0 => ⟨S1x8192x16384, .i32⟩
  | 1 => ⟨S16384x20480, .i8⟩
  | 2 => ⟨S20480, .i32⟩
  | 3 => ⟨S16384x20480, .i8⟩
  | 4 => ⟨S20480, .i32⟩
  | 5 => ⟨S1x8192x16384, .i32⟩
  | 6 => ⟨S_, .i32⟩
  | 7 => ⟨S1x8192, .i32⟩
  | 8 => ⟨S_, .i32⟩
  | 9 => ⟨S1x8192, .i32⟩
  | 10 => ⟨S1x8192, .i32⟩
  | 11 => ⟨S1x8192, .i32⟩
  | 12 => ⟨S_, .i32⟩
  | 13 => ⟨S1x8192, .i32⟩
  | 14 => ⟨S1x8192, .i32⟩
  | 15 => ⟨S_, .i32⟩
  | 16 => ⟨S1x8192, .i32⟩
  | 17 => ⟨S1x8192, .i32⟩
  | 18 => ⟨S1x8192, .i32⟩
  | 19 => ⟨S_, .i32⟩
  | 20 => ⟨S1x8192, .i32⟩
  | 21 => ⟨S1x8192, .i32⟩
  | 22 => ⟨S_, .i32⟩
  | 23 => ⟨S_, .i32⟩
  | 24 => ⟨S1x8192, .i32⟩
  | 25 => ⟨S1x8192, .i32⟩
  | 26 => ⟨S1x8192, .i32⟩
  | 27 => ⟨S_, .i32⟩
  | 28 => ⟨S1x8192, .i32⟩
  | 29 => ⟨S1x8192, .i1⟩
  | 30 => ⟨S1x8192, .i32⟩
  | 31 => ⟨S1x8192, .i32⟩
  | 32 => ⟨S_, .i32⟩
  | 33 => ⟨S1x8192, .i32⟩
  | 34 => ⟨S1x8192, .i1⟩
  | 35 => ⟨S1x8192, .i1⟩
  | 36 => ⟨S_, .i32⟩
  | 37 => ⟨S1x8192, .i32⟩
  | 38 => ⟨S1x8192, .i32⟩
  | 39 => ⟨S1x8192, .i32⟩
  | 40 => ⟨S_, .i32⟩
  | 41 => ⟨S1x8192, .i32⟩
  | 42 => ⟨S1x8192, .i32⟩
  | 43 => ⟨S_, .i32⟩
  | 44 => ⟨S1x8192, .i32⟩
  | 45 => ⟨S1x8192, .i32⟩
  | 46 => ⟨S_, .i32⟩
  | 47 => ⟨S1x8192, .i32⟩
  | 48 => ⟨S1x8192, .i32⟩
  | 49 => ⟨S1x8192x1, .i32⟩
  | 50 => ⟨S1x8192x16384, .i32⟩
  | 51 => ⟨S_, .i32⟩
  | 52 => ⟨S1x8192, .i32⟩
  | 53 => ⟨S1x8192, .i32⟩
  | 54 => ⟨S1x8192x1, .i32⟩
  | 55 => ⟨S1x8192x16384, .i32⟩
  | 56 => ⟨S1x8192x16384, .i32⟩
  | 57 => ⟨S_, .i32⟩
  | 58 => ⟨S1x8192x1, .i32⟩
  | 59 => ⟨S1x8192x1, .i32⟩
  | 60 => ⟨S1x8192x16384, .i32⟩
  | 61 => ⟨S1x8192x16384, .i32⟩
  | 62 => ⟨S1x8192x16384, .i32⟩
  | 63 => ⟨S1x8192x16384, .i32⟩
  | 64 => ⟨S1x8192x16384, .i32⟩
  | 65 => ⟨S1x8192x1, .i32⟩
  | 66 => ⟨S1x8192x16384, .i32⟩
  | 67 => ⟨S1x8192x16384, .i1⟩
  | 68 => ⟨S1x8192x16384, .i32⟩
  | 69 => ⟨S1x8192x16384, .i32⟩
  | 70 => ⟨S_, .i32⟩
  | 71 => ⟨S1x8192x16384, .i32⟩
  | 72 => ⟨S1x8192x16384, .i1⟩
  | 73 => ⟨S1x8192x16384, .i1⟩
  | 74 => ⟨S_, .i32⟩
  | 75 => ⟨S1x8192x16384, .i32⟩
  | 76 => ⟨S1x8192x16384, .i32⟩
  | 77 => ⟨S1x8192x16384, .i32⟩
  | 78 => ⟨S1x8192x16384, .i32⟩
  | 79 => ⟨S1x8192x16384, .i32⟩
  | 80 => ⟨S_, .i32⟩
  | 81 => ⟨S_, .i32⟩
  | 82 => ⟨S_, .i32⟩
  | 83 => ⟨S1x8192x16384, .i32⟩
  | 84 => ⟨S1x8192x16384, .i32⟩
  | 85 => ⟨S_, .i32⟩
  | 86 => ⟨S1x8192x16384, .i32⟩
  | 87 => ⟨S1x8192x16384, .i32⟩
  | 88 => ⟨S1x8192x16384, .i8⟩
  | 89 => ⟨S1x8192x16384, .i8⟩
  | 90 => ⟨S1x8192, .i32⟩
  | 91 => ⟨S1x8192, .i32⟩
  | 92 => ⟨S8192x16384, .i8⟩
  | 93 => ⟨S8192x16384, .i32⟩
  | 94 => ⟨S8192x16384x1, .i32⟩
  | 95 => ⟨S16384x20480, .i32⟩
  | 96 => ⟨S1x16384x20480, .i32⟩
  | 97 => ⟨S8192x16384x20480, .i32⟩
  | 98 => ⟨S8192x16384x20480, .i32⟩
  | 99 => ⟨S8192x16384x20480, .i32⟩
  | 100 => ⟨S_, .i32⟩
  | 101 => ⟨S8192x20480, .i32⟩
  | 102 => ⟨S1x8192x20480, .i32⟩
  | 103 => ⟨S8192x16384, .i8⟩
  | 104 => ⟨S8192x16384, .i32⟩
  | 105 => ⟨S8192x16384x1, .i32⟩
  | 106 => ⟨S16384x20480, .i32⟩
  | 107 => ⟨S1x16384x20480, .i32⟩
  | 108 => ⟨S8192x16384x20480, .i32⟩
  | 109 => ⟨S8192x16384x20480, .i32⟩
  | 110 => ⟨S8192x16384x20480, .i32⟩
  | 111 => ⟨S_, .i32⟩
  | 112 => ⟨S8192x20480, .i32⟩
  | 113 => ⟨S1x8192x20480, .i32⟩
  | 114 => ⟨S1x8192x1, .i32⟩
  | 115 => ⟨S1x8192x1, .i32⟩
  | 116 => ⟨S1x8192x20480, .i32⟩
  | 117 => ⟨S1x8192x20480, .i32⟩
  | 118 => ⟨S1x1x20480, .i32⟩
  | 119 => ⟨S1x8192x20480, .i32⟩
  | 120 => ⟨S1x8192x20480, .i32⟩
  | 121 => ⟨S1x8192x20480, .i32⟩
  | 122 => ⟨S_, .i32⟩
  | 123 => ⟨S1x8192x20480, .i32⟩
  | 124 => ⟨S1x8192x20480, .i32⟩
  | 125 => ⟨S_, .i32⟩
  | 126 => ⟨S1x8192x20480, .i32⟩
  | 127 => ⟨S1x8192x20480, .i32⟩
  | _ => ⟨S1x8192x16384, .i32⟩

abbrev hbmTy0_1 (i : Nat) : BufTy := match i % 128 with
  | 0 => ⟨S_, .i32⟩
  | 1 => ⟨S1x8192x20480, .i32⟩
  | 2 => ⟨S1x8192x20480, .i32⟩
  | 3 => ⟨S1x8192x20480, .i32⟩
  | 4 => ⟨S1x8192x20480, .i32⟩
  | 5 => ⟨S1x8192x20480, .i32⟩
  | 6 => ⟨S1x8192x20480, .i32⟩
  | 7 => ⟨S1x1x20480, .i32⟩
  | 8 => ⟨S1x8192x20480, .i32⟩
  | 9 => ⟨S1x8192x20480, .i32⟩
  | 10 => ⟨S1x8192x20480, .i32⟩
  | 11 => ⟨S_, .i32⟩
  | 12 => ⟨S1x8192x20480, .i32⟩
  | 13 => ⟨S1x8192x20480, .i32⟩
  | 14 => ⟨S_, .i32⟩
  | 15 => ⟨S1x8192x20480, .i32⟩
  | 16 => ⟨S1x8192x20480, .i32⟩
  | 17 => ⟨S_, .i32⟩
  | 18 => ⟨S1x8192x20480, .i32⟩
  | 19 => ⟨S1x8192x20480, .i32⟩
  | 20 => ⟨S1x8192x20480, .i32⟩
  | 21 => ⟨S1x8192x20480, .i32⟩
  | 22 => ⟨S_, .i32⟩
  | 23 => ⟨S_, .i32⟩
  | 24 => ⟨S_, .i32⟩
  | 25 => ⟨S1x8192x20480, .i32⟩
  | 26 => ⟨S1x8192x20480, .i32⟩
  | 27 => ⟨S_, .i32⟩
  | 28 => ⟨S1x8192x20480, .i32⟩
  | 29 => ⟨S1x8192x20480, .i32⟩
  | 30 => ⟨S_, .i32⟩
  | 31 => ⟨S_, .i32⟩
  | 32 => ⟨S_, .i32⟩
  | 33 => ⟨S1x8192x20480, .i32⟩
  | 34 => ⟨S1x8192x20480, .i32⟩
  | 35 => ⟨S_, .i32⟩
  | 36 => ⟨S1x8192x20480, .i32⟩
  | 37 => ⟨S1x8192x20480, .i32⟩
  | 38 => ⟨S1x8192x20480, .i32⟩
  | 39 => ⟨S_, .i32⟩
  | 40 => ⟨S1x8192x20480, .i32⟩
  | 41 => ⟨S1x8192x20480, .i32⟩
  | 42 => ⟨S1x8192x20480, .i32⟩
  | 43 => ⟨S_, .i32⟩
  | 44 => ⟨S1x8192x20480, .i32⟩
  | 45 => ⟨S1x8192x20480, .i32⟩
  | 46 => ⟨S1x8192x20480, .i32⟩
  | 47 => ⟨S_, .i32⟩
  | 48 => ⟨S1x8192x20480, .i32⟩
  | 49 => ⟨S1x8192x20480, .i32⟩
  | 50 => ⟨S_, .i32⟩
  | 51 => ⟨S1x8192x20480, .i32⟩
  | 52 => ⟨S1x8192x20480, .i32⟩
  | 53 => ⟨S_, .i32⟩
  | 54 => ⟨S1x8192x20480, .i32⟩
  | 55 => ⟨S1x8192x20480, .i32⟩
  | 56 => ⟨S_, .i32⟩
  | 57 => ⟨S1x8192x20480, .i32⟩
  | 58 => ⟨S1x8192x20480, .i32⟩
  | 59 => ⟨S1x8192x20480, .i32⟩
  | 60 => ⟨S_, .i32⟩
  | 61 => ⟨S1x8192x20480, .i32⟩
  | 62 => ⟨S1x8192x20480, .i1⟩
  | 63 => ⟨S_, .i32⟩
  | 64 => ⟨S_, .i32⟩
  | 65 => ⟨S1x8192x20480, .i32⟩
  | 66 => ⟨S1x8192x20480, .i32⟩
  | 67 => ⟨S1x8192x20480, .i32⟩
  | 68 => ⟨S_, .i32⟩
  | 69 => ⟨S1x8192x20480, .i32⟩
  | 70 => ⟨S1x8192x20480, .i32⟩
  | 71 => ⟨S_, .i32⟩
  | 72 => ⟨S1x8192x20480, .i32⟩
  | 73 => ⟨S1x8192x20480, .i32⟩
  | 74 => ⟨S1x8192x20480, .i32⟩
  | 75 => ⟨S1x8192x20480, .i32⟩
  | 76 => ⟨S1x8192x20480, .i32⟩
  | 77 => ⟨S1x8192x20480, .i32⟩
  | 78 => ⟨S1x8192x20480, .i1⟩
  | 79 => ⟨S1x8192x20480, .i32⟩
  | 80 => ⟨S_, .i32⟩
  | 81 => ⟨S1x8192x20480, .i32⟩
  | 82 => ⟨S1x8192x20480, .i1⟩
  | 83 => ⟨S1x8192x20480, .i1⟩
  | 84 => ⟨S_, .i32⟩
  | 85 => ⟨S1x8192x20480, .i32⟩
  | 86 => ⟨S1x8192x20480, .i32⟩
  | 87 => ⟨S1x8192x20480, .i32⟩
  | 88 => ⟨S1x8192x20480, .i32⟩
  | 89 => ⟨S_, .i32⟩
  | 90 => ⟨S_, .i32⟩
  | 91 => ⟨S_, .i32⟩
  | 92 => ⟨S_, .i32⟩
  | 93 => ⟨S_, .i32⟩
  | 94 => ⟨S1x8192x20480, .i32⟩
  | 95 => ⟨S1x8192x20480, .i32⟩
  | 96 => ⟨S_, .i32⟩
  | 97 => ⟨S1x8192x20480, .i32⟩
  | 98 => ⟨S1x8192x20480, .i32⟩
  | 99 => ⟨S1x8192x160x128, .i32⟩
  | 100 => ⟨S1x8192x160x128, .i32⟩
  | 101 => ⟨S_, .i32⟩
  | 102 => ⟨S1x8192x160, .i32⟩
  | 103 => ⟨S_, .i32⟩
  | 104 => ⟨S1x8192x160, .i32⟩
  | 105 => ⟨S1x8192x160, .i32⟩
  | 106 => ⟨S1x8192x160, .i32⟩
  | 107 => ⟨S_, .i32⟩
  | 108 => ⟨S1x8192x160, .i32⟩
  | 109 => ⟨S1x8192x160, .i32⟩
  | 110 => ⟨S_, .i32⟩
  | 111 => ⟨S1x8192x160, .i32⟩
  | 112 => ⟨S1x8192x160, .i32⟩
  | 113 => ⟨S1x8192x160, .i32⟩
  | 114 => ⟨S_, .i32⟩
  | 115 => ⟨S1x8192x160, .i32⟩
  | 116 => ⟨S1x8192x160, .i32⟩
  | 117 => ⟨S_, .i32⟩
  | 118 => ⟨S_, .i32⟩
  | 119 => ⟨S1x8192x160, .i32⟩
  | 120 => ⟨S1x8192x160, .i32⟩
  | 121 => ⟨S1x8192x160, .i32⟩
  | 122 => ⟨S_, .i32⟩
  | 123 => ⟨S1x8192x160, .i32⟩
  | 124 => ⟨S1x8192x160, .i1⟩
  | 125 => ⟨S1x8192x160, .i32⟩
  | 126 => ⟨S1x8192x160, .i32⟩
  | 127 => ⟨S_, .i32⟩
  | _ => ⟨S1x8192x16384, .i32⟩

abbrev hbmTy0_2 (i : Nat) : BufTy := match i % 128 with
  | 0 => ⟨S1x8192x160, .i32⟩
  | 1 => ⟨S1x8192x160, .i1⟩
  | 2 => ⟨S1x8192x160, .i1⟩
  | 3 => ⟨S_, .i32⟩
  | 4 => ⟨S1x8192x160, .i32⟩
  | 5 => ⟨S1x8192x160, .i32⟩
  | 6 => ⟨S1x8192x160, .i32⟩
  | 7 => ⟨S_, .i32⟩
  | 8 => ⟨S1x8192x160, .i32⟩
  | 9 => ⟨S1x8192x160, .i32⟩
  | 10 => ⟨S_, .i32⟩
  | 11 => ⟨S1x8192x160, .i32⟩
  | 12 => ⟨S1x8192x160, .i32⟩
  | 13 => ⟨S_, .i32⟩
  | 14 => ⟨S1x8192x160, .i32⟩
  | 15 => ⟨S1x8192x160, .i32⟩
  | 16 => ⟨S1x8192x160x1, .i32⟩
  | 17 => ⟨S1x8192x160x128, .i32⟩
  | 18 => ⟨S_, .i32⟩
  | 19 => ⟨S1x8192x160, .i32⟩
  | 20 => ⟨S1x8192x160, .i32⟩
  | 21 => ⟨S1x8192x160x1, .i32⟩
  | 22 => ⟨S1x8192x160x128, .i32⟩
  | 23 => ⟨S1x8192x160x128, .i32⟩
  | 24 => ⟨S_, .i32⟩
  | 25 => ⟨S1x8192x160x1, .i32⟩
  | 26 => ⟨S1x8192x160x1, .i32⟩
  | 27 => ⟨S1x8192x160x128, .i32⟩
  | 28 => ⟨S1x8192x160x128, .i32⟩
  | 29 => ⟨S1x8192x160x128, .i32⟩
  | 30 => ⟨S1x8192x160x128, .i32⟩
  | 31 => ⟨S1x8192x160x128, .i32⟩
  | 32 => ⟨S1x8192x160x1, .i32⟩
  | 33 => ⟨S1x8192x160x128, .i32⟩
  | 34 => ⟨S1x8192x160x128, .i1⟩
  | 35 => ⟨S1x8192x160x128, .i32⟩
  | 36 => ⟨S1x8192x160x128, .i32⟩
  | 37 => ⟨S_, .i32⟩
  | 38 => ⟨S1x8192x160x128, .i32⟩
  | 39 => ⟨S1x8192x160x128, .i1⟩
  | 40 => ⟨S1x8192x160x128, .i1⟩
  | 41 => ⟨S_, .i32⟩
  | 42 => ⟨S1x8192x160x128, .i32⟩
  | 43 => ⟨S1x8192x160x128, .i32⟩
  | 44 => ⟨S1x8192x160x128, .i32⟩
  | 45 => ⟨S1x8192x160x128, .i32⟩
  | 46 => ⟨S1x8192x160x128, .i32⟩
  | 47 => ⟨S_, .i32⟩
  | 48 => ⟨S_, .i32⟩
  | 49 => ⟨S_, .i32⟩
  | 50 => ⟨S1x8192x160x128, .i32⟩
  | 51 => ⟨S1x8192x160x128, .i32⟩
  | 52 => ⟨S_, .i32⟩
  | 53 => ⟨S1x8192x160x128, .i32⟩
  | 54 => ⟨S1x8192x160x128, .i32⟩
  | 55 => ⟨S1x8192x160x128, .i8⟩
  | 56 => ⟨S1x8192x160x128, .i8⟩
  | 57 => ⟨S1x8192x160, .i32⟩
  | 58 => ⟨S1x8192x160, .i32⟩
  | 59 => ⟨S1x8192x20480, .i8⟩
  | _ => ⟨S1x8192x16384, .i32⟩

abbrev hbmTy (i : Nat) : BufTy := match i / 128 with
  | 0 => hbmTy0_0 i
  | 1 => hbmTy0_1 i
  | 2 => hbmTy0_2 i
  | _ => ⟨S1x8192x16384, .i32⟩

abbrev bufTy : (tb : Table) → Fin (tcTables nBuf tb) → BufTy
  | .hbm, ⟨i, _⟩ => hbmTy i
  | _, _ => ⟨S1x8192x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v12 : Ref sig .tc := ⟨.hbm, 39, rfl⟩
abbrev main_c_5 : Ref sig .tc := ⟨.hbm, 40, rfl⟩
abbrev main_v13 : Ref sig .tc := ⟨.hbm, 41, rfl⟩
abbrev main_v14 : Ref sig .tc := ⟨.hbm, 42, rfl⟩
abbrev main_c_6 : Ref sig .tc := ⟨.hbm, 43, rfl⟩
abbrev main_v15 : Ref sig .tc := ⟨.hbm, 44, rfl⟩
abbrev main_v16 : Ref sig .tc := ⟨.hbm, 45, rfl⟩
abbrev main_c_7 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_8 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_9 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_c : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_c_0 : Ref sig .tc := ⟨.hbm, 74, rfl⟩
abbrev main_call1_v11 : Ref sig .tc := ⟨.hbm, 75, rfl⟩
abbrev main_call1_v12 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_10 : Ref sig .tc := ⟨.hbm, 80, rfl⟩
abbrev main_c_11 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v33 : Ref sig .tc := ⟨.hbm, 87, rfl⟩
abbrev main_v34 : Ref sig .tc := ⟨.hbm, 88, rfl⟩
abbrev main_v35_0 : Ref sig .tc := ⟨.hbm, 89, rfl⟩
abbrev main_v35_1 : Ref sig .tc := ⟨.hbm, 90, rfl⟩
abbrev main_v35_2 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_c_12 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_c_13 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_c_14 : Ref sig .tc := ⟨.hbm, 122, rfl⟩
abbrev main_v64 : Ref sig .tc := ⟨.hbm, 123, rfl⟩
abbrev main_v65 : Ref sig .tc := ⟨.hbm, 124, rfl⟩
abbrev main_c_15 : Ref sig .tc := ⟨.hbm, 125, rfl⟩
abbrev main_v66 : Ref sig .tc := ⟨.hbm, 126, rfl⟩
abbrev main_v67 : Ref sig .tc := ⟨.hbm, 127, rfl⟩
abbrev main_c_16 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_c_17 : Ref sig .tc := ⟨.hbm, 139, rfl⟩
abbrev main_v78 : Ref sig .tc := ⟨.hbm, 140, rfl⟩
abbrev main_v79 : Ref sig .tc := ⟨.hbm, 141, rfl⟩
abbrev main_c_18 : Ref sig .tc := ⟨.hbm, 142, rfl⟩
abbrev main_v80 : Ref sig .tc := ⟨.hbm, 143, rfl⟩
abbrev main_v81 : Ref sig .tc := ⟨.hbm, 144, rfl⟩
abbrev main_c_19 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_c_20 : Ref sig .tc := ⟨.hbm, 150, rfl⟩
abbrev main_c_21 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_v86 : Ref sig .tc := ⟨.hbm, 157, rfl⟩
abbrev main_c_22 : Ref sig .tc := ⟨.hbm, 158, rfl⟩
abbrev main_c_23 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_v87 : Ref sig .tc := ⟨.hbm, 165, rfl⟩
abbrev main_v88 : Ref sig .tc := ⟨.hbm, 166, rfl⟩
abbrev main_c_24 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_c_25 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_c_26 : Ref sig .tc := ⟨.hbm, 175, rfl⟩
abbrev main_v95 : Ref sig .tc := ⟨.hbm, 176, rfl⟩
abbrev main_v96 : Ref sig .tc := ⟨.hbm, 177, rfl⟩
abbrev main_c_27 : Ref sig .tc := ⟨.hbm, 178, rfl⟩
abbrev main_v97 : Ref sig .tc := ⟨.hbm, 179, rfl⟩
abbrev main_v98 : Ref sig .tc := ⟨.hbm, 180, rfl⟩
abbrev main_c_28 : Ref sig .tc := ⟨.hbm, 181, rfl⟩
abbrev main_v99 : Ref sig .tc := ⟨.hbm, 182, rfl⟩
abbrev main_v100 : Ref sig .tc := ⟨.hbm, 183, rfl⟩
abbrev main_c_29 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_c_30 : Ref sig .tc := ⟨.hbm, 188, rfl⟩
abbrev main_v104 : Ref sig .tc := ⟨.hbm, 189, rfl⟩
abbrev main_v105 : Ref sig .tc := ⟨.hbm, 190, rfl⟩
abbrev main_c_31 : Ref sig .tc := ⟨.hbm, 191, rfl⟩
abbrev main_call5_v0 : Ref sig .tc := ⟨.hbm, 192, rfl⟩
abbrev main_call5_v1 : Ref sig .tc := ⟨.hbm, 193, rfl⟩
abbrev main_v106 : Ref sig .tc := ⟨.hbm, 194, rfl⟩
abbrev main_v107 : Ref sig .tc := ⟨.hbm, 195, rfl⟩
abbrev main_c_32 : Ref sig .tc := ⟨.hbm, 196, rfl⟩
abbrev main_v108 : Ref sig .tc := ⟨.hbm, 197, rfl⟩
abbrev main_v109 : Ref sig .tc := ⟨.hbm, 198, rfl⟩
abbrev main_c_33 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_call6_v0 : Ref sig .tc := ⟨.hbm, 203, rfl⟩
abbrev main_call6_v1 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_call6_c : Ref sig .tc := ⟨.hbm, 208, rfl⟩
abbrev main_call6_v5 : Ref sig .tc := ⟨.hbm, 209, rfl⟩
abbrev main_call6_v6 : Ref sig .tc := ⟨.hbm, 210, rfl⟩
abbrev main_call6_v7 : Ref sig .tc := ⟨.hbm, 211, rfl⟩
abbrev main_call6_c_0 : Ref sig .tc := ⟨.hbm, 212, rfl⟩
abbrev main_call6_v8 : Ref sig .tc := ⟨.hbm, 213, rfl⟩
abbrev main_call6_v9 : Ref sig .tc := ⟨.hbm, 214, rfl⟩
abbrev main_v113 : Ref sig .tc := ⟨.hbm, 215, rfl⟩
abbrev main_v114 : Ref sig .tc := ⟨.hbm, 216, rfl⟩
abbrev main_c_34 : Ref sig .tc := ⟨.hbm, 217, rfl⟩
abbrev main_c_35 : Ref sig .tc := ⟨.hbm, 218, rfl⟩
abbrev main_v115 : Ref sig .tc := ⟨.hbm, 219, rfl⟩
abbrev main_c_36 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_c_37 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_c_38 : Ref sig .tc := ⟨.hbm, 229, rfl⟩
abbrev main_v123 : Ref sig .tc := ⟨.hbm, 230, rfl⟩
abbrev main_c_39 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_c_40 : Ref sig .tc := ⟨.hbm, 235, rfl⟩
abbrev main_v127 : Ref sig .tc := ⟨.hbm, 236, rfl⟩
abbrev main_v128 : Ref sig .tc := ⟨.hbm, 237, rfl⟩
abbrev main_c_41 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_c_42 : Ref sig .tc := ⟨.hbm, 242, rfl⟩
abbrev main_v132 : Ref sig .tc := ⟨.hbm, 243, rfl⟩
abbrev main_v133 : Ref sig .tc := ⟨.hbm, 244, rfl⟩
abbrev main_c_43 : Ref sig .tc := ⟨.hbm, 245, rfl⟩
abbrev main_call7_v0 : Ref sig .tc := ⟨.hbm, 246, rfl⟩
abbrev main_call7_v1 : Ref sig .tc := ⟨.hbm, 247, rfl⟩
abbrev main_call7_v2 : Ref sig .tc := ⟨.hbm, 248, rfl⟩
abbrev main_call7_v3 : Ref sig .tc := ⟨.hbm, 249, rfl⟩
abbrev main_call7_v4 : Ref sig .tc := ⟨.hbm, 250, rfl⟩
abbrev main_call7_v5 : Ref sig .tc := ⟨.hbm, 251, rfl⟩
abbrev main_call7_v6 : Ref sig .tc := ⟨.hbm, 252, rfl⟩
abbrev main_call7_v7 : Ref sig .tc := ⟨.hbm, 253, rfl⟩
abbrev main_call7_v8 : Ref sig .tc := ⟨.hbm, 254, rfl⟩
abbrev main_call7_c : Ref sig .tc := ⟨.hbm, 255, rfl⟩
abbrev main_call7_v9 : Ref sig .tc := ⟨.hbm, 256, rfl⟩
abbrev main_call7_v10 : Ref sig .tc := ⟨.hbm, 257, rfl⟩
abbrev main_call7_v11 : Ref sig .tc := ⟨.hbm, 258, rfl⟩
abbrev main_call7_c_0 : Ref sig .tc := ⟨.hbm, 259, rfl⟩
abbrev main_call7_v12 : Ref sig .tc := ⟨.hbm, 260, rfl⟩
abbrev main_call7_v13 : Ref sig .tc := ⟨.hbm, 261, rfl⟩
abbrev main_v134 : Ref sig .tc := ⟨.hbm, 262, rfl⟩
abbrev main_c_44 : Ref sig .tc := ⟨.hbm, 263, rfl⟩
abbrev main_v135 : Ref sig .tc := ⟨.hbm, 264, rfl⟩
abbrev main_v136 : Ref sig .tc := ⟨.hbm, 265, rfl⟩
abbrev main_c_45 : Ref sig .tc := ⟨.hbm, 266, rfl⟩
abbrev main_v137 : Ref sig .tc := ⟨.hbm, 267, rfl⟩
abbrev main_v138 : Ref sig .tc := ⟨.hbm, 268, rfl⟩
abbrev main_c_46 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_c_47 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_c_48 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_call8_v0 : Ref sig .tc := ⟨.hbm, 285, rfl⟩
abbrev main_call8_v1 : Ref sig .tc := ⟨.hbm, 286, rfl⟩
abbrev main_call8_v2 : Ref sig .tc := ⟨.hbm, 287, rfl⟩
abbrev main_call8_v3 : Ref sig .tc := ⟨.hbm, 288, rfl⟩
abbrev main_call8_v4 : Ref sig .tc := ⟨.hbm, 289, rfl⟩
abbrev main_call8_v5 : Ref sig .tc := ⟨.hbm, 290, rfl⟩
abbrev main_call8_v6 : Ref sig .tc := ⟨.hbm, 291, rfl⟩
abbrev main_call8_v7 : Ref sig .tc := ⟨.hbm, 292, rfl⟩
abbrev main_call8_c : Ref sig .tc := ⟨.hbm, 293, rfl⟩
abbrev main_call8_v8 : Ref sig .tc := ⟨.hbm, 294, rfl⟩
abbrev main_call8_v9 : Ref sig .tc := ⟨.hbm, 295, rfl⟩
abbrev main_call8_v10 : Ref sig .tc := ⟨.hbm, 296, rfl⟩
abbrev main_call8_c_0 : Ref sig .tc := ⟨.hbm, 297, rfl⟩
abbrev main_call8_v11 : Ref sig .tc := ⟨.hbm, 298, rfl⟩
abbrev main_call8_v12 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_c_49 : Ref sig .tc := ⟨.hbm, 303, rfl⟩
abbrev main_c_50 : Ref sig .tc := ⟨.hbm, 304, rfl⟩
abbrev main_call9_v0 : Ref sig .tc := ⟨.hbm, 305, rfl⟩
abbrev main_call9_v1 : Ref sig .tc := ⟨.hbm, 306, rfl⟩
abbrev main_call9_v2 : Ref sig .tc := ⟨.hbm, 307, rfl⟩
abbrev main_call9_v3 : Ref sig .tc := ⟨.hbm, 308, rfl⟩
abbrev main_call9_v4 : Ref sig .tc := ⟨.hbm, 309, rfl⟩
abbrev main_v155 : Ref sig .tc := ⟨.hbm, 310, rfl⟩
abbrev main_v156 : Ref sig .tc := ⟨.hbm, 311, rfl⟩
abbrev main_v157_0 : Ref sig .tc := ⟨.hbm, 312, rfl⟩
abbrev main_v157_1 : Ref sig .tc := ⟨.hbm, 313, rfl⟩
abbrev main_v157_2 : Ref sig .tc := ⟨.hbm, 314, rfl⟩
abbrev main_v158 : Ref sig .tc := ⟨.hbm, 315, rfl⟩

abbrev nD : Nat := 1
abbrev τ : Topo := Topo.v7x

variable {F : FTy → Type} [FloatOps F]
-- ==== Proof.KernelIdeal.QuantBody.lean ====
/- The body of the first kernel call (the row quantiser) as values: what one run of it leaves in its three
   output blocks, as functions of its input block alone. -/
module

public import proofs.«01_k».proof.Proof.Gen.KernelIdeal.Loops
public import proofs.«01_k».proof.Proof.Gen.KernelIdeal.Points
public import Idealize.ShloMosaic.Lib.VecWindow
public import Idealize.ShloMosaic.Lib.Pipeline.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## The values -/

/-- Column chunk `k` (512 wide) of an input block, as the first loop loads it. -/
def qChunk1 (X : Vec F S64x16384 .i32) (k : Fin k0_t1_loop.trips) : Vec F S64x512 .i32 :=
  View.ld X (Rect.unit (s := S64x16384) (k0_off1 k) S64x512.size (k0_off1_inb k))

/-- Column chunk `k` of an input block, as the second loop loads it. -/
def qChunk2 (X : Vec F S64x16384 .i32) (k : Fin k0_t2_loop.trips) : Vec F S64x512 .i32 :=
  View.ld X (Rect.unit (s := S64x16384) (k0_off2 k) S64x512.size (k0_off2_inb k))

/-- The running maximum of the absolute values over the first `k` chunks, lane by lane. -/
def qMax (X : Vec F S64x16384 .i32) : ℕ → IVec S64x512 32
  | 0 => k0_pay3
  | k + 1 => if h : k < k0_t1_loop.trips then k0_pay4 (F := F) (qMax X k) (qChunk1 X ⟨k, h⟩) else qMax X k

/-- The lane-wise maximum after all chunks. -/
def qAll (X : Vec F S64x16384 .i32) : IVec S64x512 32 := qMax X k0_t1_loop.trips

/-- The multiplier column a run leaves. -/
def qM (X : Vec F S64x16384 .i32) : Vec F S64x1 .i32 := k0_pay9 (F := F) (qAll X)

/-- The exponent column a run leaves. -/
def qK (X : Vec F S64x16384 .i32) : Vec F S64x1 .i32 := k0_pay1 (k0_pay7 (F := F) (qAll X))

/-- The code loop makes 32 trips. -/
theorem trips0_2 : k0_t2_loop.trips = 32 := rfl

/-- Which trip of the second loop stores column `y 1`. -/
def qTrip (y : S64x16384.Idx) : Fin k0_t2_loop.trips := ⟨(y 1).val / 512, by
  have h : (y 1).val < 16384 := (y 1).isLt
  have : k0_t2_loop.trips = 32 := trips0_2
  omega⟩

/-- Where inside that trip's chunk the element sits. -/
def qLane (y : S64x16384.Idx) : S64x512.Idx :=
  fun | ⟨0, _⟩ => ⟨(y 0).val, (y 0).isLt⟩ | ⟨1, _⟩ => ⟨(y 1).val % 512, Nat.mod_lt _ (by decide)⟩

/-- The code block a run leaves, element by element. -/
def qCodes (X : Vec F S64x16384 .i32) : Vec F S64x16384 .i8 := fun y =>
  k0_pay2 (k0_pay6 (F := F) (qAll X)) (k0_pay8 (F := F) (qAll X)) (qChunk2 X (qTrip y)) (qLane y)

/-! ## The loops -/

section
variable (𝒱 : Variants) (c : Dev nD) (bd : Option 𝒱.V) (i : grid0.Coords) (arg1 : Memref sig .tc .vmem S64x16384 .i32) (harg1 : arg1.IsWhole) (arg2 : Memref sig .tc .vmem S64x16384 .i8) (harg2 : arg2.IsWhole) (arg3 : Memref sig .tc .vmem S64x1 .i32) (harg3 : arg3.IsWhole) (arg4 : Memref sig .tc .vmem S64x1 .i32) (harg4 : arg4.IsWhole)

/-- The first loop's carried value is the running maximum. -/
theorem st_k0_t1_eq (X : BufTy.Contents (Elt F) arg1.view.ty) : ∀ k, k ≤ k0_t1_loop.trips →
    st_k0_t1 (F := F) 𝒱 c bd i arg1 harg1 arg2 harg2 arg3 harg3 arg4 harg4 X k0_pay3 k = qMax (arg1.view.read (Elt F) X) k
  | 0, _ => rfl
  | k + 1, h => by
    have hk : k < k0_t1_loop.trips := h
    rw [st_k0_t1_succ 𝒱 c bd i arg1 harg1 arg2 harg2 arg3 harg3 arg4 harg4 X k0_pay3 ⟨k, hk⟩,
      st_k0_t1_eq X k (Nat.le_of_lt hk)]
    unfold tripR_k0_t1 trip_k0_t1
    rw [qMax, dif_pos hk]
    rfl

/-- Trip `k` of the second loop offsets its store by `512 k` columns. -/
theorem k0_off2_eq (k : Fin k0_t2_loop.trips) : k0_off2 k = ![0, 512 * k.val] := by
  revert k; decide

/-- After the second loop's first `k` trips the columns below `512 k` hold the codes. -/
theorem pb_k0_t2_read (X : Vec F S64x16384 .i32) (v23 : IVec S64x1 32) (v38 : FVec F S64x1 .f32)
    (G : BufTy.Contents (Elt F) arg2.view.ty) : ∀ k, k ≤ k0_t2_loop.trips → ∀ y : S64x16384.Idx, (y 1).val < 512 * k →
    arg2.view.read (Elt F) (arg2.view.writes (Elt F) G (pb_k0_t2 (F := F) 𝒱 c bd i arg1 harg1 arg2 harg2 arg3 harg3 arg4 harg4 v23 v38 (harg1.unread X) k)) y
      = k0_pay2 v23 v38 (qChunk2 X (qTrip y)) (qLane y)
  | 0, _, y, hy => absurd hy (by omega)
  | k + 1, h, y, hy => by
    have hk : k < k0_t2_loop.trips := h
    rw [pb_k0_t2_succ 𝒱 c bd i arg1 harg1 arg2 harg2 arg3 harg3 arg4 harg4 v23 v38 _ ⟨k, hk⟩]
    unfold tripL_k0_t2 trip_k0_t2
    dsimp only
    rw [List.singleton_append, View.read_writes_cons_put _ _ _ _ _ (k0_off2_eq ⟨k, hk⟩)]
    unfold VecWindow.put
    have h0 : (y 0).val < 64 := (y 0).isLt
    by_cases hb : 512 * k ≤ (y 1).val
    · have ht : qTrip y = ⟨k, hk⟩ := Fin.ext (by show (y 1).val / 512 = k; omega)
      rw [dif_pos (by
        intro a
        match a with
        | ⟨0, _⟩ => exact ⟨Nat.zero_le _, by show (y 0).val < 0 + 64; omega⟩
        | ⟨1, _⟩ => exact ⟨hb, by show (y 1).val < 512 * k + 512; omega⟩)]
      rw [ht, View.readAt_eq_ld, harg1.read_unread]
      refine congrArg _ (funext fun a => ?_)
      match a with
      | ⟨0, _⟩ => exact Fin.ext (by show (y 0).val - 0 = (y 0).val; omega)
      | ⟨1, _⟩ => exact Fin.ext (by show (y 1).val - 512 * k = (y 1).val % 512; omega)
    · rw [dif_neg (by intro h'; exact hb (h' 1).1)]
      exact pb_k0_t2_read X v23 v38 G k (Nat.le_of_lt hk) y (by omega)

end

/-! ## The body's run -/

set_option maxHeartbeats 1000000 in
/-- The quantiser body's triple: on whole blocks, the input at `X` and the outputs at anything, it leaves the codes,
    the multipliers and the exponents of `X`. -/
theorem quantRun (c : Dev nD) (i : grid0.Coords) (arg1 : Memref sig .tc .vmem S64x16384 .i32) (harg1 : arg1.IsWhole) (arg2 : Memref sig .tc .vmem S64x16384 .i8) (harg2 : arg2.IsWhole) (arg3 : Memref sig .tc .vmem S64x1 .i32) (harg3 : arg3.IsWhole) (arg4 : Memref sig .tc .vmem S64x1 .i32) (harg4 : arg4.IsWhole)
    (X : Vec F S64x16384 .i32) :
      ∀ (E : Set ℕ) (K : PUnit → sProp (MT nD τ sig Unit (Elt F) ℕ (UR sig nD τ) ℕ)),
        iprop(owns (c : Thread nD τ) arg1 fullShare X ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare X ∗ owns (c : Thread nD τ) arg2 fullShare (qCodes X) ∗ owns (c : Thread nD τ) arg3 fullShare (qM X) ∗ owns (c : Thread nD τ) arg4 fullShare (qK X)) -∗ K ⟨⟩))
          ⊢ wp frame (wpE (defs₀ (F := F)) Variants.none c none) E (cc0_quant_x i arg1 harg1 arg2 harg2 arg3 harg3 arg4 harg4) K := by
    intro E K
    simp only [cc0_quant_x_eq_skeleton]; unfold cc0_quant_x_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg1.eq_unread hf0
    sl_exec
    sl_step
    have hst := st_k0_t1_eq (F := F) Variants.none c none i arg1 harg1 arg2 harg2 arg3 harg3 arg4 harg4 (harg1.unread X) k0_t1_loop.trips le_rfl
    rw [harg1.read_unread] at hst
    iapply Hk
    isplitl [H0]
    · iexists _; isplitr; · ipureintro; exact harg1.read_unread _
      iexact H0
    isplitl [H1]
    · iexists _; isplitr; swap; · iexact H1
      ipureintro
      funext y
      have hy : (y 1).val < 16384 := (y 1).isLt
      refine (pb_k0_t2_read Variants.none c none i arg1 harg1 arg2 harg2 arg3 harg3 arg4 harg4 X _ _ _ k0_t2_loop.trips le_rfl y (by rw [trips0_2]; omega)).trans ?_
      unfold qCodes qAll; rw [← hst]; rfl
    isplitl [H2]
    · iexists _; isplitr; swap; · iexact H2
      ipureintro
      refine (View.read_writes_full _ _ _ _ _).trans ?_
      unfold qM qAll; rw [← hst]; rfl
    iexists _; isplitr; swap; · iexact H3
    ipureintro
    refine (View.read_writes_full _ _ _ _ _).trans ?_
    unfold qK qAll; rw [← hst]; rfl

end Cert.KernelIdeal.Hand

end
-- ==== Proof.KernelIdeal.MmBody.lean ====
/- The body of the second kernel call (the two products, the activation, the group quantiser) as values: what one
   run of it leaves in its output blocks and its carried scratch, as functions of its input blocks. -/
module

public import proofs.«01_k».proof.Proof.Gen.KernelIdeal.Loops
public import proofs.«01_k».proof.Proof.Gen.KernelIdeal.Points
public import Idealize.ShloMosaic.Lib.VecWindow
public import Idealize.ShloMosaic.Lib.Pipeline.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## The accumulators -/

/-- Rows `1024 k` onward of a weight block: the weights of trip `k` of the first loop. -/
def wBlk (W : Vec F S16384x256 .i8) (k : Fin k1_t1_loop.trips) : Vec F S1024x256 .i8 :=
  View.ld W (Rect.unit (s := S16384x256) (k1_off1 k) S1024x256.size (k1_off1_inb k))

/-- Row block `q` (256 rows), column block `k` of the code block. -/
def xBlk (X : Vec F S1024x16384 .i8) (k : Fin k1_t1_loop.trips) : ℕ → Vec F S256x1024 .i8
  | 0 => View.ld X (Rect.unit (s := S1024x16384) (k1_off2 k) S256x1024.size (k1_off2_inb k))
  | 1 => View.ld X (Rect.unit (s := S1024x16384) (k1_off3 k) S256x1024.size (k1_off3_inb k))
  | 2 => View.ld X (Rect.unit (s := S1024x16384) (k1_off4 k) S256x1024.size (k1_off4_inb k))
  | _ => View.ld X (Rect.unit (s := S1024x16384) (k1_off5 k) S256x1024.size (k1_off5_inb k))

/-- Row block `q` (256 rows) of an accumulator. -/
def aBlk (A : Vec F S1024x256 .i32) : ℕ → Vec F S256x256 .i32
  | 0 => View.ld A (Rect.unit (s := S1024x256) ![0, 0] S256x256.size inb_S1024x256_S256x256_0_0)
  | 1 => View.ld A (Rect.unit (s := S1024x256) ![256, 0] S256x256.size inb_S1024x256_S256x256_256_0)
  | 2 => View.ld A (Rect.unit (s := S1024x256) ![512, 0] S256x256.size inb_S1024x256_S256x256_512_0)
  | _ => View.ld A (Rect.unit (s := S1024x256) ![768, 0] S256x256.size inb_S1024x256_S256x256_768_0)

/-- Where an element sits inside its row block of 256. -/
def lane256 (y : S1024x256.Idx) : S256x256.Idx :=
  fun | ⟨0, _⟩ => ⟨(y 0).val % 256, Nat.mod_lt _ (by decide)⟩ | ⟨1, _⟩ => ⟨(y 1).val, (y 1).isLt⟩

/-- An accumulator after `k` trips of the first loop, from its contents `A` before: row block by row block, the
    block's product added (trip 0 starts from zero). -/
def accN (X : Vec F S1024x16384 .i8) (W : Vec F S16384x256 .i8) (A : Vec F S1024x256 .i32) : ℕ → Vec F S1024x256 .i32
  | 0 => A
  | k + 1 => if h : k < k1_t1_loop.trips then fun y =>
      k1_pay9 0#32 1#32 ⟨k, h⟩ (wBlk W ⟨k, h⟩) (xBlk X ⟨k, h⟩ ((y 0).val / 256)) (aBlk (accN X W A k) ((y 0).val / 256)) (lane256 y)
    else accN X W A k

/-- An accumulator after the whole first loop. -/
def acc (X : Vec F S1024x16384 .i8) (W : Vec F S16384x256 .i8) : Vec F S1024x256 .i32 :=
  accN X W (fun _ => 0#32) k1_t1_loop.trips

/-- Four stores of row blocks of 256, read at an element: the store of its row block. -/
theorem read_four {e : EltTy} (v : View sig .tc .vmem S1024x256 e) (f : v.ty.Contents (Elt F)) (p : ℕ → Vec F S256x256 e)
    (w0 w1 w2 w3 : Vec F S256x256 e) (L : List (View.Piece (Elt F) S1024x256 e)) (y : S1024x256.Idx)
    (e0 : w0 = p 0) (e1 : w1 = p 1) (e2 : w2 = p 2) (e3 : w3 = p 3) :
    v.read (Elt F) (v.writes (Elt F) f
      (⟨Rect.unit (s := S1024x256) ![768, 0] S256x256.size inb_S1024x256_S256x256_768_0, w3⟩
        :: ⟨Rect.unit (s := S1024x256) ![512, 0] S256x256.size inb_S1024x256_S256x256_512_0, w2⟩
        :: ⟨Rect.unit (s := S1024x256) ![256, 0] S256x256.size inb_S1024x256_S256x256_256_0, w1⟩
        :: ⟨Rect.unit (s := S1024x256) ![0, 0] S256x256.size inb_S1024x256_S256x256_0_0, w0⟩ :: L)) y
      = p ((y 0).val / 256) (lane256 y) := by
  subst e0 e1 e2 e3
  rw [View.read_writes_cons_put _ _ _ _ _ rfl, View.read_writes_cons_put _ _ _ _ _ rfl,
    View.read_writes_cons_put _ _ _ _ _ rfl, View.read_writes_cons_put _ _ _ _ _ rfl]
  have h0 : (y 0).val < 1024 := (y 0).isLt
  have h1 : (y 1).val < 256 := (y 1).isLt
  have hit : ∀ (q : ℕ) (g : S1024x256.Idx → Elt F e) (w : Vec F S256x256 e), (y 0).val / 256 = q →
      VecWindow.put (s := S1024x256) g ![256 * q, 0] S256x256.size w y = w (lane256 y) := by
    intro q g w hq
    unfold VecWindow.put
    rw [dif_pos (by
      intro a
      match a with
      | ⟨0, _⟩ => exact ⟨by show 256 * q ≤ (y 0).val; omega, by show (y 0).val < 256 * q + 256; omega⟩
      | ⟨1, _⟩ => exact ⟨Nat.zero_le _, by show (y 1).val < 0 + 256; omega⟩)]
    refine congrArg w (funext fun a => ?_)
    match a with
    | ⟨0, _⟩ => exact Fin.ext (by show (y 0).val - 256 * q = (y 0).val % 256; omega)
    | ⟨1, _⟩ => exact Fin.ext (by show (y 1).val - 0 = (y 1).val; omega)
  have miss : ∀ (q : ℕ) (g : S1024x256.Idx → Elt F e) (w : Vec F S256x256 e), (y 0).val / 256 ≠ q →
      VecWindow.put (s := S1024x256) g ![256 * q, 0] S256x256.size w y = g y := by
    intro q g w hq
    unfold VecWindow.put
    rw [dif_neg (by
      intro h
      have := h 0
      have h2 : 256 * q ≤ (y 0).val := this.1
      have h3 : (y 0).val < 256 * q + 256 := this.2
      omega)]
  have hq : (y 0).val / 256 = 0 ∨ (y 0).val / 256 = 1 ∨ (y 0).val / 256 = 2 ∨ (y 0).val / 256 = 3 := by omega
  rcases hq with hq | hq | hq | hq
  · rw [miss 3 _ _ (by omega), miss 2 _ _ (by omega), miss 1 _ _ (by omega), hit 0 _ _ hq, hq]
  · rw [miss 3 _ _ (by omega), miss 2 _ _ (by omega), hit 1 _ _ hq, hq]
  · rw [miss 3 _ _ (by omega), hit 2 _ _ hq, hq]
  · rw [hit 3 _ _ hq, hq]

/-- One trip of the first loop. -/
theorem accN_succ (X : Vec F S1024x16384 .i8) (W : Vec F S16384x256 .i8) (A : Vec F S1024x256 .i32) (k : ℕ) (h : k < k1_t1_loop.trips) :
    accN X W A (k + 1) = fun y =>
      k1_pay9 0#32 1#32 ⟨k, h⟩ (wBlk W ⟨k, h⟩) (xBlk X ⟨k, h⟩ ((y 0).val / 256)) (aBlk (accN X W A k) ((y 0).val / 256)) (lane256 y) :=
  dif_pos h

/-- Trip 0 starts from zero, whatever the accumulator held. -/
theorem accN_one (X : Vec F S1024x16384 .i8) (W : Vec F S16384x256 .i8) (A B : Vec F S1024x256 .i32) :
    accN X W A 1 = accN X W B 1 := by
  rw [accN_succ X W A 0 (by decide), accN_succ X W B 0 (by decide)]
  funext y
  rfl

/-- An accumulator after at least one trip does not depend on what it held before the loop. -/
theorem accN_congr (X : Vec F S1024x16384 .i8) (W : Vec F S16384x256 .i8) (A B : Vec F S1024x256 .i32) (k : ℕ) :
    k + 1 ≤ k1_t1_loop.trips → accN X W A (k + 1) = accN X W B (k + 1) := by
  induction k with
  | zero => exact fun _ => accN_one X W A B
  | succ k ih =>
    intro h
    rw [accN_succ X W A (k + 1) h, accN_succ X W B (k + 1) h, ih (Nat.le_of_lt h)]

/-! ## The epilogue -/

/-- Rows `32 k` onward of a one-column block. -/
def col32 (M : Vec F S1024x1 .i32) (k : Fin k1_t2_loop.trips) : Vec F S32x1 .i32 :=
  View.ld M (Rect.unit (s := S1024x1) (k1_off6 k) S32x1.size (k1_off6_inb k))

/-- Rows `32 k` onward of a wide block. -/
def row32 {e : EltTy} (A : Vec F S1024x256 e) (k : Fin k1_t2_loop.trips) : Vec F S32x256 e :=
  View.ld A (Rect.unit (s := S1024x256) (k1_off7 k) S32x256.size (k1_off7_inb k))

/-- The whole of a one-row block. -/
def row1 (G : Vec F S1x256 .i32) : Vec F S1x256 .i32 :=
  View.ld G (Rect.unit (s := S1x256) ![0, 0] S1x256.size inb_S1x256_S1x256_0_0)

/-- The scaled and clipped gate of trip `k`. -/
def eGate (M K : Vec F S1024x1 .i32) (Ge : Vec F S1x256 .i32) (Ag : Vec F S1024x256 .i32) (k : Fin k1_t2_loop.trips) : FVec F S32x256 .f32 :=
  k1_pay22 (col32 M k) (col32 K k) (row32 Ag k) (row1 Ge)

/-- The scaled and clipped up-projection of trip `k`. -/
def eUp (M K : Vec F S1024x1 .i32) (Ue : Vec F S1x256 .i32) (Au : Vec F S1024x256 .i32) (k : Fin k1_t2_loop.trips) : FVec F S32x256 .f32 :=
  k1_pay23 (k1_pay20 (col32 M k)) (k1_pay21 (col32 K k)) (row32 Au k) (row1 Ue)

/-- The constant one quarter. -/
def quarter : F .f32 := Scalar.ofBits .f32 0x3E800000#32

/-- The hidden values from a gate and an up-projection. -/
def hid (g u : FVec F S32x256 .f32) : FVec F S32x256 .f32 := k1_pay27 g u (k1_pay25 g) (k1_pay26 g) quarter

/-- The 32-row code block from a gate and an up-projection. -/
def hcBlk (g u : FVec F S32x256 .f32) : Vec F S32x256 .i8 :=
  k1_pay41 (k1_pay32 (k1_pay28 g u (k1_pay25 g) (k1_pay26 g) quarter) (k1_pay30 g u (k1_pay25 g) (k1_pay26 g) quarter)
      (k1_pay31 g u (k1_pay25 g) (k1_pay26 g) quarter))
    (k1_pay34 (hid g u)) (k1_pay38 (hid g u)) (k1_pay39 (hid g u))

/-- The 32 rows of the maxima's scratch after block column `n` has put its two columns in. -/
def amBlk (n : BitVec 32) (g u : FVec F S32x256 .f32) (S : Vec F S32x256 .f32) : Vec F S32x256 .f32 :=
  k1_pay40 n (iota .tc S32x256 32 [1] iota_S32x256_d1_w32)
    (k1_pay33 n (iota .tc S32x256 32 [1] iota_S32x256_d1_w32) S (k1_pay29 g u (k1_pay25 g) (k1_pay26 g) quarter))
    (k1_pay35 (hid g u))

/-- The epilogue loop makes 32 trips. -/
theorem trips1_2 : k1_t2_loop.trips = 32 := rfl
/-- The product loop makes 16 trips. -/
theorem trips1_1 : k1_t1_loop.trips = 16 := rfl

/-- Which trip of the second loop handles a row. -/
def trip32 (y : S1024x256.Idx) : Fin k1_t2_loop.trips := ⟨(y 0).val / 32, by
  have h : (y 0).val < 1024 := (y 0).isLt
  have := trips1_2
  omega⟩

/-- Where an element sits inside its 32 rows. -/
def lane32 (y : S1024x256.Idx) : S32x256.Idx :=
  fun | ⟨0, _⟩ => ⟨(y 0).val % 32, Nat.mod_lt _ (by decide)⟩ | ⟨1, _⟩ => ⟨(y 1).val, (y 1).isLt⟩

/-- The whole code block a run leaves. -/
def hcOut (M K : Vec F S1024x1 .i32) (Ge Ue : Vec F S1x256 .i32) (Ag Au : Vec F S1024x256 .i32) : Vec F S1024x256 .i8 := fun y =>
  hcBlk (eGate M K Ge Ag (trip32 y)) (eUp M K Ue Au (trip32 y)) (lane32 y)

/-- The maxima's scratch a run leaves, from its contents before the second loop. -/
def amOut (n : BitVec 32) (M K : Vec F S1024x1 .i32) (Ge Ue : Vec F S1x256 .i32) (Ag Au : Vec F S1024x256 .i32) (S : Vec F S1024x256 .f32) : Vec F S1024x256 .f32 := fun y =>
  amBlk n (eGate M K Ge Ag (trip32 y)) (eUp M K Ue Au (trip32 y)) (row32 S (trip32 y)) (lane32 y)

/-- Trip `k` of the second loop works on the rows from `32 k`. -/
theorem k1_off7_eq (k : Fin k1_t2_loop.trips) : k1_off7 k = ![32 * k.val, 0] := by
  revert k; decide

/-- A store of 32 rows at trip `k`, read at an element of those rows. -/
theorem put32_hit {e : EltTy} (g : Vec F S1024x256 e) (w : Vec F S32x256 e) (k : ℕ) (hk : k < k1_t2_loop.trips) (y : S1024x256.Idx)
    (hy : (y 0).val / 32 = k) :
    VecWindow.put (s := S1024x256) g ![32 * k, 0] S32x256.size w y = w (lane32 y) := by
  have h1 : (y 1).val < 256 := (y 1).isLt
  unfold VecWindow.put
  rw [dif_pos (by
    intro a
    match a with
    | ⟨0, _⟩ => exact ⟨by show 32 * k ≤ (y 0).val; omega, by show (y 0).val < 32 * k + 32; omega⟩
    | ⟨1, _⟩ => exact ⟨Nat.zero_le _, by show (y 1).val < 0 + 256; omega⟩)]
  refine congrArg w (funext fun a => ?_)
  match a with
  | ⟨0, _⟩ => exact Fin.ext (by show (y 0).val - 32 * k = (y 0).val % 32; omega)
  | ⟨1, _⟩ => exact Fin.ext (by show (y 1).val - 0 = (y 1).val; omega)

/-- The same store, read elsewhere. -/
theorem put32_miss {e : EltTy} (g : Vec F S1024x256 e) (w : Vec F S32x256 e) (k : ℕ) (y : S1024x256.Idx)
    (hy : (y 0).val / 32 ≠ k) :
    VecWindow.put (s := S1024x256) g ![32 * k, 0] S32x256.size w y = g y := by
  unfold VecWindow.put
  rw [dif_neg (by
    intro h
    have h2 : 32 * k ≤ (y 0).val := (h 0).1
    have h3 : (y 0).val < 32 * k + 32 := (h 0).2
    omega)]

/-- Rows of trip `k` read the same from two blocks that agree on them. -/
theorem row32_congr {e : EltTy} (A B : Vec F S1024x256 e) (k : Fin k1_t2_loop.trips)
    (h : ∀ y : S1024x256.Idx, 32 * k.val ≤ (y 0).val → A y = B y) : row32 A k = row32 B k := by
  funext x
  refine h _ ?_
  show 32 * k.val ≤ k1_off7 k 0 + 1 * (x 0).val
  rw [k1_off7_eq]
  show 32 * k.val ≤ 32 * k.val + 1 * (x 0).val
  omega

section
variable (𝒱 : Variants) (c : Dev nD) (bd : Option 𝒱.V) (i : grid1.Coords) (arg2 : Memref sig .tc .vmem S1024x16384 .i8) (harg2 : arg2.IsWhole) (arg3 : Memref sig .tc .vmem S16384x256 .i8) (harg3 : arg3.IsWhole) (arg4 : Memref sig .tc .vmem S16384x256 .i8) (harg4 : arg4.IsWhole) (arg5 : Memref sig .tc .vmem S1024x1 .i32) (harg5 : arg5.IsWhole) (arg6 : Memref sig .tc .vmem S1024x1 .i32) (harg6 : arg6.IsWhole)
 (arg7 : Memref sig .tc .vmem S1x256 .i32) (harg7 : arg7.IsWhole) (arg8 : Memref sig .tc .vmem S1x256 .i32) (harg8 : arg8.IsWhole)
 (arg9 : Memref sig .tc .vmem S1024x256 .i8) (harg9 : arg9.IsWhole) (arg10 : Memref sig .tc .vmem S1024x160 .i32) (harg10 : arg10.IsWhole) (arg11 : Memref sig .tc .vmem S1024x160 .i32) (harg11 : arg11.IsWhole)
 (arg12 : Memref sig .tc .vmem S1024x256 .i32) (harg12 : arg12.IsWhole) (arg13 : Memref sig .tc .vmem S1024x256 .i32) (harg13 : arg13.IsWhole) (arg14 : Memref sig .tc .vmem S1024x256 .f32) (harg14 : arg14.IsWhole)

/-- After `k` trips of the first loop the two accumulators hold `accN`. -/
theorem pb_k1_t1_read (X2 : Vec F S1024x16384 .i8) (X3 X4 : Vec F S16384x256 .i8) (G12 : BufTy.Contents (Elt F) arg12.view.ty) (G13 : BufTy.Contents (Elt F) arg13.view.ty) :
    ∀ k, k ≤ k1_t1_loop.trips →
    arg12.view.read (Elt F) (arg12.view.writes (Elt F) G12 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg2.unread X2) (harg3.unread X3) (harg4.unread X4) G12 G13 k).1)
      = accN X2 X3 (arg12.view.read (Elt F) G12) k
    ∧ arg13.view.read (Elt F) (arg13.view.writes (Elt F) G13 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg2.unread X2) (harg3.unread X3) (harg4.unread X4) G12 G13 k).2)
      = accN X2 X4 (arg13.view.read (Elt F) G13) k
  | 0, _ => ⟨rfl, rfl⟩
  | k + 1, h => by
    have hk : k < k1_t1_loop.trips := h
    obtain ⟨ih1, ih2⟩ := pb_k1_t1_read X2 X3 X4 G12 G13 k (Nat.le_of_lt hk)
    rw [pb_k1_t1_succ 𝒱 c bd i arg2 harg2 arg3 harg3 arg4 harg4 arg5 harg5 arg6 harg6 arg7 harg7 arg8 harg8 arg9 harg9 arg10 harg10 arg11 harg11 arg12 harg12 arg13 harg13 arg14 harg14 _ _ _ G12 G13 ⟨k, hk⟩]
    unfold tripL_k1_t1 trip_k1_t1
    dsimp only
    have r2 := harg2.read_unread (Val := Elt F) X2
    have r3 := harg3.read_unread (Val := Elt F) X3
    have r4 := harg4.read_unread (Val := Elt F) X4
    generalize harg2.unread X2 = Y2 at *
    generalize harg3.unread X3 = Y3 at *
    generalize harg4.unread X4 = Y4 at *
    constructor
    · funext y
      rw [accN_succ _ _ _ k hk]
      simp only [List.cons_append, List.nil_append]
      refine read_four arg12.view G12 (fun q => k1_pay9 0#32 1#32 ⟨k, hk⟩ (wBlk X3 ⟨k, hk⟩) (xBlk X2 ⟨k, hk⟩ q)
        (aBlk (accN X2 X3 (arg12.view.read (Elt F) G12) k) q)) _ _ _ _ _ y ?_ ?_ ?_ ?_ <;>
      · rw [← ih1, ← r2, ← r3]
        rfl
    · funext y
      rw [accN_succ _ _ _ k hk]
      simp only [List.cons_append, List.nil_append]
      refine read_four arg13.view G13 (fun q => k1_pay9 0#32 1#32 ⟨k, hk⟩ (wBlk X4 ⟨k, hk⟩) (xBlk X2 ⟨k, hk⟩ q)
        (aBlk (accN X2 X4 (arg13.view.read (Elt F) G13) k) q)) _ _ _ _ _ y ?_ ?_ ?_ ?_ <;>
      · rw [← ih2, ← r2, ← r4]
        rfl

/-- After `k` trips of the second loop the rows below `32 k` hold the codes, and the maxima's scratch its new rows;
    the scratch's later rows are as they were. -/
theorem pb_k1_t2_read (n : BitVec 32) (X5 X6 : Vec F S1024x1 .i32) (X7 X8 : Vec F S1x256 .i32)
    (Y12 : BufTy.Contents (Elt F) arg12.view.ty) (Y13 : BufTy.Contents (Elt F) arg13.view.ty) (G9 : BufTy.Contents (Elt F) arg9.view.ty) (G14 : BufTy.Contents (Elt F) arg14.view.ty) :
    ∀ k, k ≤ k1_t2_loop.trips → ∀ y : S1024x256.Idx,
    ((y 0).val < 32 * k → arg9.view.read (Elt F) (arg9.view.writes (Elt F) G9 (pb_k1_t2 (F := F) 𝒱 c bd i arg2 harg2 arg3 harg3 arg4 harg4 arg5 harg5 arg6 harg6 arg7 harg7 arg8 harg8 arg9 harg9 arg10 harg10 arg11 harg11 arg12 harg12 arg13 harg13 arg14 harg14 n (harg5.unread X5) (harg6.unread X6) (harg7.unread X7) (harg8.unread X8) Y12 Y13 G9 G14 k).1) y
      = hcOut X5 X6 X7 X8 (arg12.view.read (Elt F) Y12) (arg13.view.read (Elt F) Y13) y)
    ∧ arg14.view.read (Elt F) (arg14.view.writes (Elt F) G14 (pb_k1_t2 (F := F) 𝒱 c bd i arg2 harg2 arg3 harg3 arg4 harg4 arg5 harg5 arg6 harg6 arg7 harg7 arg8 harg8 arg9 harg9 arg10 harg10 arg11 harg11 arg12 harg12 arg13 harg13 arg14 harg14 n (harg5.unread X5) (harg6.unread X6) (harg7.unread X7) (harg8.unread X8) Y12 Y13 G9 G14 k).2) y
      = if (y 0).val < 32 * k then amOut n X5 X6 X7 X8 (arg12.view.read (Elt F) Y12) (arg13.view.read (Elt F) Y13) (arg14.view.read (Elt F) G14) y
        else arg14.view.read (Elt F) G14 y
  | 0, _, y => ⟨fun h => absurd h (by omega), by rw [if_neg (by omega)]; rfl⟩
  | k + 1, h, y => by
    have hk : k < k1_t2_loop.trips := h
    have ih := pb_k1_t2_read n X5 X6 X7 X8 Y12 Y13 G9 G14 k (Nat.le_of_lt hk)
    rw [pb_k1_t2_succ 𝒱 c bd i arg2 harg2 arg3 harg3 arg4 harg4 arg5 harg5 arg6 harg6 arg7 harg7 arg8 harg8 arg9 harg9 arg10 harg10 arg11 harg11 arg12 harg12 arg13 harg13 arg14 harg14 n _ _ _ _ Y12 Y13 G9 G14 ⟨k, hk⟩]
    unfold tripL_k1_t2 trip_k1_t2
    dsimp only
    have r5 := harg5.read_unread (Val := Elt F) X5
    have r6 := harg6.read_unread (Val := Elt F) X6
    have r7 := harg7.read_unread (Val := Elt F) X7
    have r8 := harg8.read_unread (Val := Elt F) X8
    have hrow : row32 (arg14.view.read (Elt F) (arg14.view.writes (Elt F) G14 (pb_k1_t2 (F := F) 𝒱 c bd i arg2 harg2 arg3 harg3 arg4 harg4 arg5 harg5 arg6 harg6 arg7 harg7 arg8 harg8 arg9 harg9 arg10 harg10 arg11 harg11 arg12 harg12 arg13 harg13 arg14 harg14 n (harg5.unread X5) (harg6.unread X6) (harg7.unread X7) (harg8.unread X8) Y12 Y13 G9 G14 k).2)) ⟨k, hk⟩
        = row32 (arg14.view.read (Elt F) G14) ⟨k, hk⟩ :=
      row32_congr _ _ _ fun z hz => by
        have hz' : 32 * k ≤ (z 0).val := hz
        rw [(ih z).2, if_neg (by omega)]
    generalize harg5.unread X5 = Y5 at *
    generalize harg6.unread X6 = Y6 at *
    generalize harg7.unread X7 = Y7 at *
    generalize harg8.unread X8 = Y8 at *
    constructor
    · intro hy
      rw [List.singleton_append, View.read_writes_cons_put _ _ _ _ _ (k1_off7_eq ⟨k, hk⟩)]
      by_cases hb : (y 0).val / 32 = k
      · refine (put32_hit _ _ k hk y hb).trans ?_
        have ht : trip32 y = ⟨k, hk⟩ := Fin.ext hb
        unfold hcOut
        rw [ht, ← r5, ← r6, ← r7, ← r8]
        rfl
      · refine (put32_miss _ _ k y hb).trans ?_
        exact (ih y).1 (by omega)
    · rw [List.singleton_append, View.read_writes_cons_put _ _ _ _ _ (k1_off7_eq ⟨k, hk⟩)]
      by_cases hb : (y 0).val / 32 = k
      · refine (put32_hit _ _ k hk y hb).trans ?_
        have ht : trip32 y = ⟨k, hk⟩ := Fin.ext hb
        rw [if_pos (by omega)]
        unfold amOut
        rw [ht, ← hrow, ← r5, ← r6, ← r7, ← r8]
        rfl
      · refine (put32_miss _ _ k y hb).trans ?_
        rw [(ih y).2]
        by_cases hlt : (y 0).val < 32 * k
        · rw [if_pos hlt, if_pos (by omega)]
        · rw [if_neg hlt, if_neg (by omega)]

end

end Cert.KernelIdeal.Hand

end
-- ==== Proof.KernelIdeal.MmRun.lean ====
/- One run of the second call's body, as a triple: its inputs and what its scratch held, to what it leaves. -/
module

public import proofs.«01_k».proof.Proof.KernelIdeal.MmBody
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The condition "this is block column 0", as the kernel computes it. -/
def firstCol (i : grid1.Coords) : BitVec 1 :=
  Scalar.cmpi .ne ((Scalar.extui (Scalar.cmpi .eq (BitVec.ofNat 32 (i 1).val) 0#32) : BitVec 32)) 0#32

/-- The block column, as a word. -/
def nW (i : grid1.Coords) : BitVec 32 := BitVec.ofNat 32 (i 1).val

/-- The maxima's scratch a run leaves, from what it found there: column 0 starts it afresh. -/
def amNext (i : grid1.Coords) (X2 : Vec F S1024x16384 .i8) (X3 X4 : Vec F S16384x256 .i8) (X5 X6 : Vec F S1024x1 .i32) (X7 X8 : Vec F S1x256 .i32)
    (S : Vec F S1024x256 .f32) : Vec F S1024x256 .f32 :=
  amOut (nW i) X5 X6 X7 X8 (acc X2 X3) (acc X2 X4) (if firstCol i = 1#1 then k1_pay2 else S)

/-- The code block a run leaves. -/
def hcNext (X2 : Vec F S1024x16384 .i8) (X3 X4 : Vec F S16384x256 .i8) (X5 X6 : Vec F S1024x1 .i32) (X7 X8 : Vec F S1x256 .i32) : Vec F S1024x256 .i8 :=
  hcOut X5 X6 X7 X8 (acc X2 X3) (acc X2 X4)

/-- The first loop run from any accumulator contents leaves `acc`. -/
theorem accN_trips (X : Vec F S1024x16384 .i8) (W : Vec F S16384x256 .i8) (A : Vec F S1024x256 .i32) :
    accN X W A k1_t1_loop.trips = acc X W :=
  accN_congr X W A (fun _ => 0#32) 15 (by decide)

section
variable (𝒱 : Variants) (c : Dev nD) (bd : Option 𝒱.V) (i : grid1.Coords) (arg2 : Memref sig .tc .vmem S1024x16384 .i8) (harg2 : arg2.IsWhole) (arg3 : Memref sig .tc .vmem S16384x256 .i8) (harg3 : arg3.IsWhole) (arg4 : Memref sig .tc .vmem S16384x256 .i8) (harg4 : arg4.IsWhole) (arg5 : Memref sig .tc .vmem S1024x1 .i32) (harg5 : arg5.IsWhole) (arg6 : Memref sig .tc .vmem S1024x1 .i32) (harg6 : arg6.IsWhole)
 (arg7 : Memref sig .tc .vmem S1x256 .i32) (harg7 : arg7.IsWhole) (arg8 : Memref sig .tc .vmem S1x256 .i32) (harg8 : arg8.IsWhole)
 (arg9 : Memref sig .tc .vmem S1024x256 .i8) (harg9 : arg9.IsWhole) (arg10 : Memref sig .tc .vmem S1024x160 .i32) (harg10 : arg10.IsWhole) (arg11 : Memref sig .tc .vmem S1024x160 .i32) (harg11 : arg11.IsWhole)
 (arg12 : Memref sig .tc .vmem S1024x256 .i32) (harg12 : arg12.IsWhole) (arg13 : Memref sig .tc .vmem S1024x256 .i32) (harg13 : arg13.IsWhole) (arg14 : Memref sig .tc .vmem S1024x256 .f32) (harg14 : arg14.IsWhole)

/-- The maxima's scratch after the whole second loop. -/
theorem am_read (n : BitVec 32) (X5 X6 : Vec F S1024x1 .i32) (X7 X8 : Vec F S1x256 .i32)
    (Y12 : BufTy.Contents (Elt F) arg12.view.ty) (Y13 : BufTy.Contents (Elt F) arg13.view.ty) (G9 : BufTy.Contents (Elt F) arg9.view.ty) (G14 : BufTy.Contents (Elt F) arg14.view.ty) :
    arg14.view.read (Elt F) (arg14.view.writes (Elt F) G14 (pb_k1_t2 (F := F) 𝒱 c bd i arg2 harg2 arg3 harg3 arg4 harg4 arg5 harg5 arg6 harg6 arg7 harg7 arg8 harg8 arg9 harg9 arg10 harg10 arg11 harg11 arg12 harg12 arg13 harg13 arg14 harg14 n (harg5.unread X5) (harg6.unread X6) (harg7.unread X7) (harg8.unread X8) Y12 Y13 G9 G14 k1_t2_loop.trips).2)
      = amOut n X5 X6 X7 X8 (arg12.view.read (Elt F) Y12) (arg13.view.read (Elt F) Y13) (arg14.view.read (Elt F) G14) := by
  funext y
  have hy : (y 0).val < 1024 := (y 0).isLt
  have h := pb_k1_t2_read (F := F) 𝒱 c bd i arg2 harg2 arg3 harg3 arg4 harg4 arg5 harg5 arg6 harg6 arg7 harg7 arg8 harg8 arg9 harg9 arg10 harg10 arg11 harg11 arg12 harg12 arg13 harg13 arg14 harg14 n X5 X6 X7 X8 Y12 Y13 G9 G14 k1_t2_loop.trips le_rfl y
  have hlt : (y 0).val < 32 * k1_t2_loop.trips := by rw [trips1_2]; omega
  exact h.2.trans (if_pos hlt)

/-- The codes after the whole second loop. -/
theorem hc_read (n : BitVec 32) (X5 X6 : Vec F S1024x1 .i32) (X7 X8 : Vec F S1x256 .i32)
    (Y12 : BufTy.Contents (Elt F) arg12.view.ty) (Y13 : BufTy.Contents (Elt F) arg13.view.ty) (G9 : BufTy.Contents (Elt F) arg9.view.ty) (G14 : BufTy.Contents (Elt F) arg14.view.ty) :
    arg9.view.read (Elt F) (arg9.view.writes (Elt F) G9 (pb_k1_t2 (F := F) 𝒱 c bd i arg2 harg2 arg3 harg3 arg4 harg4 arg5 harg5 arg6 harg6 arg7 harg7 arg8 harg8 arg9 harg9 arg10 harg10 arg11 harg11 arg12 harg12 arg13 harg13 arg14 harg14 n (harg5.unread X5) (harg6.unread X6) (harg7.unread X7) (harg8.unread X8) Y12 Y13 G9 G14 k1_t2_loop.trips).1)
      = hcOut X5 X6 X7 X8 (arg12.view.read (Elt F) Y12) (arg13.view.read (Elt F) Y13) := by
  funext y
  have hy : (y 0).val < 1024 := (y 0).isLt
  have h := pb_k1_t2_read (F := F) 𝒱 c bd i arg2 harg2 arg3 harg3 arg4 harg4 arg5 harg5 arg6 harg6 arg7 harg7 arg8 harg8 arg9 harg9 arg10 harg10 arg11 harg11 arg12 harg12 arg13 harg13 arg14 harg14 n X5 X6 X7 X8 Y12 Y13 G9 G14 k1_t2_loop.trips le_rfl y
  have hlt : (y 0).val < 32 * k1_t2_loop.trips := by rw [trips1_2]; omega
  exact h.1 hlt

end

/-- The run: every input handed back, the codes and the maxima's scratch at their values, the two last outputs written in
    the last block column only. -/
theorem mmRun (c : Dev nD) (i : grid1.Coords) (arg2 : Memref sig .tc .vmem S1024x16384 .i8) (harg2 : arg2.IsWhole) (arg3 : Memref sig .tc .vmem S16384x256 .i8) (harg3 : arg3.IsWhole) (arg4 : Memref sig .tc .vmem S16384x256 .i8) (harg4 : arg4.IsWhole) (arg5 : Memref sig .tc .vmem S1024x1 .i32) (harg5 : arg5.IsWhole) (arg6 : Memref sig .tc .vmem S1024x1 .i32) (harg6 : arg6.IsWhole)
    (arg7 : Memref sig .tc .vmem S1x256 .i32) (harg7 : arg7.IsWhole) (arg8 : Memref sig .tc .vmem S1x256 .i32) (harg8 : arg8.IsWhole)
    (arg9 : Memref sig .tc .vmem S1024x256 .i8) (harg9 : arg9.IsWhole) (arg10 : Memref sig .tc .vmem S1024x160 .i32) (harg10 : arg10.IsWhole) (arg11 : Memref sig .tc .vmem S1024x160 .i32) (harg11 : arg11.IsWhole)
    (arg12 : Memref sig .tc .vmem S1024x256 .i32) (harg12 : arg12.IsWhole) (arg13 : Memref sig .tc .vmem S1024x256 .i32) (harg13 : arg13.IsWhole) (arg14 : Memref sig .tc .vmem S1024x256 .f32) (harg14 : arg14.IsWhole)
    (X2 : Vec F S1024x16384 .i8) (X3 X4 : Vec F S16384x256 .i8) (X5 X6 : Vec F S1024x1 .i32) (X7 X8 : Vec F S1x256 .i32)
    (D10 D11 : Vec F S1024x160 .i32) (S : Vec F S1024x256 .f32) :
      ∀ (E : Set ℕ) (K : PUnit → sProp (MT nD τ sig Unit (Elt F) ℕ (UR sig nD τ) ℕ)),
        iprop(owns (c : Thread nD τ) arg2 fullShare X2 ∗ owns (c : Thread nD τ) arg3 fullShare X3 ∗ owns (c : Thread nD τ) arg4 fullShare X4
            ∗ owns (c : Thread nD τ) arg5 fullShare X5 ∗ owns (c : Thread nD τ) arg6 fullShare X6 ∗ owns (c : Thread nD τ) arg7 fullShare X7 ∗ owns (c : Thread nD τ) arg8 fullShare X8
            ∗ (∃ d, owns (c : Thread nD τ) arg9 fullShare d) ∗ owns (c : Thread nD τ) arg10 fullShare D10 ∗ owns (c : Thread nD τ) arg11 fullShare D11
            ∗ (∃ d, owns (c : Thread nD τ) arg12 fullShare d) ∗ (∃ d, owns (c : Thread nD τ) arg13 fullShare d) ∗ owns (c : Thread nD τ) arg14 fullShare S
            ∗ (iprop(owns (c : Thread nD τ) arg2 fullShare X2 ∗ owns (c : Thread nD τ) arg3 fullShare X3 ∗ owns (c : Thread nD τ) arg4 fullShare X4
                ∗ owns (c : Thread nD τ) arg5 fullShare X5 ∗ owns (c : Thread nD τ) arg6 fullShare X6 ∗ owns (c : Thread nD τ) arg7 fullShare X7 ∗ owns (c : Thread nD τ) arg8 fullShare X8
                ∗ owns (c : Thread nD τ) arg9 fullShare (hcNext X2 X3 X4 X5 X6 X7 X8)
                ∗ owns (c : Thread nD τ) arg10 fullShare (if k1_cond2 i = 1#1 then k1_pay4 (amNext i X2 X3 X4 X5 X6 X7 X8 S) else D10)
                ∗ owns (c : Thread nD τ) arg11 fullShare (if k1_cond2 i = 1#1 then k1_pay5 (amNext i X2 X3 X4 X5 X6 X7 X8 S) else D11)
                ∗ (∃ d, owns (c : Thread nD τ) arg12 fullShare d) ∗ (∃ d, owns (c : Thread nD τ) arg13 fullShare d)
                ∗ owns (c : Thread nD τ) arg14 fullShare (amNext i X2 X3 X4 X5 X6 X7 X8 S)) -∗ K ⟨⟩))
          ⊢ wp frame (wpE (defs₀ (F := F)) Variants.none c none) E (cc1_swiglu_mm i arg2 harg2 arg3 harg3 arg4 harg4 arg5 harg5 arg6 harg6 arg7 harg7 arg8 harg8 arg9 harg9 arg10 harg10 arg11 harg11 arg12 harg12 arg13 harg13 arg14 harg14) K := by
    intro E K
    simp only [cc1_swiglu_mm_eq_skeleton]; unfold cc1_swiglu_mm_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, ⟨%f14, %hf14, H14⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec
    sl_step
    have hacc := pb_k1_t1_read (F := F) Variants.none c none i arg2 harg2 arg3 harg3 arg4 harg4 arg5 harg5 arg6 harg6 arg7 harg7 arg8 harg8 arg9 harg9 arg10 harg10 arg11 harg11 arg12 harg12 arg13 harg13 arg14 harg14 X2 X3 X4 f12 f13 k1_t1_loop.trips le_rfl
    rw [accN_trips, accN_trips] at hacc
    have hini : arg14.view.read (Elt F) (if hc : mmRun.sl.v3 i = 1#1 then
        arg14.view.writes (Elt F) f14 [⟨Rect.unit ![0, 0] S1024x256.size inb_S1024x256_S1024x256_0_0, k1_pay2⟩] else f14)
        = if firstCol i = 1#1 then k1_pay2 else S := by
      by_cases h : firstCol i = 1#1
      · rw [if_pos h, dif_pos (show mmRun.sl.v3 i = 1#1 from h)]
        exact View.read_writes_full _ _ _ _ _
      · rw [if_neg h, dif_neg (show ¬ mmRun.sl.v3 i = 1#1 from h)]
        exact hf14
    have h14 := am_read (F := F) Variants.none c none i arg2 harg2 arg3 harg3 arg4 harg4 arg5 harg5 arg6 harg6 arg7 harg7 arg8 harg8 arg9 harg9 arg10 harg10 arg11 harg11 arg12 harg12 arg13 harg13 arg14 harg14 (nW i) X5 X6 X7 X8
    have h9 := hc_read (F := F) Variants.none c none i arg2 harg2 arg3 harg3 arg4 harg4 arg5 harg5 arg6 harg6 arg7 harg7 arg8 harg8 arg9 harg9 arg10 harg10 arg11 harg11 arg12 harg12 arg13 harg13 arg14 harg14 (nW i) X5 X6 X7 X8
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      refine (h9 _ _ _ _).trans ?_
      rw [hacc.1, hacc.2]; rfl
    isplitl [H10]
    · iexists _; isplitr; swap; · iexact H10
      ipureintro
      by_cases h : k1_cond2 i = 1#1
      · rw [if_pos h, dif_pos h]
        refine (View.read_writes_full _ _ _ _ _).trans (congrArg k1_pay4 ?_)
        unfold mmRun.sl.v8
        rw [View.readAt_eq_ld]
        refine (View.ld_unit_zero (funext fun a => match a with | ⟨0, _⟩ => rfl | ⟨1, _⟩ => rfl) _ _).trans ?_
        refine (h14 _ _ _ _).trans ?_
        rw [hacc.1, hacc.2, hini]; rfl
      · rw [if_neg h, dif_neg h]
        exact hf10
    isplitl [H11]
    · iexists _; isplitr; swap; · iexact H11
      ipureintro
      by_cases h : k1_cond2 i = 1#1
      · rw [if_pos h, dif_pos h]
        refine (View.read_writes_full _ _ _ _ _).trans (congrArg k1_pay5 ?_)
        unfold mmRun.sl.v8
        rw [View.readAt_eq_ld]
        refine (View.ld_unit_zero (funext fun a => match a with | ⟨0, _⟩ => rfl | ⟨1, _⟩ => rfl) _ _).trans ?_
        refine (h14 _ _ _ _).trans ?_
        rw [hacc.1, hacc.2, hini]; rfl
      · rw [if_neg h, dif_neg h]
        exact hf11
    isplitl [H12]
    · iexists _; iexists _; isplitr; swap; · iexact H12
      ipureintro; rfl
    isplitl [H13]
    · iexists _; iexists _; isplitr; swap; · iexact H13
      ipureintro; rfl
    iexists _; isplitr; swap; · iexact H14
    ipureintro
    refine (h14 _ _ _ _).trans ?_
    rw [hacc.1, hacc.2, hini]; rfl

end Cert.KernelIdeal.Hand

end
-- ==== Proof.KernelIdeal.Dats.lean ====
/- What each of the two calls computes, point by point, and the library's obligation for each body. -/
module

public import proofs.«01_k».proof.Proof.KernelIdeal.QuantBody
public import proofs.«01_k».proof.Proof.KernelIdeal.MmRun
public import proofs.«01_k».proof.Proof.Gen.KernelIdeal.Regions
public import Idealize.ShloMosaic.Lib.Pipeline.FrameBody
public import Idealize.ShloMosaic.Lib.Pipeline.RegionArraysS
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## Where a point sits in the second grid -/

/-- The block column of point `t`. -/
theorem col_val (t : Fin cfg1.N) : ((grid1.coords t) 1).val = t.val % 80 := by
  rw [Pipeline.Grid.coords_val (S := 1) (B := 80) t 1 (by decide) (by decide), Nat.div_one]

/-- The row block of point `t`. -/
theorem row_val (t : Fin cfg1.N) : ((grid1.coords t) 0).val = t.val / 80 := by
  rw [Pipeline.Grid.coords_val (S := 80) (B := 8) t 0 (by decide) (by decide)]
  have h : t.val < 640 := t.isLt
  exact Nat.mod_eq_of_lt (by omega)

/-- The body's first condition holds in block column 0 only. -/
theorem firstCol_iff (n : Fin 80) :
    (Scalar.cmpi .ne (Scalar.extui (Scalar.cmpi .eq (BitVec.ofNat 32 n.val) 0#32) : BitVec 32) 0#32 = 1#1) ↔ n.val = 0 := by
  revert n; decide

/-- The body's last condition holds in block column 79 only. -/
theorem lastCol_iff (n : Fin 80) :
    (Scalar.cmpi .ne (Scalar.extui (Scalar.cmpi .eq (BitVec.ofNat 32 n.val) 79#32) : BitVec 32) 0#32 = 1#1) ↔ n.val = 79 := by
  revert n; decide

/-- The first-column condition holds at the points of column 0. -/
theorem firstCol_at (t : Fin cfg1.N) : firstCol (grid1.coords t) = 1#1 ↔ t.val % 80 = 0 := by
  have h := firstCol_iff ⟨t.val % 80, Nat.mod_lt _ (by decide)⟩
  unfold firstCol
  rw [col_val]
  exact h

/-- The last-column condition holds at the points of column 79. -/
theorem lastCol_at (t : Fin cfg1.N) : k1_cond2 (grid1.coords t) = 1#1 ↔ t.val % 80 = 79 := by
  have h := lastCol_iff ⟨t.val % 80, Nat.mod_lt _ (by decide)⟩
  unfold k1_cond2
  dsimp only
  rw [col_val]
  exact h

/-! ## The first call -/

section
variable (W : Dev nD → Valuation τ sig (Elt F))

/-- Window `w`'s block at point `t` of the first call, off its array at `W`. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the first call leaves, point by point, its arrays entered at `W`: the codes, multipliers and exponents of the
    point's rows. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => qCodes (iblk0 W c 0 t)
    | ⟨2, _⟩ => qM (iblk0 W c 0 t)
    | ⟨3, _⟩ => qK (iblk0 W c 0 t)
  Φ _ := Pipeline.ΦA spec0 c
  q _ := fullShare
  owed _ := 0

/-- The first call's arrays start as the memory has them. -/
theorem A0_eq (c : Dev nD) (w : Fin cfg0.W) : (dat0 W c).A w = W c (Proc.devRef .tc (Pipeline.arrRef spec0 w)) := by
  dsimp only [dat0]

/-- After a point of the first call: the input block, unchanged. -/
theorem after0_0 (c : Dev nD) (t : Fin cfg0.N) : (dat0 W c).after 0 t = iblk0 W c 0 t := by dsimp only [dat0]
/-- After a point of the first call: the codes of the input block. -/
theorem after0_1 (c : Dev nD) (t : Fin cfg0.N) : (dat0 W c).after 1 t = qCodes (iblk0 W c 0 t) := by dsimp only [dat0]
/-- After a point of the first call: the multipliers of the input block. -/
theorem after0_2 (c : Dev nD) (t : Fin cfg0.N) : (dat0 W c).after 2 t = qM (iblk0 W c 0 t) := by dsimp only [dat0]
/-- After a point of the first call: the exponents of the input block. -/
theorem after0_3 (c : Dev nD) (t : Fin cfg0.N) : (dat0 W c).after 3 t = qK (iblk0 W c 0 t) := by dsimp only [dat0]

/-- The input's staging buffer holds its block. -/
theorem before0_0 (c : Dev nD) (t : Fin cfg0.N) (d) : (dat0 W c).before 0 t d = iblk0 W c 0 t :=
  ((dat0 W c).before_in_eq_fetched 0 rfl (fun _ => rfl) (fun _ _ _ => rfl)
      (fun t => by rw [after0_0]; unfold Dat.blockOf iblk0; rw [A0_eq]; try rfl) t d).trans
    (by unfold Dat.fetched Dat.blockOf iblk0; rw [A0_eq]; try rfl)

/-- The first body at any point. -/
theorem sound_body0 (c : Dev nD) (t : Fin cfg0.N) :
    iprop((dat0 W c).Φ t.castSucc ∗ (dat0 W c).owesAt () t.castSucc
      ∗ (∃ d, owns (c : Thread nD τ) (st0_0 t) fullShare ((dat0 W c).before 0 t d))
      ∗ (∃ d, owns (c : Thread nD τ) (st0_1 t) fullShare ((dat0 W c).before 1 t d))
      ∗ (∃ d, owns (c : Thread nD τ) (st0_2 t) fullShare ((dat0 W c).before 2 t d))
      ∗ (∃ d, owns (c : Thread nD τ) (st0_3 t) fullShare ((dat0 W c).before 3 t d)))
    ⊢ wp frame (wpE (defs₀ (F := F)) Variants.none c none) Set.univ (bodyAt0 t) (fun _ =>
      iprop((dat0 W c).Φ t.succ ∗ (dat0 W c).owesAt () t.succ
        ∗ owns (c : Thread nD τ) (st0_0 t) fullShare ((dat0 W c).after 0 t)
        ∗ owns (c : Thread nD τ) (st0_1 t) fullShare ((dat0 W c).after 1 t)
        ∗ owns (c : Thread nD τ) (st0_2 t) fullShare ((dat0 W c).after 2 t)
        ∗ owns (c : Thread nD τ) (st0_3 t) fullShare ((dat0 W c).after 3 t))) := by
  unfold bodyAt0
  simp only [before0_0]
  rw [show (dat0 W c).Φ t.succ = (dat0 W c).Φ t.castSucc from rfl,
    show (dat0 W c).owesAt () t.succ = (dat0 W c).owesAt () t.castSucc from rfl, after0_0, after0_1, after0_2, after0_3]
  iintro ⟨HΦ, Ho, ⟨%d0, H0⟩, ⟨%d1, H1⟩, ⟨%d2, H2⟩, ⟨%d3, H3⟩⟩
  iapply ((quantRun c (grid0.coords t) _ _ _ _ _ _ _ _ (iblk0 W c 0 t)) Set.univ _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The first call's body, at a point, is the quantizer on that point's blocks. -/
theorem defs₀_row0 (t : Fin cfg0.N) :
    defs₀ (F := F) .tc cfg0.body (cfg0.bodyArgs t (cfg0.slots t)) = bodyAt0 t := by
  unfold defs₀; rw [Defs.onTc_tc]

/-- The first call's obligation. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-! ## The second call -/

/-- Window `w`'s block at point `t` of the second call, off its array at `W`. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The maxima's scratch before point `t`. -/
def am (c : Dev nD) : ℕ → Vec F S1024x256 .f32
  | 0 => k1_pay2
  | t + 1 => if h : t < cfg1.N then
      amNext (grid1.coords ⟨t, h⟩) (iblk1 W c 0 ⟨t, h⟩) (iblk1 W c 1 ⟨t, h⟩) (iblk1 W c 2 ⟨t, h⟩) (iblk1 W c 3 ⟨t, h⟩) (iblk1 W c 4 ⟨t, h⟩)
        (iblk1 W c 5 ⟨t, h⟩) (iblk1 W c 6 ⟨t, h⟩) (am c t)
    else am c t

/-- The scratch of group maxima after a point, from the scratch before it. -/
theorem am_succ (c : Dev nD) (t : Fin cfg1.N) : am W c (t.val + 1)
    = amNext (grid1.coords t) (iblk1 W c 0 t) (iblk1 W c 1 t) (iblk1 W c 2 t) (iblk1 W c 3 t) (iblk1 W c 4 t) (iblk1 W c 5 t) (iblk1 W c 6 t) (am W c t.val) :=
  dif_pos t.isLt

/-- The second call's invariant before point `t`: the buffers of the first call's windows and the two accumulators at any
    contents, the maxima's scratch at `am` (before point 0 at any contents), the generator register at any state. -/
def inv1 (c : Dev nD) (t : ℕ) : sProp (MT nD τ sig Unit (Elt F) ℕ (UR sig nD τ) ℕ) :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Vec F S1024x256 .i32, owns (c : Thread nD τ) (Memref.whole cc1_scratch0) fullShare f)
    ∗ (∃ f : Vec F S1024x256 .i32, owns (c : Thread nD τ) (Memref.whole cc1_scratch1) fullShare f)
    ∗ (∃ S : Vec F S1024x256 .f32, ⌜0 < t → S = am W c t⌝ ∗ owns (c : Thread nD τ) (Memref.whole cc1_scratch2) fullShare S)
    ∗ ∃ r, prngReg c r)

/-- What the second call leaves, point by point, its arrays entered at `W`. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => hcNext (iblk1 W c 0 t) (iblk1 W c 1 t) (iblk1 W c 2 t) (iblk1 W c 3 t) (iblk1 W c 4 t) (iblk1 W c 5 t) (iblk1 W c 6 t)
    | ⟨8, _⟩ => k1_pay4 (am W c (t.val + 1))
    | ⟨9, _⟩ => k1_pay5 (am W c (t.val + 1))
  Φ t := inv1 W c t.val
  q _ := fullShare
  owed _ := 0

/-- The second call's arrays start as the memory has them. -/
theorem A1_eq (c : Dev nD) (w : Fin cfg1.W) : (dat1 W c).A w = W c (Proc.devRef .tc (Pipeline.arrRef spec1 w)) := by
  dsimp only [dat1]

/-- After a point of the second call: the codes' block, unchanged. -/
theorem after1_0 (c : Dev nD) (t : Fin cfg1.N) : (dat1 W c).after 0 t = iblk1 W c 0 t := by dsimp only [dat1]
/-- After a point of the second call: the gate weights' block, unchanged. -/
theorem after1_1 (c : Dev nD) (t : Fin cfg1.N) : (dat1 W c).after 1 t = iblk1 W c 1 t := by dsimp only [dat1]
/-- After a point of the second call: the up weights' block, unchanged. -/
theorem after1_2 (c : Dev nD) (t : Fin cfg1.N) : (dat1 W c).after 2 t = iblk1 W c 2 t := by dsimp only [dat1]
/-- After a point of the second call: the multipliers' block, unchanged. -/
theorem after1_3 (c : Dev nD) (t : Fin cfg1.N) : (dat1 W c).after 3 t = iblk1 W c 3 t := by dsimp only [dat1]
/-- After a point of the second call: the exponents' block, unchanged. -/
theorem after1_4 (c : Dev nD) (t : Fin cfg1.N) : (dat1 W c).after 4 t = iblk1 W c 4 t := by dsimp only [dat1]
/-- After a point of the second call: the gate column exponents' block, unchanged. -/
theorem after1_5 (c : Dev nD) (t : Fin cfg1.N) : (dat1 W c).after 5 t = iblk1 W c 5 t := by dsimp only [dat1]
/-- After a point of the second call: the up column exponents' block, unchanged. -/
theorem after1_6 (c : Dev nD) (t : Fin cfg1.N) : (dat1 W c).after 6 t = iblk1 W c 6 t := by dsimp only [dat1]
/-- After a point of the second call: the hidden codes of the block. -/
theorem after1_7 (c : Dev nD) (t : Fin cfg1.N) : (dat1 W c).after 7 t
    = hcNext (iblk1 W c 0 t) (iblk1 W c 1 t) (iblk1 W c 2 t) (iblk1 W c 3 t) (iblk1 W c 4 t) (iblk1 W c 5 t) (iblk1 W c 6 t) := by dsimp only [dat1]
/-- After a point of the second call: the multipliers read from the scratch. -/
theorem after1_8 (c : Dev nD) (t : Fin cfg1.N) : (dat1 W c).after 8 t = k1_pay4 (am W c (t.val + 1)) := by dsimp only [dat1]
/-- After a point of the second call: the exponents read from the scratch. -/
theorem after1_9 (c : Dev nD) (t : Fin cfg1.N) : (dat1 W c).after 9 t = k1_pay5 (am W c (t.val + 1)) := by dsimp only [dat1]

/-! Each input's staging buffer holds its block, fetched at this point or not. -/

/-- Before a point of the second call: the codes' block of the point. -/
theorem before1_0 (c : Dev nD) (t : Fin cfg1.N) (d) : (dat1 W c).before 0 t d = iblk1 W c 0 t :=
  ((dat1 W c).before_in_eq_fetched 0 rfl (fun _ => rfl) (fun _ _ _ => rfl)
      (fun t => by rw [after1_0]; unfold Dat.blockOf iblk1; rw [A1_eq]; try rfl) t d).trans
    (by unfold Dat.fetched Dat.blockOf iblk1; rw [A1_eq]; try rfl)
/-- Before a point of the second call: the gate weights' block of the point. -/
theorem before1_1 (c : Dev nD) (t : Fin cfg1.N) (d) : (dat1 W c).before 1 t d = iblk1 W c 1 t :=
  ((dat1 W c).before_in_eq_fetched 1 rfl (fun _ => rfl) (fun _ _ _ => rfl)
      (fun t => by rw [after1_1]; unfold Dat.blockOf iblk1; rw [A1_eq]; try rfl) t d).trans
    (by unfold Dat.fetched Dat.blockOf iblk1; rw [A1_eq]; try rfl)
/-- Before a point of the second call: the up weights' block of the point. -/
theorem before1_2 (c : Dev nD) (t : Fin cfg1.N) (d) : (dat1 W c).before 2 t d = iblk1 W c 2 t :=
  ((dat1 W c).before_in_eq_fetched 2 rfl (fun _ => rfl) (fun _ _ _ => rfl)
      (fun t => by rw [after1_2]; unfold Dat.blockOf iblk1; rw [A1_eq]; try rfl) t d).trans
    (by unfold Dat.fetched Dat.blockOf iblk1; rw [A1_eq]; try rfl)
/-- Before a point of the second call: the multipliers' block of the point. -/
theorem before1_3 (c : Dev nD) (t : Fin cfg1.N) (d) : (dat1 W c).before 3 t d = iblk1 W c 3 t :=
  ((dat1 W c).before_in_eq_fetched 3 rfl (fun _ => rfl) (fun _ _ _ => rfl)
      (fun t => by rw [after1_3]; unfold Dat.blockOf iblk1; rw [A1_eq]; try rfl) t d).trans
    (by unfold Dat.fetched Dat.blockOf iblk1; rw [A1_eq]; try rfl)
/-- Before a point of the second call: the exponents' block of the point. -/
theorem before1_4 (c : Dev nD) (t : Fin cfg1.N) (d) : (dat1 W c).before 4 t d = iblk1 W c 4 t :=
  ((dat1 W c).before_in_eq_fetched 4 rfl (fun _ => rfl) (fun _ _ _ => rfl)
      (fun t => by rw [after1_4]; unfold Dat.blockOf iblk1; rw [A1_eq]; try rfl) t d).trans
    (by unfold Dat.fetched Dat.blockOf iblk1; rw [A1_eq]; try rfl)
/-- Before a point of the second call: the gate column exponents' block of the point. -/
theorem before1_5 (c : Dev nD) (t : Fin cfg1.N) (d) : (dat1 W c).before 5 t d = iblk1 W c 5 t :=
  ((dat1 W c).before_in_eq_fetched 5 rfl (fun _ => rfl) (fun _ _ _ => rfl)
      (fun t => by rw [after1_5]; unfold Dat.blockOf iblk1; rw [A1_eq]; try rfl) t d).trans
    (by unfold Dat.fetched Dat.blockOf iblk1; rw [A1_eq]; try rfl)
/-- Before a point of the second call: the up column exponents' block of the point. -/
theorem before1_6 (c : Dev nD) (t : Fin cfg1.N) (d) : (dat1 W c).before 6 t d = iblk1 W c 6 t :=
  ((dat1 W c).before_in_eq_fetched 6 rfl (fun _ => rfl) (fun _ _ _ => rfl)
      (fun t => by rw [after1_6]; unfold Dat.blockOf iblk1; rw [A1_eq]; try rfl) t d).trans
    (by unfold Dat.fetched Dat.blockOf iblk1; rw [A1_eq]; try rfl)

/-- The two outputs written in the last block column only: handed back as found elsewhere. -/
theorem leave1 (c : Dev nD) (w : Fin cfg1.W) (t : Fin cfg1.N) (hi : cfg1.idle w (cfg1.grid.coords t) = !(k1_cond2 (grid1.coords t) == 1#1))
    (hf : (cfg1.win w).flush t = true ↔ t.val % 80 = 79) (d) (X) (hX : X = if k1_cond2 (grid1.coords t) = 1#1 then (dat1 W c).after w t else (dat1 W c).before w t d) :
    owns (c : Thread nD τ) ((cfg1.win w).stage (cfg1.slots t w)) fullShare X ⊢ (dat1 W c).leavesExact w t := by
  subst hX
  by_cases h : k1_cond2 (grid1.coords t) = 1#1
  · rw [if_pos h]
    unfold Dat.leavesExact
    rw [hi, h]
    exact .rfl
  · rw [if_neg h, (dat1 W c).leavesExact_idle w t (by rw [hi]; simp [h])
      (by rw [Bool.eq_false_iff]; intro hfl; exact h ((lastCol_at t).mpr (hf.mp hfl)))]
    iintro H
    iexists d
    iexact H

/-- The second body at any point. -/
theorem sound_body1 (c : Dev nD) (t : Fin cfg1.N) :
    iprop((dat1 W c).Φ t.castSucc ∗ (dat1 W c).owesAt () t.castSucc
      ∗ (∃ d, owns (c : Thread nD τ) (st1_0 t) fullShare ((dat1 W c).before 0 t d))
      ∗ (∃ d, owns (c : Thread nD τ) (st1_1 t) fullShare ((dat1 W c).before 1 t d))
      ∗ (∃ d, owns (c : Thread nD τ) (st1_2 t) fullShare ((dat1 W c).before 2 t d))
      ∗ (∃ d, owns (c : Thread nD τ) (st1_3 t) fullShare ((dat1 W c).before 3 t d))
      ∗ (∃ d, owns (c : Thread nD τ) (st1_4 t) fullShare ((dat1 W c).before 4 t d))
      ∗ (∃ d, owns (c : Thread nD τ) (st1_5 t) fullShare ((dat1 W c).before 5 t d))
      ∗ (∃ d, owns (c : Thread nD τ) (st1_6 t) fullShare ((dat1 W c).before 6 t d))
      ∗ (∃ d, owns (c : Thread nD τ) (st1_7 t) fullShare ((dat1 W c).before 7 t d))
      ∗ (∃ d, owns (c : Thread nD τ) (st1_8 t) fullShare ((dat1 W c).before 8 t d))
      ∗ (∃ d, owns (c : Thread nD τ) (st1_9 t) fullShare ((dat1 W c).before 9 t d)))
    ⊢ wp frame (wpE (defs₀ (F := F)) Variants.none c none) Set.univ (bodyAt1 t) (fun _ =>
      iprop((dat1 W c).Φ t.succ ∗ (dat1 W c).owesAt () t.succ
        ∗ owns (c : Thread nD τ) (st1_0 t) fullShare ((dat1 W c).after 0 t)
        ∗ owns (c : Thread nD τ) (st1_1 t) fullShare ((dat1 W c).after 1 t)
        ∗ owns (c : Thread nD τ) (st1_2 t) fullShare ((dat1 W c).after 2 t)
        ∗ owns (c : Thread nD τ) (st1_3 t) fullShare ((dat1 W c).after 3 t)
        ∗ owns (c : Thread nD τ) (st1_4 t) fullShare ((dat1 W c).after 4 t)
        ∗ owns (c : Thread nD τ) (st1_5 t) fullShare ((dat1 W c).after 5 t)
        ∗ owns (c : Thread nD τ) (st1_6 t) fullShare ((dat1 W c).after 6 t)
        ∗ owns (c : Thread nD τ) (st1_7 t) fullShare ((dat1 W c).after 7 t)
        ∗ (dat1 W c).leavesExact 8 t ∗ (dat1 W c).leavesExact 9 t)) := by
  unfold bodyAt1
  simp only [before1_0, before1_1, before1_2, before1_3, before1_4, before1_5, before1_6]
  rw [show (dat1 W c).Φ t.succ = inv1 W c (t.val + 1) from rfl, show (dat1 W c).Φ t.castSucc = inv1 W c t.val from rfl,
    show (dat1 W c).owesAt () t.succ = (dat1 W c).owesAt () t.castSucc from rfl, after1_0, after1_1, after1_2, after1_3, after1_4, after1_5, after1_6, after1_7]
  unfold inv1
  iintro ⟨⟨HG0, HG1, HG2, HG3, HG4, HG5, HG6, HG7, HA0, HA1, ⟨%S, %hS, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hnext : amNext (grid1.coords t) (iblk1 W c 0 t) (iblk1 W c 1 t) (iblk1 W c 2 t) (iblk1 W c 3 t) (iblk1 W c 4 t) (iblk1 W c 5 t) (iblk1 W c 6 t) S
      = am W c (t.val + 1) := by
    rw [am_succ]
    by_cases h0 : 0 < t.val
    · rw [hS h0]
    · have hc : firstCol (grid1.coords t) = 1#1 := (firstCol_at t).mpr (by omega)
      unfold amNext
      rw [if_pos hc, if_pos hc]
  iapply ((mmRun c (grid1.coords t) _ _ _ _ _ _ _ _ _ _ _ _ _ _ _ _ _ _ _ _ _ _ _ _ _ _ (iblk1 W c 0 t) (iblk1 W c 1 t) (iblk1 W c 2 t) (iblk1 W c 3 t) (iblk1 W c 4 t) (iblk1 W c 5 t) (iblk1 W c 6 t)
    ((dat1 W c).before 8 t d8) ((dat1 W c).before 9 t d9) S) Set.univ _)
  rw [hnext]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HA0]; · iexact HA0
  isplitl [HA1]; · iexact HA1
  isplitl [HS]; · iexact HS
  iintro ⟨H0, H1, H2, H3, H4, H5, H6, H7, H8, H9, HA0, HA1, HS⟩
  isplitl [HG0 HG1 HG2 HG3 HG4 HG5 HG6 HG7 HA0 HA1 HS HP]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    isplitl [HG7]; · iexact HG7
    isplitl [HA0]; · iexact HA0
    isplitl [HA1]; · iexact HA1
    isplitl [HS]
    · iexists _; isplitr; swap; · iexact HS
      ipureintro
      exact fun _ => rfl
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leave1 W c 8 t rfl (flush1_8 t) d8 _ (by rw [after1_8])); iexact H8
  iapply (leave1 W c 9 t rfl (flush1_9 t) d9 _ (by rw [after1_9])); iexact H9

/-- The second call's body, at a point, is the product kernel on that point's blocks. -/
theorem defs₀_row1 (t : Fin cfg1.N) :
    defs₀ (F := F) .tc cfg1.body (cfg1.bodyArgs t (cfg1.slots t)) = bodyAt1 t := by
  unfold defs₀; rw [Defs.onTc_tc]

/-- The second call's obligation. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end

end Cert.KernelIdeal.Hand

end
-- ==== Proof.KernelIdeal.Run.lean ====
/- The whole run: host lines, first call, host lines, second call, host lines; what every buffer holds at the end, and that
   the arguments end as they were. -/
module

public import proofs.«01_k».proof.Proof.KernelIdeal.Dats

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## What the buffers hold between the items of @main -/

/-- At launch. -/
def W0 (c : Dev nD) : Valuation τ sig (Elt F) := fun b => m (c, b)
/-- After the first host line. -/
def W1 (c : Dev nD) : Valuation τ sig (Elt F) := StableHlo.after hostOps0 (W0 m c)
/-- After the first call. -/
def W2 (c : Dev nD) : Valuation τ sig (Elt F) := afterRegion (dat0 (W1 m) c) (W1 m c)
/-- After the second host stretch. -/
def W3 (c : Dev nD) : Valuation τ sig (Elt F) := StableHlo.after hostOps1 (W2 m c)
/-- After the second call. -/
def W4 (c : Dev nD) : Valuation τ sig (Elt F) := afterRegion (dat1 (W3 m) c) (W3 m c)
/-- At the end. -/
def W5 (c : Dev nD) : Valuation τ sig (Elt F) := StableHlo.after hostOps2 (W4 m c)

/-- The proof data of the two calls. -/
def pdats : (p : Fin 2) → (c : Dev nD) → Dat τ (Elt F) Unit ℕ (UR sig nD τ) ℕ (cfgs p) c
  | 0 => dat0 (W1 m)
  | 1 => dat1 (W3 m)

/-! ## The segments -/

/-- The cells a wait may be answered at: every one of the TensorCores. -/
def lset (g : GSem nD τ sig) : Finset Unit := if g.1.2 = .tc then {()} else ∅

/-- Every level is 0. -/
def lev (_ : GSem nD τ sig) (_ : Unit) : ℕ := 0

/-- No cell outside the TensorCores answers a wait. -/
theorem lset_off (g : GSem nD τ sig) (h : g.1.2 ≠ .tc) : lset g = ∅ := if_neg h

/-- What rides beside the buffers: the core owing nothing, the generator register. -/
def rest (c : Dev nD) : sProp (MT nD τ sig Unit (Elt F) ℕ (UR sig nD τ) ℕ) :=
  iprop((∃ Wd, owes (c : Thread nD τ) (0 : CellTallies nD τ sig Unit) Wd) ∗ (∃ r, prngReg c r) ∗ emp)

/-- At the end the core owes nothing. -/
theorem rest_end (c : Dev nD) : (rest c : sProp (MT nD τ sig Unit (Elt F) ℕ (UR sig nD τ) ℕ)) ⊢ iprop(∃ Wd, owes (c : Thread nD τ) (0 : CellTallies nD τ sig Unit) Wd) := by
  unfold rest; iintro ⟨HO, -, -⟩; iexact HO

/-- The waits of a call's pipeline respect the levels. -/
theorem cut (p : Fin 2) : LevelCut (pcfgs (F := F)) adm () lset lev p (fun _ => (0 : CellTallies nD τ sig Unit)) (fun _ => 0) where
  hι c w s := by unfold lset; rw [if_pos rfl]; exact Finset.mem_singleton.mpr rfl
  hιb c w s := le_refl _
  hD c g i h := absurd h (lt_irrefl _)

/-- The first call's segment. -/
def reg0 : RegionSeg (pcfgs (F := F)) adm (pdats m) () defs₀ Variants.none lset lev 0 :=
  RegionSeg.ofHeldIn pcfgs adm (pdats m) () defs₀ Variants.none lset lev 0 (fun _ => 0) (ucRefs τ sig)
    (fun c => iprop(∃ r, prngReg c r)) (fun c => iprop(∃ r, prngReg c r)) launch0.toP rfl
    (fun c => (body_obligation0 (W1 m) c).loose) (fun _ _ => rfl) (fun _ => rfl) (fun c => (dat0 (W1 m) c).share_full fun _ => rfl)
    (fun c => (.rfl : ΦA spec0 c ⊢ ΦA spec0 c)) (fun c => (.rfl : ΦA spec0 c ⊢ ΦA spec0 c)) (fun _ => 0) (cut 0) (fun _ => iprop(emp)) (W1 m)
    (fun c w => A0_eq (W1 m) c w)

/-- The buffers the second call stages nothing in, as its invariant before point 0. -/
theorem inv1_in (W : Dev nD → Valuation τ sig (Elt F)) (c : Dev nD) : iprop(scopedRest spec1 c ∗ ∃ r, prngReg c r) ⊢ inv1 W c 0 := by
  rw [scopedRest1_eq]
  unfold inv1
  iintro ⟨⟨HG0, HG1, HG2, HG3, HG4, HG5, HG6, HG7, ⟨%f0, HA0⟩, ⟨%f1, HA1⟩, ⟨%f2, HS⟩⟩, HP⟩
  isplitl [HG0]; · iexact HG0
  isplitl [HG1]; · iexact HG1
  isplitl [HG2]; · iexact HG2
  isplitl [HG3]; · iexact HG3
  isplitl [HG4]; · iexact HG4
  isplitl [HG5]; · iexact HG5
  isplitl [HG6]; · iexact HG6
  isplitl [HG7]; · iexact HG7
  isplitl [HA0]; · iexists f0; rw [owns_whole]; iexact HA0
  isplitl [HA1]; · iexists f1; rw [owns_whole]; iexact HA1
  isplitl [HS]
  · iexists f2
    isplitr
    · ipureintro; exact fun h => absurd h (lt_irrefl _)
    rw [owns_whole]; iexact HS
  iexact HP

/-- The invariant after the last point, as those buffers. -/
theorem inv1_out (W : Dev nD → Valuation τ sig (Elt F)) (c : Dev nD) (t : ℕ) : inv1 W c t ⊢ iprop(scopedRest spec1 c ∗ ∃ r, prngReg c r) := by
  rw [scopedRest1_eq]
  unfold inv1
  simp only [owns_whole]
  iintro ⟨HG0, HG1, HG2, HG3, HG4, HG5, HG6, HG7, HA0, HA1, ⟨%S, -, HS⟩, HP⟩
  isplitr [HP]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    isplitl [HG7]; · iexact HG7
    isplitl [HA0]; · iexact HA0
    isplitl [HA1]; · iexact HA1
    iexists S; iexact HS
  iexact HP

/-- The second call's segment. -/
def reg1 : RegionSeg (pcfgs (F := F)) adm (pdats m) () defs₀ Variants.none lset lev 1 :=
  RegionSeg.ofHeldIn pcfgs adm (pdats m) () defs₀ Variants.none lset lev 1 (fun _ => 0) (ucRefs τ sig)
    (fun c => iprop(∃ r, prngReg c r)) (fun c => iprop(∃ r, prngReg c r)) launch1.toP rfl
    (fun c => (body_obligation1 (W3 m) c).loose) (fun _ _ => rfl) (fun _ => rfl) (fun c => (dat1 (W3 m) c).share_full fun _ => rfl)
    (fun c => inv1_in (W3 m) c) (fun c => inv1_out (W3 m) c _) (fun _ => 0) (cut 1) (fun _ => iprop(emp)) (W3 m)
    (fun c w => A1_eq (W3 m) c w)

/-- A stretch of host operations as a segment, from the contents `V`. -/
def hostSeg (ops : List (HloOp τ sig (Elt F))) (hsub : ops.Forall fun op => op.bufs ⊆ StableHlo.tcRefs τ sig)
    (hfresh : ops.Forall fun op => op.fresh = ∅) (V : Dev nD → Valuation τ sig (Elt F)) :
    HostSeg (Ix := Unit) (Name := ℕ) (U := UR sig nD τ) (Lvl := ℕ) (pcfgs (F := F)) defs₀ Variants.none lset lev :=
  HostSeg.ofOps _ _ _ _ _ (ucRefs τ sig) ops (fun op h => sub_ucRefs op ((List.forall_iff_forall_mem.mp hsub) op h))
    (fun op h => (List.forall_iff_forall_mem.mp hfresh) op h) V rest

/-- @main's items. -/
abbrev segs : List (Seg (pcfgs (F := F)) adm (pdats m) () defs₀ Variants.none lset lev) :=
  [.host (hostSeg hostOps0 hostOps0_sub hostOps0_fresh (W0 m)), .region (reg0 m), .host (hostSeg hostOps1 hostOps1_sub hostOps1_fresh (W2 m)),
    .region (reg1 m), .host (hostSeg hostOps2 hostOps2_sub hostOps2_fresh (W4 m))]

/-- The first call's arrays are among the buffers held. -/
theorem arr0_sub : arrRefs (τ := τ) spec0 ⊆ ucRefs τ sig := arrRefs_sub_ucRefs spec0 (by decide)
/-- The second call's arrays are among the buffers held. -/
theorem arr1_sub : arrRefs (τ := τ) spec1 ⊆ ucRefs τ sig := arrRefs_sub_ucRefs spec1 (by decide)

/-! Each item starts where the one before it ends. -/

/-- The buffers after the first host stretch start the first call. -/
theorem pre0 (c : Dev nD) : iprop(StableHlo.held (c : Thread nD τ) (ucRefs τ sig) (W1 m c) ∗ rest c) ⊢ (reg0 m).pre c :=
  RegionSeg.ofHeldIn_pre (pcs := pcfgs) (a := adm) (pdats := pdats m) (ι := ()) (defs₀ := defs₀) (𝒱₀ := Variants.none) (L := lset) (lv := lev) (p := 0)
    (D := fun _ => 0) (S := ucRefs τ sig) (X := fun c => iprop(∃ r, prngReg c r)) (Y := fun c => iprop(∃ r, prngReg c r))
    (R := fun _ => iprop(emp)) (W := W1 m) arr0_sub c
/-- The first call leaves the buffers the second host stretch starts from. -/
theorem post0 (c : Dev nD) : (reg0 m).post c ⊢ iprop(StableHlo.held (c : Thread nD τ) (ucRefs τ sig) (W2 m c) ∗ rest c) :=
  RegionSeg.ofHeldIn_post (pcs := pcfgs) (a := adm) (pdats := pdats m) (ι := ()) (defs₀ := defs₀) (𝒱₀ := Variants.none) (L := lset) (lv := lev) (p := 0)
    (D := fun _ => 0) (S := ucRefs τ sig) (X := fun c => iprop(∃ r, prngReg c r)) (Y := fun c => iprop(∃ r, prngReg c r))
    (R := fun _ => iprop(emp)) (W := W1 m) arr0_sub c
/-- The buffers after the second host stretch start the second call. -/
theorem pre1 (c : Dev nD) : iprop(StableHlo.held (c : Thread nD τ) (ucRefs τ sig) (W3 m c) ∗ rest c) ⊢ (reg1 m).pre c :=
  RegionSeg.ofHeldIn_pre (pcs := pcfgs) (a := adm) (pdats := pdats m) (ι := ()) (defs₀ := defs₀) (𝒱₀ := Variants.none) (L := lset) (lv := lev) (p := 1)
    (D := fun _ => 0) (S := ucRefs τ sig) (X := fun c => iprop(∃ r, prngReg c r)) (Y := fun c => iprop(∃ r, prngReg c r))
    (R := fun _ => iprop(emp)) (W := W3 m) arr1_sub c
/-- The second call leaves the buffers the last host stretch starts from. -/
theorem post1 (c : Dev nD) : (reg1 m).post c ⊢ iprop(StableHlo.held (c : Thread nD τ) (ucRefs τ sig) (W4 m c) ∗ rest c) :=
  RegionSeg.ofHeldIn_post (pcs := pcfgs) (a := adm) (pdats := pdats m) (ι := ()) (defs₀ := defs₀) (𝒱₀ := Variants.none) (L := lset) (lv := lev) (p := 1)
    (D := fun _ => 0) (S := ucRefs τ sig) (X := fun c => iprop(∃ r, prngReg c r)) (Y := fun c => iprop(∃ r, prngReg c r))
    (R := fun _ => iprop(emp)) (W := W3 m) arr1_sub c

/-! ## The run -/

-- the run rule's implicit arguments are found by unifying its conclusion with this one, which takes unfolding plain
-- definitions in a metavariable's type
set_option maxHeartbeats 400000 in
set_option backward.isDefEq.respectTransparency.types false in
/-- Every weakly fair execution of @main from memory `m` with zero counters terminates, with every unscoped buffer at `W5` and
    every counter at zero. -/
theorem run : θ_run defs (onTc (τ := τ) (main (F := F))) ⟨m, fun _ => 0, ρ⟩ (fun r =>
    (∀ c : Dev nD, ∀ b ∈ ucRefs τ sig, r.2.mem ((c.tc : Thread nD τ).1, b) = W5 m c b) ∧ r.2.sem = fun _ => 0) := by
  refine Pipeline.θ_run_regions_kit_dev_sems (pcfgs (F := F)) adm (pdats m) () cellOf_inj emb₁ defs₀ Variants.none lset lev m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) lset_off
    (fun _ => iprop(emp)) (initOf (cells cfgs cellOf_inj) (launchToks cfgs cellOf_inj))
    (by
      iintro Hu; imodintro
      isplitl [Hu]
      · iapply (show (ownU _ : sProp (MT nD τ sig Unit (Elt F) ℕ (UR sig nD τ) ℕ)) ⊢ BI.own (emb₁ (initOf (cells cfgs cellOf_inj) (launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (ucRefs τ sig) (W0 m c) ∗ rest c))
    (Tₙ := fun c => StableHlo.held (c : Thread nD τ) (ucRefs τ sig) (W5 m c))
    (hch := fun c => ⟨.rfl, pre0 m c, post0 m c, pre1 m c, post1 m c, sep_mono .rfl (rest_end c)⟩)
    (hinit := ?_) (QY := fun c s => ∀ b ∈ ucRefs τ sig, s.mem ((c.tc : Thread nD τ).1, b) = W5 m c b)
    (hfin := fun c s' => ?_) (hQ := fun _ h hz => ⟨h, funext fun g => hz g (.inr (regions_no_unscoped g.2))⟩)
  · refine initEach lset lev fun c => ?_
    rw [show unscopedBufs c (fun b => m ((c.tc : Thread nD τ).loc b)) = StableHlo.held (c.tc : Thread nD τ) (ucRefs τ sig) (W0 m c)
        from unscopedBufs_held (Ix := Unit) (Name := ℕ) (U := UR sig nD τ) (Lvl := ℕ) c (W0 m c)]
    unfold rest
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (ucRefs τ sig) (fun b => ((c.tc : Thread nD τ).1, b)) (W5 m c) s') $$ [Hh HSI]
    · isplitl [Hh] <;> iassumption
    imodintro; iexact Hr

/-! ## The arguments -/

/-- A buffer no item writes ends as launched. -/
theorem W5_keeps (c : Dev nD) (r : Ref sig .tc) (h0 : r ∉ hostOps0_W) (h1 : ∀ w, arrRef spec0 w = r → (cfg0.win w).isOut = false)
    (h2 : r ∉ hostOps1_W) (h3 : ∀ w, arrRef spec1 w = r → (cfg1.win w).isOut = false) (h4 : r ∉ hostOps2_W) :
    W5 m c r = m ((c : Thread nD τ).loc r) := by
  unfold W5
  rw [StableHlo.after_of_writes_sub hostOps2 _ hostOps2_writes h4]
  unfold W4
  rw [afterRegion_keeps (dat1 (W3 m) c) (W3 m c) launch1.win.arr_inj (A1_eq (W3 m) c) r h3]
  unfold W3
  rw [StableHlo.after_of_writes_sub hostOps1 _ hostOps1_writes h2]
  unfold W2
  rw [afterRegion_keeps (dat0 (W1 m) c) (W1 m c) launch0.win.arr_inj (A0_eq (W1 m) c) r h1]
  unfold W1
  rw [StableHlo.after_of_writes_sub hostOps0 _ hostOps0_writes h0]
  rfl

/-- The run with every argument named: it ends as launched. -/
theorem run_named : θ_run defs (onTc (τ := τ) (main (F := F))) ⟨m, fun _ => 0, ρ⟩ (fun r =>
    (∀ c : Dev nD, ∀ b : Ref sig .tc, b.isScoped = false → r.2.mem ((c.tc : Thread nD τ).loc b) = W5 m c b) ∧ r.2.sem = fun _ => 0) :=
  (θ_run defs _ _).mono (fun _ h => ⟨fun c b hb => h.1 c (Proc.devRef .tc b) (devRef_mem_ucRefs hb), h.2⟩) (run m ρ)

/-- THE FRAME: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c main_arg0 rfl).trans (W5_keeps m c main_arg0 (by decide) (by decide) (by decide) (by decide) (by decide)),
     (h.1 c main_arg1 rfl).trans (W5_keeps m c main_arg1 (by decide) (by decide) (by decide) (by decide) (by decide)),
     (h.1 c main_arg2 rfl).trans (W5_keeps m c main_arg2 (by decide) (by decide) (by decide) (by decide) (by decide)),
     (h.1 c main_arg3 rfl).trans (W5_keeps m c main_arg3 (by decide) (by decide) (by decide) (by decide) (by decide)),
     (h.1 c main_arg4 rfl).trans (W5_keeps m c main_arg4 (by decide) (by decide) (by decide) (by decide) (by decide))⟩, h.2⟩)
    (run_named m ρ)

end Cert.KernelIdeal.Hand

end
-- ==== Proof.Kernel.Run.lean ====
/- The run of the kernel over floats as words: its program is the text of the kernel over the reals,
   whose run is proved for every reading of the floats, so its frame is that one. -/
module

public import proofs.«01_k».proof.Proof.Gen.Kernel
public import proofs.«01_k».proof.Proof.KernelIdeal.Run

@[expose] public section

set_option maxRecDepth 100000
set_option maxHeartbeats 4000000

noncomputable section

namespace Cert.Kernel.Hand

open Idealize.ShloMosaic Idealize.ShloMosaic.TcCoe Idealize.SL.Sem

variable {F : FTy → Type} [FloatOps F]

/-- The two programs quantize the input by the same kernel body. -/
theorem quant_same : cc0_quant_x (F := F) = Cert.KernelIdeal.cc0_quant_x (F := F) := rfl

/-- The two programs multiply by the same kernel body. -/
theorem mm_same : cc1_swiglu_mm (F := F) = Cert.KernelIdeal.cc1_swiglu_mm (F := F) := rfl

/-- The two programs call the same bodies on the same blocks. -/
theorem bodies_same : defs₀ (F := F) = Cert.KernelIdeal.defs₀ (F := F) := by
  unfold defs₀ Cert.KernelIdeal.defs₀
  refine congrArg Defs.onTc ?_
  rw [quant_same, mm_same]
  refine funext fun l => funext fun x => ?_
  rcases l with ⟨_ | _ | n, h⟩
  · obtain ⟨t, s⟩ := x
    rfl
  · obtain ⟨t, s⟩ := x
    rfl
  · exact absurd h (by omega)

/-- The two programs have the same calls, pipelines included. -/
theorem defs_same : defs (F := F) = Cert.KernelIdeal.defs (F := F) := by
  unfold defs Cert.KernelIdeal.defs
  rw [bodies_same]
  rfl

/-- The two programs run the same host code around the same calls. -/
theorem main_same : main (F := F) = Cert.KernelIdeal.main (F := F) := rfl

/-- THE FRAME: the arguments end as launched and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same, main_same]
  exact Cert.KernelIdeal.Hand.frame m ρ

end Cert.Kernel.Hand

end
-- ==== Proof.Math.Words.lean ====
/- Machine words as integers: each word operation the two programs use, as the integer operation it performs on
   words whose integers stay in range, and the integer form of the quantiser. -/
module

public import Idealize.ShloMosaic.PureOps.Ideal
public import Idealize.ShloMosaic.Lib.Pipeline.Value

@[expose] public section

noncomputable section

namespace Cert.Hand

open Idealize.ShloMosaic

/-- The 32-bit word of an integer. -/
abbrev W (z : ℤ) : BitVec 32 := BitVec.ofInt 32 z

/-- A word's integer, read back from the word of an integer in range. -/
theorem toInt_W {z : ℤ} (h₁ : -2147483648 ≤ z) (h₂ : z < 2147483648) : (W z).toInt = z := by
  rw [BitVec.toInt_ofInt]
  apply Int.bmod_eq_of_le <;> omega

/-- Every word is the word of its integer. -/
theorem W_toInt (x : BitVec 32) : W x.toInt = x := BitVec.ofInt_toInt

/-- The word of a natural number is its word as an integer. -/
theorem ofNat_eq_W (n : ℕ) : BitVec.ofNat 32 n = W (n : ℤ) := (BitVec.ofInt_natCast 32 n).symm

/-- A word below 2^31 reads the same signed and unsigned. -/
theorem toInt_eq_toNat {x : BitVec 32} (h : x.toNat < 2147483648) : x.toInt = (x.toNat : ℤ) := by
  rw [BitVec.toInt_eq_toNat_of_lt (by omega)]

/-- A number below 2^32 survives being a word. -/
theorem toNat_ofNat {n : ℕ} (h : n < 4294967296) : (BitVec.ofNat 32 n).toNat = n := by
  rw [BitVec.toNat_ofNat]; exact Nat.mod_eq_of_lt (by simpa using h)

/-- The signed range of a word. -/
theorem toInt_range (x : BitVec 32) : -2147483648 ≤ x.toInt ∧ x.toInt < 2147483648 :=
  ⟨by have := BitVec.le_toInt x; simpa using this, by have := BitVec.toInt_lt (x := x); simpa using this⟩

/-- The sign of a word, as the host's `sign` computes it. -/
def sgn (x : BitVec 32) : BitVec 32 := if x = 0 then 0 else if x.msb then -1 else 1

/-- The host's sign of a word is the sign of its integer. -/
theorem sgn_eq (x : BitVec 32) : sgn x = W x.toInt.sign := by
  unfold sgn
  by_cases h0 : x = 0
  · subst h0; rfl
  · rw [if_neg h0]
    by_cases hm : x.msb
    · rw [if_pos hm]
      have : x.toInt < 0 := by rw [BitVec.msb_eq_toInt] at hm; simpa using hm
      rw [Int.sign_eq_neg_one_of_neg this]; rfl
    · rw [if_neg hm]
      have h1 : ¬ x.toInt < 0 := by rw [BitVec.msb_eq_toInt] at hm; simpa using hm
      have h2 : x.toInt ≠ 0 := fun h => h0 (by rw [← W_toInt x, h]; rfl)
      rw [Int.sign_eq_one_of_pos (by omega)]; rfl

/-- The absolute value of a word is the word of the absolute value. -/
theorem absi_eq (x : BitVec 32) : IntOp.absi x = W |x.toInt| := by
  unfold IntOp.absi
  by_cases hm : x.msb
  · rw [if_pos hm]
    have : x.toInt < 0 := by rw [BitVec.msb_eq_toInt] at hm; simpa using hm
    rw [abs_of_neg this, W, BitVec.ofInt_neg, BitVec.ofInt_toInt]
  · rw [if_neg hm]
    have h1 : ¬ x.toInt < 0 := by rw [BitVec.msb_eq_toInt] at hm; simpa using hm
    rw [abs_of_nonneg (by omega), W_toInt]

/-- Comparing words with sign compares the integers. -/
theorem slt_eq (x y : BitVec 32) : x.slt y = decide (x.toInt < y.toInt) := rfl

/-- The larger of two words is the larger of the integers. -/
theorem maxsi_toInt (x y : BitVec 32) : (IntOp.maxsi x y).toInt = max x.toInt y.toInt := by
  unfold IntOp.maxsi; rw [slt_eq]
  by_cases h : y.toInt < x.toInt
  · simp [h, max_eq_left h.le]
  · simp [h, max_eq_right (not_lt.mp h)]

/-- The smaller of two words is the smaller of the integers. -/
theorem minsi_toInt (x y : BitVec 32) : (IntOp.minsi x y).toInt = min x.toInt y.toInt := by
  unfold IntOp.minsi; rw [slt_eq]
  by_cases h : x.toInt < y.toInt
  · simp [h, min_eq_left h.le]
  · simp [h, min_eq_right (not_lt.mp h)]

/-- Clipping a word to a range. -/
theorem clip_W (lo hi : BitVec 32) {z : ℤ} (h₁ : -2147483648 ≤ z) (h₂ : z < 2147483648) :
    IntOp.minsi hi (IntOp.maxsi lo (W z)) = W (min hi.toInt (max lo.toInt z)) := by
  rw [← W_toInt (IntOp.minsi _ _), minsi_toInt, maxsi_toInt, toInt_W h₁ h₂]

/-- An arithmetic right shift by an amount below 32 divides, rounding down. -/
theorem shrsi_eq (u : ArithUnit) (x s : BitVec 32) (h : s.toNat < 32) :
    IntOp.shrsi u x s = W (x.toInt / 2 ^ s.toNat) := by
  unfold IntOp.shrsi; rw [if_pos h, BitVec.sshiftRight', BitVec.sshiftRight, Int.shiftRight_eq_div_pow]
  norm_cast

/-- A left shift by an amount below 32 multiplies. -/
theorem shli_eq (u : ArithUnit) (x s : BitVec 32) (h : s.toNat < 32) :
    IntOp.shli u x s = W (x.toInt * 2 ^ s.toNat) := by
  unfold IntOp.shli; rw [if_pos h, BitVec.shiftLeft_eq']
  rw [W, BitVec.ofInt_mul, BitVec.ofInt_toInt]
  apply BitVec.eq_of_toNat_eq
  have : (BitVec.ofInt 32 (2 ^ s.toNat)) = BitVec.ofNat 32 (2 ^ s.toNat) := by
    rw [ofNat_eq_W]; push_cast; rfl
  rw [this, BitVec.toNat_shiftLeft, BitVec.toNat_mul, BitVec.toNat_ofNat, Nat.shiftLeft_eq, Nat.mul_mod_mod]

/-- Right shifts agree on the two units. -/
theorem shrsi_unit (u u' : ArithUnit) (x s : BitVec 32) : IntOp.shrsi u x s = IntOp.shrsi u' x s := by
  unfold IntOp.shrsi IntOp.cornerWord; simp

/-- Left shifts agree on the two units. -/
theorem shli_unit (u u' : ArithUnit) (x s : BitVec 32) : IntOp.shli u x s = IntOp.shli u' x s := by
  unfold IntOp.shli IntOp.cornerWord; simp

/-- Floor division as the host expands it: the truncating quotient, less one where the signs differ and the
    remainder is not zero. -/
def fdiv (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- By a positive divisor it is the integers' floor division. -/
theorem fdiv_eq (a b : BitVec 32) (hb : 0 < b.toInt) : fdiv a b = W (a.toInt / b.toInt) := by
  have hc : ¬ IntOp.SDivCorner a b := by
    rintro (h | ⟨_, h⟩) <;> subst h <;> revert hb <;> decide
  have hq : IntOp.divsi .host a b = W (a.toInt.tdiv b.toInt) := by
    unfold IntOp.divsi; rw [if_neg hc, ← W_toInt (a.sdiv b), BitVec.toInt_sdiv, W, W]
    apply BitVec.eq_of_toInt_eq; rw [BitVec.toInt_ofInt, BitVec.toInt_ofInt, Int.bmod_bmod]
  have hr : (IntOp.remsi .host a b).toInt = a.toInt.tmod b.toInt := by
    unfold IntOp.remsi; rw [if_neg hc, BitVec.toInt_srem]
  have hsb : sgn b = 1#32 := by rw [sgn_eq, Int.sign_eq_one_of_pos hb]; rfl
  unfold fdiv
  rw [hq, hsb]
  have hne : IntOp.cmpi .ne (IntOp.remsi .host a b) 0#32 = BitVec.ofBool (decide (¬ b.toInt ∣ a.toInt)) := by
    unfold IntOp.cmpi
    congr 1
    have : (IntOp.remsi .host a b = 0#32) ↔ b.toInt ∣ a.toInt := by
      rw [← BitVec.toInt_inj, hr]
      exact ⟨fun h => Int.dvd_of_tmod_eq_zero (by simpa using h), fun h => by simpa using Int.tmod_eq_zero_of_dvd h⟩
    simp only [bne, decide_not]
    by_cases hz : IntOp.remsi .host a b = 0#32
    · simp [hz, this.1 hz]
    · have hz' : ¬ b.toInt ∣ a.toInt := fun h => hz (this.2 h)
      rw [decide_eq_false hz', beq_eq_false_iff_ne.2 hz]
  rw [hne, Int.tdiv_eq_ediv]
  by_cases ha : 0 ≤ a.toInt
  · rcases eq_or_lt_of_le ha with ha0 | ha0
    · rw [if_pos (Or.inl ha)]
      have hd : b.toInt ∣ a.toInt := by rw [← ha0]; exact dvd_zero _
      simp [hd, Scalar.select, IntOp.andi]
    · rw [if_pos (Or.inl ha)]
      have : sgn a = 1#32 := by rw [sgn_eq, Int.sign_eq_one_of_pos ha0]; rfl
      simp [this, Scalar.select, IntOp.andi, IntOp.cmpi]
  · by_cases hd : b.toInt ∣ a.toInt
    · rw [if_pos (Or.inr hd)]; simp [hd, Scalar.select, IntOp.andi]
    · rw [if_neg (by tauto)]
      have hs : sgn a = W (-1) := by rw [sgn_eq, Int.sign_eq_neg_one_of_neg (by omega)]
      have hs' : IntOp.cmpi .ne (sgn a) 1#32 = 1#1 := by rw [hs]; decide
      rw [hs', Int.sign_eq_one_of_pos hb, W, BitVec.ofInt_add]
      simp [hd, Scalar.select, IntOp.andi, IntOp.subi, BitVec.add_sub_cancel]

end Cert.Hand

end
-- ==== Proof.Math.Quant.lean ====
/- The dyadic quantiser in integers: for a row (or group) whose largest magnitude is `a`, its bit length, its
   7-bit multiplier, the code of an element; and the reference's word formulas for them. -/
module

public import proofs.«01_k».proof.Proof.Math.Words

@[expose] public section

noncomputable section

namespace Cert.Hand

open Idealize.ShloMosaic

/-- The bit length of `a`. -/
def nb (a : ℕ) : ℕ := Nat.log2 a + 1
/-- `a` shifted left until its top bit is bit 22. -/
def nrm (a : ℕ) : ℕ := a * 2 ^ (23 - nb a)
/-- The multiplier. -/
def qm (a : ℕ) : ℕ := (nrm a + 16256) / 32512
/-- The magnitude of the code of an element of magnitude `X`. -/
def qq (a X : ℕ) : ℕ := (X * 2 ^ (23 - nb a) + 128 * qm a) / (256 * qm a)
/-- The code of the element `x`. -/
def qcode (a : ℕ) (x : ℤ) : ℤ := min 127 (max (-127) (x.sign * (qq a x.natAbs : ℤ)))

/-- A number is at least the power of two of its top bit. -/
theorem two_pow_le {a : ℕ} (h : 1 ≤ a) : 2 ^ (nb a - 1) ≤ a := Nat.log2_self_le (by omega)
/-- A number is below 2 to its bit length. -/
theorem lt_two_pow (a : ℕ) : a < 2 ^ nb a := Nat.lt_log2_self

/-- A number between 1 and 2^23 has 1 to 23 bits. -/
theorem nb_le {a : ℕ} (h : 1 ≤ a) (h2 : a < 8388608) : 1 ≤ nb a ∧ nb a ≤ 23 := by
  refine ⟨by unfold nb; omega, ?_⟩
  by_contra hc
  have := two_pow_le h
  have h3 : 2 ^ 23 ≤ 2 ^ (nb a - 1) := Nat.pow_le_pow_right (by norm_num) (by omega)
  omega

/-- The shifted maximum has its top bit at place 22. -/
theorem nrm_range {a : ℕ} (h : 1 ≤ a) (h2 : a < 8388608) : 4194304 ≤ nrm a ∧ nrm a < 8388608 := by
  obtain ⟨h3, h4⟩ := nb_le h h2
  unfold nrm
  constructor
  · calc 4194304 = 2 ^ (nb a - 1) * 2 ^ (23 - nb a) := by rw [← pow_add, show nb a - 1 + (23 - nb a) = 22 by omega]; norm_num
      _ ≤ _ := Nat.mul_le_mul_right _ (two_pow_le h)
  · calc a * 2 ^ (23 - nb a) < 2 ^ nb a * 2 ^ (23 - nb a) := Nat.mul_lt_mul_of_pos_right (lt_two_pow a) (by positivity)
      _ = 8388608 := by rw [← pow_add, show nb a + (23 - nb a) = 23 by omega]; norm_num

/-- The multiplier lies between 129 and 258. -/
theorem qm_range {a : ℕ} (h : 1 ≤ a) (h2 : a < 8388608) : 129 ≤ qm a ∧ qm a ≤ 258 := by
  obtain ⟨h3, h4⟩ := nrm_range h h2
  unfold qm; omega

/-- An element no larger than the maximum is, shifted alike, no larger than the shifted maximum. -/
theorem scaled_le {a X : ℕ} (hX : X ≤ a) : X * 2 ^ (23 - nb a) ≤ nrm a := Nat.mul_le_mul_right _ hX

/-- A code's magnitude before clipping is small, so no word overflows. -/
theorem qq_le {a X : ℕ} (h : 1 ≤ a) (h2 : a < 8388608) (hX : X ≤ a) : qq a X ≤ 1000 := by
  obtain ⟨h3, h4⟩ := nrm_range h h2
  obtain ⟨h5, h6⟩ := qm_range h h2
  have h7 := scaled_le hX
  unfold qq
  calc (X * 2 ^ (23 - nb a) + 128 * qm a) / (256 * qm a) ≤ (X * 2 ^ (23 - nb a) + 128 * qm a) / (256 * 129) :=
        Nat.div_le_div_left (by omega) (by norm_num)
    _ ≤ 1000 := by omega

/-! ## The reference's words -/

/-- The bit length, as the reference computes it. -/
def refN (r : BitVec 32) : BitVec 32 := IntOp.subi 32#32 (IntOp.ctlz r)
/-- The multiplier, as the reference computes it. -/
def refM (r : BitVec 32) : BitVec 32 :=
  fdiv (IntOp.addi (IntOp.shli .host r (IntOp.subi 23#32 (refN r))) 16256#32) 32512#32
/-- The code's divisor. -/
def refD (r : BitVec 32) : BitVec 32 := IntOp.shli .host (refM r) 8#32
/-- The exponent. -/
def refK (r : BitVec 32) : BitVec 32 := IntOp.addi (IntOp.subi 15#32 (refN r)) 10#32
/-- The code, as the reference computes it. -/
def refCode (r x : BitVec 32) : BitVec 8 :=
  (IntOp.minsi 127#32 (IntOp.maxsi 4294967169#32 (IntOp.muli (sgn x)
    (fdiv (IntOp.addi (IntOp.shli .host (IntOp.absi x) (IntOp.subi 23#32 (refN r))) (IntOp.shrsi .host (refD r) 1#32)) (refD r))))).setWidth 8

/-- The reference's count of leading zeros gives the bit length. -/
theorem refN_eq {r : BitVec 32} (h : 1 ≤ r.toNat) (h2 : r.toNat < 8388608) : refN r = BitVec.ofNat 32 (nb r.toNat) := by
  obtain ⟨h3, h4⟩ := nb_le h h2
  have h0 : r ≠ 0 := by rintro rfl; simp at h
  unfold refN IntOp.subi IntOp.ctlz
  rw [if_neg h0]
  apply BitVec.eq_of_toNat_eq
  rw [BitVec.toNat_sub, toNat_ofNat (by unfold nb at h4; omega), toNat_ofNat (by omega)]
  unfold nb at *
  simp only [BitVec.toNat_ofNat]
  omega

/-- The reference's shift amount is 23 less the bit length. -/
theorem sh_eq {r : BitVec 32} (h : 1 ≤ r.toNat) (h2 : r.toNat < 8388608) :
    (IntOp.subi 23#32 (refN r)).toNat = 23 - nb r.toNat := by
  obtain ⟨h3, h4⟩ := nb_le h h2
  rw [refN_eq h h2]
  unfold IntOp.subi
  rw [BitVec.toNat_sub, toNat_ofNat (by omega)]
  simp only [BitVec.toNat_ofNat]
  omega

/-- The reference's word for the multiplier is the multiplier. -/
theorem refM_eq {r : BitVec 32} (h : 1 ≤ r.toNat) (h2 : r.toNat < 8388608) : refM r = W (qm r.toNat) := by
  obtain ⟨h3, h4⟩ := nb_le h h2
  obtain ⟨h5, h6⟩ := nrm_range h h2
  unfold refM
  rw [shli_eq _ _ _ (by rw [sh_eq h h2]; omega), sh_eq h h2, toInt_eq_toNat (by omega),
    fdiv_eq _ _ (by decide)]
  have e : IntOp.addi (W ((r.toNat : ℤ) * 2 ^ (23 - nb r.toNat))) 16256#32 = W ((nrm r.toNat + 16256 : ℕ) : ℤ) := by
    unfold IntOp.addi nrm; push_cast; rw [W, W, BitVec.ofInt_add]; rfl
  rw [e, toInt_W (by omega) (by omega)]
  unfold qm
  have : (32512#32).toInt = ((32512 : ℕ) : ℤ) := rfl
  rw [this, ← Int.natCast_ediv]

/-- The reference's divisor is 256 times the multiplier. -/
theorem refD_eq {r : BitVec 32} (h : 1 ≤ r.toNat) (h2 : r.toNat < 8388608) : refD r = W ((256 * qm r.toNat : ℕ) : ℤ) := by
  obtain ⟨h5, h6⟩ := qm_range h h2
  unfold refD
  rw [refM_eq h h2, shli_eq _ _ _ (by decide), toInt_W (by omega) (by omega)]
  congr 1
  have : (8#32).toNat = 8 := rfl
  rw [this]; push_cast; ring

/-- The reference's code is the integer quantiser's. -/
theorem refCode_eq {r x : BitVec 32} (h : 1 ≤ r.toNat) (h2 : r.toNat < 8388608) (hx : x.toInt.natAbs ≤ r.toNat) :
    refCode r x = (W (qcode r.toNat x.toInt)).setWidth 8 := by
  obtain ⟨h3, h4⟩ := nb_le h h2
  obtain ⟨h5, h6⟩ := qm_range h h2
  obtain ⟨h7, h8⟩ := nrm_range h h2
  have h9 := scaled_le hx
  have h10 := qq_le h h2 hx
  unfold refCode
  have e1 : IntOp.shli .host (IntOp.absi x) (IntOp.subi 23#32 (refN r)) = W ((x.toInt.natAbs * 2 ^ (23 - nb r.toNat) : ℕ) : ℤ) := by
    rw [absi_eq, Int.abs_eq_natAbs, shli_eq _ _ _ (by rw [sh_eq h h2]; omega), sh_eq h h2, toInt_W (by omega) (by omega)]
    push_cast; rfl
  have e2 : IntOp.shrsi .host (refD r) 1#32 = W ((128 * qm r.toNat : ℕ) : ℤ) := by
    rw [refD_eq h h2, shrsi_eq _ _ _ (by decide), toInt_W (by omega) (by omega)]
    congr 1
    have : (1#32).toNat = 1 := rfl
    rw [this]; omega
  have e3 : fdiv (IntOp.addi (IntOp.shli .host (IntOp.absi x) (IntOp.subi 23#32 (refN r))) (IntOp.shrsi .host (refD r) 1#32)) (refD r)
      = W ((qq r.toNat x.toInt.natAbs : ℕ) : ℤ) := by
    rw [e1, e2, refD_eq h h2, fdiv_eq _ _ (by rw [toInt_W (by omega) (by omega)]; omega)]
    have : IntOp.addi (W ((x.toInt.natAbs * 2 ^ (23 - nb r.toNat) : ℕ) : ℤ)) (W ((128 * qm r.toNat : ℕ) : ℤ))
        = W ((x.toInt.natAbs * 2 ^ (23 - nb r.toNat) + 128 * qm r.toNat : ℕ) : ℤ) := by
      unfold IntOp.addi; rw [Nat.cast_add, W, W, W, BitVec.ofInt_add]
    rw [this, toInt_W (by omega) (by omega), toInt_W (by omega) (by omega), ← Int.natCast_ediv]; rfl
  have hs : -1 ≤ x.toInt.sign ∧ x.toInt.sign ≤ 1 := by
    rcases Int.sign_trichotomy x.toInt with e | e | e <;> rw [e] <;> decide
  have e4 : IntOp.muli (sgn x) (W ((qq r.toNat x.toInt.natAbs : ℕ) : ℤ)) = W (x.toInt.sign * (qq r.toNat x.toInt.natAbs : ℤ)) := by
    unfold IntOp.muli; rw [sgn_eq, W, W, W, BitVec.ofInt_mul]
  have hb : -1000 ≤ x.toInt.sign * (qq r.toNat x.toInt.natAbs : ℤ) ∧ x.toInt.sign * (qq r.toNat x.toInt.natAbs : ℤ) ≤ 1000 := by
    constructor <;> nlinarith
  rw [e3, e4, clip_W _ _ (by omega) (by omega)]
  rfl

end Cert.Hand

end
-- ==== Proof.Math.Real.lean ====
/- The float side over the reals: the values of bit patterns, rounding and conversion of exact values. -/
module

public import proofs.«01_k».proof.Proof.Math.Quant

@[expose] public section

noncomputable section

namespace Cert.Hand

open Idealize.ShloMosaic

/-- A real as an extended real. -/
abbrev R (r : ℝ) : EReal := (r : EReal)

/-- A positive normal single-precision pattern's value, from its exponent and fraction fields. -/
theorem ofBits_pos (b : BitVec 32) (ex fr : ℕ) (h : b.toNat = ex * 8388608 + fr) (h1 : 1 ≤ ex) (h2 : ex ≤ 254) (h3 : fr < 8388608) :
    Ideal.ofBits .f32 b = R ((8388608 + (fr : ℝ)) * (2 : ℝ) ^ ((ex : ℤ) - 150)) := by
  have e1 : (b.extractLsb' (8 + 23) 1) = 0#1 := by
    apply BitVec.eq_of_toNat_eq; rw [BitVec.extractLsb'_toNat, h, Nat.shiftRight_eq_div_pow]; norm_num; omega
  have e2 : (b.extractLsb' 23 8).toNat = ex := by
    rw [BitVec.extractLsb'_toNat, h, Nat.shiftRight_eq_div_pow]; norm_num; omega
  have e3 : (b.extractLsb' 0 23).toNat = fr := by
    rw [BitVec.extractLsb'_toNat, h, Nat.shiftRight_eq_div_pow]; norm_num; omega
  show Ideal.ieee 8 23 b = _
  unfold Ideal.ieee
  simp only [e1, e2, e3]
  rw [if_neg (by omega), if_neg (by omega)]
  have e4 : ((ex : ℤ) - (2 ^ (8 - 1) - 1) - ((23 : ℕ) : ℤ)) = (ex : ℤ) - 150 := by norm_num; ring
  rw [e4]
  congr 2
  push_cast
  norm_num

/-- A negative normal single-precision pattern's value. -/
theorem ofBits_neg (b : BitVec 32) (ex fr : ℕ) (h : b.toNat = 2147483648 + ex * 8388608 + fr) (h1 : 1 ≤ ex) (h2 : ex ≤ 254) (h3 : fr < 8388608) :
    Ideal.ofBits .f32 b = R (-((8388608 + (fr : ℝ)) * (2 : ℝ) ^ ((ex : ℤ) - 150))) := by
  have e1 : (b.extractLsb' (8 + 23) 1) = 1#1 := by
    apply BitVec.eq_of_toNat_eq; rw [BitVec.extractLsb'_toNat, h, Nat.shiftRight_eq_div_pow]; norm_num; omega
  have e2 : (b.extractLsb' 23 8).toNat = ex := by
    rw [BitVec.extractLsb'_toNat, h, Nat.shiftRight_eq_div_pow]; norm_num; omega
  have e3 : (b.extractLsb' 0 23).toNat = fr := by
    rw [BitVec.extractLsb'_toNat, h, Nat.shiftRight_eq_div_pow]; norm_num; omega
  show Ideal.ieee 8 23 b = _
  unfold Ideal.ieee
  simp only [e1, e2, e3]
  rw [if_neg (by omega), if_neg (by omega)]
  have e4 : ((ex : ℤ) - (2 ^ (8 - 1) - 1) - ((23 : ℕ) : ℤ)) = (ex : ℤ) - 150 := by norm_num; ring
  rw [e4]
  congr 1
  push_cast
  norm_num
  ring

/-! ## The constants -/

/-- The float constant of this pattern is 63.5. -/
theorem c_63_5 : Ideal.ofBits .f32 0x427E0000#32 = R 63.5 := by
  rw [ofBits_pos _ 132 8257536 (by decide) (by norm_num) (by norm_num) (by norm_num)]; congr 1; norm_num
/-- The float constant of this pattern is 63.5625. -/
theorem c_63_5625 : Ideal.ofBits .f32 0x427E4000#32 = R 63.5625 := by
  rw [ofBits_pos _ 132 8273920 (by decide) (by norm_num) (by norm_num) (by norm_num)]; congr 1; norm_num
/-- The float constant of this pattern is 1/2. -/
theorem c_half : Ideal.ofBits .f32 0x3F000000#32 = R (1 / 2) := by
  rw [ofBits_pos _ 126 0 (by decide) (by norm_num) (by norm_num) (by norm_num)]; congr 1; norm_num
/-- The float constant of this pattern is 1/4. -/
theorem c_quarter : Ideal.ofBits .f32 0x3E800000#32 = R (1 / 4) := by
  rw [ofBits_pos _ 125 0 (by decide) (by norm_num) (by norm_num) (by norm_num)]; congr 1; norm_num
/-- The float constant of this pattern is 1. -/
theorem c_one : Ideal.ofBits .f32 0x3F800000#32 = R 1 := by
  rw [ofBits_pos _ 127 0 (by decide) (by norm_num) (by norm_num) (by norm_num)]; congr 1; norm_num
/-- The float constant of this pattern is 127. -/
theorem c_127 : Ideal.ofBits .f32 0x42FE0000#32 = R 127 := by
  rw [ofBits_pos _ 133 8257536 (by decide) (by norm_num) (by norm_num) (by norm_num)]; congr 1; norm_num
/-- The float constant of this pattern is -127. -/
theorem c_neg127 : Ideal.ofBits .f32 0xC2FE0000#32 = R (-127) := by
  rw [ofBits_neg _ 133 8257536 (by decide) (by norm_num) (by norm_num) (by norm_num)]; congr 1; norm_num
/-- The float constant of this pattern is 4095. -/
theorem c_4095 : Ideal.ofBits .f32 0x457FF000#32 = R 4095 := by
  rw [ofBits_pos _ 138 8384512 (by decide) (by norm_num) (by norm_num) (by norm_num)]; congr 1; norm_num
/-- The float constant of this pattern is -4095. -/
theorem c_neg4095 : Ideal.ofBits .f32 0xC57FF000#32 = R (-4095) := by
  rw [ofBits_neg _ 138 8384512 (by decide) (by norm_num) (by norm_num) (by norm_num)]; congr 1; norm_num
/-- The float constant of this pattern is 4096. -/
theorem c_4096 : Ideal.ofBits .f32 0x45800000#32 = R 4096 := by
  rw [ofBits_pos _ 139 0 (by decide) (by norm_num) (by norm_num) (by norm_num)]; congr 1; norm_num
/-- The float constant of this pattern is 1/64. -/
theorem c_64th : Ideal.ofBits .f32 0x3C800000#32 = R (1 / 64) := by
  rw [ofBits_pos _ 121 0 (by decide) (by norm_num) (by norm_num) (by norm_num)]; congr 1; norm_num
/-- The constant the kernel divides by 127 with: a little below 1/127. -/
theorem c_127th : Ideal.ofBits .f32 0x3C010204#32 = R (268435455 / (127 * 268435456)) := by
  rw [ofBits_pos _ 120 66052 (by decide) (by norm_num) (by norm_num) (by norm_num)]; congr 1; norm_num
/-- The float constant of this pattern is 0. -/
theorem c_zero : Ideal.ofBits .f32 0x00000000#32 = R 0 := by simp [Ideal.ofBits, Ideal.ieee]

/-! ## Rounding and conversion -/

/-- The floor of a real is the integer floor. -/
theorem floor_R (r : ℝ) : Ideal.liftRound Int.floor (R r) = R (⌊r⌋ : ℤ) := rfl
/-- Rounding a real is rounding half to even. -/
theorem round_R (r : ℝ) : Ideal.liftRound Ideal.roundHalfEven (R r) = R (Ideal.roundHalfEven r : ℤ) := rfl

/-- A value strictly within a half of an integer rounds to it. -/
theorem roundHalfEven_eq {r : ℝ} {q : ℤ} (h1 : (q : ℝ) - 1 / 2 < r) (h2 : r < q + 1 / 2) : Ideal.roundHalfEven r = q := by
  unfold Ideal.roundHalfEven
  by_cases h : (q : ℝ) ≤ r
  · have hf : ⌊r⌋ = q := Int.floor_eq_iff.2 ⟨h, by linarith⟩
    simp only [hf]; rw [if_pos (by linarith)]
  · have hf : ⌊r⌋ = q - 1 := Int.floor_eq_iff.2 ⟨by push_cast; linarith, by push_cast; linarith⟩
    simp only [hf]; push_cast
    rw [if_neg (by linarith), if_pos (by linarith)]; ring

/-- An integer rounds to itself. -/
theorem roundHalfEven_int (q : ℤ) : Ideal.roundHalfEven (q : ℝ) = q := roundHalfEven_eq (by linarith) (by linarith)

/-- Converting an integer's exact value to a word. -/
theorem fptosi_int {z : ℤ} (h1 : -2147483648 ≤ z) (h2 : z < 2147483648) :
    (BitVec.ofInt 32 (Ideal.toIntClamped (-(2 ^ (32 - 1))) (2 ^ (32 - 1) - 1) (R (z : ℝ)))) = W z := by
  rw [Ideal.toIntClamped_coe, Int.floor_intCast, Int.ceil_intCast, ite_self]
  congr 1
  norm_num
  omega

/-- The larger of two reals, in the float type. -/
theorem R_max (x y : ℝ) : max (R x) (R y) = R (max x y) := (EReal.coe_strictMono.monotone.map_max).symm
/-- The smaller of two reals, in the float type. -/
theorem R_min (x y : ℝ) : min (R x) (R y) = R (min x y) := (EReal.coe_strictMono.monotone.map_min).symm
/-- Adding reals in the float type. -/
theorem R_add (x y : ℝ) : R x + R y = R (x + y) := (EReal.coe_add x y).symm
/-- Multiplying reals in the float type. -/
theorem R_mul (x y : ℝ) : R x * R y = R (x * y) := (EReal.coe_mul x y).symm
/-- Subtracting reals in the float type. -/
theorem R_sub (x y : ℝ) : R x - R y = R (x - y) := (EReal.coe_sub x y).symm
/-- The absolute value of a real in the float type. -/
theorem R_abs (x : ℝ) : max (R x) (-R x) = R |x| := by rw [← EReal.coe_neg, R_max]; rfl
/-- Dividing by a real that is not zero, in the float type. -/
theorem R_div (x : ℝ) {y : ℝ} (h : y ≠ 0) : Ideal.div (R x) (R y) = R (x / y) := by
  rw [Ideal.div_coe h, R_mul]; congr 1; ring

end Cert.Hand

end
-- ==== Proof.Math.QuantReal.lean ====
/- The kernel's two quantisers over the reals: the row quantiser's and the group quantiser's scalar formulas, and
   that each gives the integer quantiser's multiplier, exponent and codes. -/
module

public import proofs.«01_k».proof.Proof.Math.Real

@[expose] public section

noncomputable section

namespace Cert.Hand

open Idealize.ShloMosaic

/-! ## The bit pattern of the row maximum -/

/-- The bit length of `a`, in the kernel's words. -/
def kLen (a : BitVec 32) : BitVec 32 := IntOp.subi 32#32 (IntOp.ctlz a)
/-- The single-precision pattern of the integer `a`, built from its bit length. -/
def kBits (a : BitVec 32) : BitVec 32 :=
  IntOp.ori (IntOp.shli .vector (IntOp.addi (kLen a) 126#32) 23#32)
    (IntOp.andi (IntOp.shli .vector a (IntOp.subi 24#32 (kLen a))) 8388607#32)

/-- The integer with its top bit at bit 23, less that bit. -/
theorem frac_range {a : ℕ} (h : 1 ≤ a) (h2 : a < 8388608) : 2 * nrm a - 8388608 < 8388608 ∧ 8388608 ≤ 2 * nrm a := by
  obtain ⟨h3, h4⟩ := nrm_range h h2
  omega

/-- The fraction mask keeps the low 23 bits. -/
theorem and_mask (x : BitVec 32) : (IntOp.andi x 8388607#32).toNat = x.toNat % 8388608 := by
  unfold IntOp.andi
  rw [BitVec.toNat_and]
  exact Nat.and_two_pow_sub_one_eq_mod x.toNat 23

/-- Joining an exponent field and a fraction with `or` adds them. -/
theorem or_toNat (e f : ℕ) (x y : BitVec 32) (hx : x.toNat = e * 8388608) (hy : y.toNat = f) (hf : f < 8388608) :
    (IntOp.ori x y).toNat = e * 8388608 + f := by
  unfold IntOp.ori
  rw [BitVec.toNat_or, hx, hy, show e * 8388608 = e <<< 23 by rw [Nat.shiftLeft_eq],
    Nat.shiftLeft_add_eq_or_of_lt (by omega)]

/-- The pattern of `a` as a number: exponent field of the bit length, then the shifted `a` without its top bit. -/
theorem kBits_toNat {a : BitVec 32} (h : 1 ≤ a.toNat) (h2 : a.toNat < 8388608) :
    (kBits a).toNat = (nb a.toNat + 126) * 8388608 + (2 * nrm a.toNat - 8388608) := by
  obtain ⟨h3, h4⟩ := nb_le h h2
  obtain ⟨h5, h6⟩ := frac_range h h2
  obtain ⟨h7, h8⟩ := nrm_range h h2
  have hl : kLen a = BitVec.ofNat 32 (nb a.toNat) := refN_eq h h2
  have h24 : (IntOp.subi 24#32 (kLen a)).toNat = 24 - nb a.toNat := by
    rw [hl]; unfold IntOp.subi
    rw [BitVec.toNat_sub, toNat_ofNat (by omega)]
    simp only [BitVec.toNat_ofNat]
    omega
  unfold kBits
  apply or_toNat
  · rw [hl, shli_eq _ _ _ (by decide)]
    have e : IntOp.addi (BitVec.ofNat 32 (nb a.toNat)) 126#32 = W ((nb a.toNat + 126 : ℕ) : ℤ) := by
      rw [← ofNat_eq_W]; unfold IntOp.addi; rw [BitVec.ofNat_add]
    rw [e, toInt_W (by omega) (by omega)]
    have : (23#32).toNat = 23 := rfl
    rw [this, show (((nb a.toNat + 126 : ℕ) : ℤ) * 2 ^ 23) = (((nb a.toNat + 126) * 8388608 : ℕ) : ℤ) by push_cast; ring,
      ← ofNat_eq_W, toNat_ofNat (by omega)]
  · rw [and_mask, shli_eq _ _ _ (by rw [h24]; omega), h24, toInt_eq_toNat (by omega)]
    have : ((a.toNat : ℤ) * 2 ^ (24 - nb a.toNat)) = ((2 * nrm a.toNat : ℕ) : ℤ) := by
      unfold nrm
      rw [show 24 - nb a.toNat = (23 - nb a.toNat) + 1 by omega, pow_succ]; push_cast; ring
    rw [this, ← ofNat_eq_W, toNat_ofNat (by omega)]
    omega
  · exact h5

/-- The pattern's exponent field. -/
theorem kExpo_eq {a : BitVec 32} (h : 1 ≤ a.toNat) (h2 : a.toNat < 8388608) :
    IntOp.shrsi .vector (kBits a) 23#32 = W ((nb a.toNat + 126 : ℕ) : ℤ) := by
  obtain ⟨h3, h4⟩ := nb_le h h2
  obtain ⟨h5, h6⟩ := frac_range h h2
  have hb := kBits_toNat h h2
  rw [shrsi_eq _ _ _ (by decide), toInt_eq_toNat (by omega), hb]
  congr 1
  have : (23#32).toNat = 23 := rfl
  rw [this, show (2 : ℤ) ^ 23 = 8388608 by norm_num]
  omega

/-- The pattern with its exponent replaced: the value shifted left until its top bit is bit 22, over 256. -/
theorem kScaled_eq {a : BitVec 32} (h : 1 ≤ a.toNat) (h2 : a.toNat < 8388608) :
    Ideal.ofBits .f32 (IntOp.ori (IntOp.andi (kBits a) 8388607#32) 1182793728#32) = R ((nrm a.toNat : ℝ) / 256) := by
  obtain ⟨h5, h6⟩ := frac_range h h2
  have hb := kBits_toNat h h2
  have e : (IntOp.ori (IntOp.andi (kBits a) 8388607#32) 1182793728#32).toNat = 141 * 8388608 + (2 * nrm a.toNat - 8388608) := by
    have : IntOp.ori (IntOp.andi (kBits a) 8388607#32) 1182793728#32 = IntOp.ori 1182793728#32 (IntOp.andi (kBits a) 8388607#32) :=
      BitVec.or_comm _ _
    rw [this]
    apply or_toNat _ _ _ _ (by decide) _ h5
    rw [and_mask, hb]; omega
  rw [ofBits_pos _ 141 _ e (by norm_num) (by norm_num) h5]
  congr 1
  rw [Nat.cast_sub h6]
  push_cast
  norm_num
  ring

/-! ## The row quantiser -/

/-- A floor, from its two bounds. -/
theorem floor_nat {y : ℝ} {k : ℕ} (h : (k : ℝ) ≤ y) (h' : y < (k : ℝ) + 1) : ⌊y⌋ = (k : ℤ) := by
  rw [Int.floor_eq_iff, Int.cast_natCast]
  exact ⟨h, h'⟩

/-- The kernel's multiplier, as a float. -/
def kM (b : BitVec 32) : EReal :=
  Ideal.liftRound Int.floor ((Ideal.liftRound Int.floor
    (Ideal.ofBits .f32 (IntOp.ori (IntOp.andi b 8388607#32) 1182793728#32) + Ideal.ofBits .f32 0x427E0000#32)
      + Ideal.ofBits .f32 0x3F000000#32) * Ideal.ofBits .f32 0x3C010204#32)

/-- The kernel's float multiplier is the reference's integer one. -/
theorem kM_eq {a : BitVec 32} (h : 1 ≤ a.toNat) (h2 : a.toNat < 8388608) : kM (kBits a) = R (qm a.toNat : ℝ) := by
  obtain ⟨h3, h4⟩ := nrm_range h h2
  unfold kM
  rw [kScaled_eq h h2, c_63_5, c_half, c_127th, R_add, floor_R, R_add, R_mul, floor_R]
  have hz : ⌊(nrm a.toNat : ℝ) / 256 + 63.5⌋ = (((nrm a.toNat + 16256) / 256 : ℕ) : ℤ) := by
    have e := Nat.div_add_mod (nrm a.toNat + 16256) 256
    have e2 := Nat.mod_lt (nrm a.toNat + 16256) (show 0 < 256 by norm_num)
    have e' : (256 : ℝ) * (((nrm a.toNat + 16256) / 256 : ℕ) : ℝ) + ((nrm a.toNat + 16256) % 256 : ℕ) = nrm a.toNat + 16256 := by exact_mod_cast e
    have e2' : (((nrm a.toNat + 16256) % 256 : ℕ) : ℝ) < 256 := by exact_mod_cast e2
    have e3 : (0 : ℝ) ≤ (((nrm a.toNat + 16256) % 256 : ℕ) : ℝ) := Nat.cast_nonneg _
    apply floor_nat <;> push_cast at e' <;> linarith
  rw [hz, Int.cast_natCast]
  rw [show ((qm a.toNat : ℕ) : ℝ) = (((qm a.toNat : ℕ) : ℤ) : ℝ) from (Int.cast_natCast _).symm]
  congr 2
  have hq : qm a.toNat = (nrm a.toNat + 16256) / 256 / 127 := by unfold qm; rw [Nat.div_div_eq_div_mul]
  have hm := qm_range h h2
  generalize (nrm a.toNat + 16256) / 256 = z at *
  have e := Nat.div_add_mod z 127
  have e2 := Nat.mod_lt z (show 0 < 127 by norm_num)
  rw [← hq] at e
  have e' : (127 : ℝ) * (qm a.toNat : ℝ) + ((z % 127 : ℕ) : ℝ) = (z : ℝ) := by exact_mod_cast e
  have e2' : ((z % 127 : ℕ) : ℝ) ≤ 126 := by exact_mod_cast Nat.le_of_lt_succ e2
  have e3 : (0 : ℝ) ≤ ((z % 127 : ℕ) : ℝ) := Nat.cast_nonneg _
  have e4 : (qm a.toNat : ℝ) ≤ 258 := by exact_mod_cast hm.2
  have e5 : (0 : ℝ) ≤ (qm a.toNat : ℝ) := Nat.cast_nonneg _
  apply floor_nat <;> linarith

/-- The kernel's code of one element: from the exponent field, the multiplier and the element. -/
def kCode (e : BitVec 32) (m : EReal) (x : BitVec 32) : BitVec 8 :=
  let v : EReal := (x.toInt : ℝ)
  let q : EReal := Ideal.liftRound Int.floor ((Ideal.liftRound Int.floor
    (max v (-v) * Ideal.ofBits .f32 (IntOp.shli .vector (IntOp.subi 268#32 e) 23#32) + m * Ideal.ofBits .f32 0x3F000000#32)
      + Ideal.ofBits .f32 0x3F000000#32) * Ideal.div (Ideal.ofBits .f32 0x3F800000#32) m)
  (BitVec.ofInt 32 (Ideal.toIntClamped (-(2 ^ (32 - 1))) (2 ^ (32 - 1) - 1)
    (min (Ideal.ofBits .f32 0x42FE0000#32) (max (Ideal.ofBits .f32 0xC2FE0000#32)
      (Scalar.select (Ideal.cmp .olt v (Ideal.ofBits .f32 0x00000000#32)) (Ideal.ofBits .f32 0x00000000#32 - q) q))))).setWidth 8

/-- The scale's pattern is a power of two. -/
theorem kPow_eq {n : ℕ} (h3 : 1 ≤ n) (h4 : n ≤ 23) :
    Ideal.ofBits .f32 (IntOp.shli .vector (IntOp.subi 268#32 (W ((n + 126 : ℕ) : ℤ))) 23#32) = R (2 ^ (23 - n) / 256) := by
  have e1 : IntOp.subi 268#32 (W ((n + 126 : ℕ) : ℤ)) = W ((142 - n : ℕ) : ℤ) := by
    rw [← ofNat_eq_W, ← ofNat_eq_W]
    apply BitVec.eq_of_toNat_eq
    unfold IntOp.subi
    rw [BitVec.toNat_sub, toNat_ofNat (by omega), toNat_ofNat (by omega)]
    simp only [BitVec.toNat_ofNat]
    omega
  have e2 : (IntOp.shli .vector (IntOp.subi 268#32 (W ((n + 126 : ℕ) : ℤ))) 23#32).toNat = (142 - n) * 8388608 + 0 := by
    rw [e1, shli_eq _ _ _ (by decide), toInt_W (by omega) (by omega)]
    have : (23#32).toNat = 23 := rfl
    rw [this, show (((142 - n : ℕ) : ℤ) * 2 ^ 23) = (((142 - n) * 8388608 : ℕ) : ℤ) by
        rw [Nat.cast_mul]; rfl, ← ofNat_eq_W, toNat_ofNat (by omega), Nat.add_zero]
  rw [ofBits_pos _ _ _ e2 (by omega) (by omega) (by norm_num)]
  refine congrArg R ?_
  have : ((142 - n : ℕ) : ℤ) - 150 = ((23 - n : ℕ) : ℤ) - 31 := by omega
  rw [this, zpow_sub₀ (by norm_num), zpow_natCast]
  norm_num
  ring

/-- The quotient of naturals, as the floor of a product with a reciprocal. -/
theorem floor_div_eq (t m : ℕ) (hm : 0 < m) : ⌊((t : ℝ) + 1 / 2) * (1 / (m : ℝ))⌋ = ((t / m : ℕ) : ℤ) := by
  have e := Nat.div_add_mod t m
  have e2 := Nat.mod_lt t hm
  have e' : (m : ℝ) * ((t / m : ℕ) : ℝ) + ((t % m : ℕ) : ℝ) = (t : ℝ) := by exact_mod_cast e
  have e2' : ((t % m : ℕ) : ℝ) + 1 ≤ (m : ℝ) := by exact_mod_cast e2
  have e3 : (0 : ℝ) ≤ ((t % m : ℕ) : ℝ) := Nat.cast_nonneg _
  have hm' : (0 : ℝ) < m := by exact_mod_cast hm
  rw [mul_one_div]
  apply floor_nat
  · rw [le_div_iff₀ hm']; linarith
  · rw [div_lt_iff₀ hm']; linarith

/-- Clipping a whole real to -127..127 is clipping the integer. -/
theorem clip_real (z : ℤ) : min (R 127) (max (R (-127)) (R (z : ℝ))) = R ((min 127 (max (-127) z) : ℤ) : ℝ) := by
  rw [R_max, R_min]; congr 1; push_cast; rfl

/-- The kernel's code of an input element is the reference's. -/
theorem kCode_eq {a x : BitVec 32} (h : 1 ≤ a.toNat) (h2 : a.toNat < 8388608) (hx : x.toInt.natAbs ≤ a.toNat) :
    kCode (W ((nb a.toNat + 126 : ℕ) : ℤ)) (R (qm a.toNat : ℝ)) x = (W (qcode a.toNat x.toInt)).setWidth 8 := by
  obtain ⟨h3, h4⟩ := nb_le h h2
  obtain ⟨h5, h6⟩ := qm_range h h2
  have hm0 : (qm a.toNat : ℝ) ≠ 0 := by have : 0 < qm a.toNat := by omega
                                        positivity
  unfold kCode
  simp only
  rw [kPow_eq h3 h4, c_half, c_one, c_127, c_neg127, c_zero]
  have hv : (((x.toInt : ℝ)) : EReal) = R (x.toInt : ℝ) := rfl
  rw [hv, R_abs, R_mul, R_mul, R_add, floor_R, R_add, R_div _ hm0, R_mul, floor_R]
  have ha : |(x.toInt : ℝ)| = ((x.toInt.natAbs : ℕ) : ℝ) := by rw [Nat.cast_natAbs, Int.cast_abs]
  have ht : ⌊|(x.toInt : ℝ)| * (2 ^ (23 - nb a.toNat) / 256) + (qm a.toNat : ℝ) * (1 / 2)⌋
      = (((x.toInt.natAbs * 2 ^ (23 - nb a.toNat) + 128 * qm a.toNat) / 256 : ℕ) : ℤ) := by
    rw [ha]
    generalize x.toInt.natAbs = X
    have e : ((X * 2 ^ (23 - nb a.toNat) + 128 * qm a.toNat : ℕ) : ℝ) = 256 * ((X : ℝ) * (2 ^ (23 - nb a.toNat) / 256) + (qm a.toNat : ℝ) * (1 / 2)) := by
      push_cast; ring
    generalize (X : ℝ) * (2 ^ (23 - nb a.toNat) / 256) + (qm a.toNat : ℝ) * (1 / 2) = y at *
    generalize X * 2 ^ (23 - nb a.toNat) + 128 * qm a.toNat = t at *
    have e0 := Nat.div_add_mod t 256
    have e2 := Nat.mod_lt t (show 0 < 256 by norm_num)
    have e' : (256 : ℝ) * ((t / 256 : ℕ) : ℝ) + ((t % 256 : ℕ) : ℝ) = (t : ℝ) := by exact_mod_cast e0
    have e2' : ((t % 256 : ℕ) : ℝ) < 256 := by exact_mod_cast e2
    have e3 : (0 : ℝ) ≤ ((t % 256 : ℕ) : ℝ) := Nat.cast_nonneg _
    apply floor_nat <;> linarith
  rw [ht]
  have hq := floor_div_eq ((x.toInt.natAbs * 2 ^ (23 - nb a.toNat) + 128 * qm a.toNat) / 256) (qm a.toNat) (by omega)
  rw [Int.cast_natCast, hq]
  have hqq : (x.toInt.natAbs * 2 ^ (23 - nb a.toNat) + 128 * qm a.toNat) / 256 / qm a.toNat = qq a.toNat x.toInt.natAbs := by
    unfold qq; rw [Nat.div_div_eq_div_mul]
  rw [hqq]
  have hsel : Scalar.select (Ideal.cmp .olt (R (x.toInt : ℝ)) (R 0)) (R 0 - R (((qq a.toNat x.toInt.natAbs : ℕ) : ℤ) : ℝ))
      (R (((qq a.toNat x.toInt.natAbs : ℕ) : ℤ) : ℝ)) = R ((x.toInt.sign * (qq a.toNat x.toInt.natAbs : ℤ) : ℤ) : ℝ) := by
    by_cases hn : x.toInt < 0
    · have hc : Ideal.cmp .olt (R (x.toInt : ℝ)) (R 0) = 1#1 := by
        have : R (x.toInt : ℝ) < R 0 := EReal.coe_lt_coe_iff.2 (by exact_mod_cast hn)
        simp [Ideal.cmp, hn]
      rw [hc, Int.sign_eq_neg_one_of_neg hn, R_sub]
      simp [Scalar.select]
    · have hc : Ideal.cmp .olt (R (x.toInt : ℝ)) (R 0) = 0#1 := by
        have : ¬ R (x.toInt : ℝ) < R 0 := fun hh => hn (by exact_mod_cast EReal.coe_lt_coe_iff.1 hh)
        simp [Ideal.cmp, hn]
      rw [hc]
      rcases eq_or_lt_of_le (not_lt.1 hn) with h0 | h0
      · have : qq a.toNat x.toInt.natAbs = 0 := by
          unfold qq; rw [← h0]; apply Nat.div_eq_of_lt; simp; omega
        rw [this]; simp [Scalar.select]
      · rw [Int.sign_eq_one_of_pos h0]; simp [Scalar.select]
  rw [hsel, clip_real, fptosi_int (by omega) (by omega)]
  rfl

end Cert.Hand

end
-- ==== Proof.Math.RowMax.lean ====
/- The largest absolute value of a family, at least 1: what it is, that it is unique, and the folds that compute
   it — in words, from the least word, and in floats, from minus infinity. -/
module

public import proofs.«01_k».proof.Proof.Math.QuantReal

@[expose] public section

noncomputable section

namespace Cert.Hand

open Idealize.ShloMosaic

/-- `r` is the largest absolute value in `S`, or 1 if that is larger. -/
def IsMaxOf (r : ℕ) (S : Set ℤ) : Prop := 1 ≤ r ∧ (∀ z ∈ S, z.natAbs ≤ r) ∧ (r = 1 ∨ ∃ z ∈ S, z.natAbs = r)

/-- A set has one largest absolute value. -/
theorem IsMaxOf.unique {r r' : ℕ} {S : Set ℤ} (h : IsMaxOf r S) (h' : IsMaxOf r' S) : r = r' := by
  obtain ⟨h1, h2, h3⟩ := h
  obtain ⟨h1', h2', h3'⟩ := h'
  apply Nat.le_antisymm
  · rcases h3 with h3 | ⟨z, hz, h3⟩
    · omega
    · rw [← h3]; exact h2' z hz
  · rcases h3' with h3 | ⟨z, hz, h3⟩
    · omega
    · rw [← h3]; exact h2 z hz

/-- The largest absolute value is below every bound of the set that is above 1. -/
theorem IsMaxOf.lt {r b : ℕ} {S : Set ℤ} (h : IsMaxOf r S) (hb : 1 < b) (hS : ∀ z ∈ S, z.natAbs < b) : r < b := by
  rcases h.2.2 with h3 | ⟨z, hz, h3⟩
  · omega
  · rw [← h3]; exact hS z hz

/-- A fold of the signed maximum bounds its start and its terms, and is one of them. -/
theorem foldl_maxsi {ι : Type*} (f : ι → BitVec 32) : ∀ (l : List ι) (a : BitVec 32),
    a.toInt ≤ (l.foldl (fun r n => IntOp.maxsi r (f n)) a).toInt
      ∧ (∀ i ∈ l, (f i).toInt ≤ (l.foldl (fun r n => IntOp.maxsi r (f n)) a).toInt)
      ∧ ((l.foldl (fun r n => IntOp.maxsi r (f n)) a).toInt = a.toInt
          ∨ ∃ i ∈ l, (l.foldl (fun r n => IntOp.maxsi r (f n)) a).toInt = (f i).toInt)
  | [], a => ⟨le_refl _, fun _ h => absurd h (by simp), .inl rfl⟩
  | i :: l, a => by
    obtain ⟨h1, h2, h3⟩ := foldl_maxsi f l (IntOp.maxsi a (f i))
    rw [maxsi_toInt] at h1 h3
    rw [List.foldl_cons]
    refine ⟨le_trans (le_max_left _ _) h1, ?_, ?_⟩
    · intro j hj
      rcases List.mem_cons.1 hj with rfl | hj
      · exact le_trans (le_max_right _ _) h1
      · exact h2 j hj
    · rcases h3 with h3 | ⟨j, hj, h3⟩
      · rcases max_choice a.toInt (f i).toInt with hc | hc
        · exact .inl (h3.trans hc)
        · exact .inr ⟨i, List.mem_cons_self, h3.trans hc⟩
      · exact .inr ⟨j, List.mem_cons_of_mem _ hj, h3⟩

/-- The host's maximum of absolute values over the entries that drop to one index, at least 1. -/
theorem hostMax_isMaxOf {s t u : Shape} {dims : List (Fin s.rank)} (x : s.Idx → BitVec 32) (init : u.Idx → BitVec 32)
    (hi : ∀ i, init i = 2147483648#32) (h : s.ReducesTo dims t) (hu : 0 < u.numel) (j : t.Idx)
    (hx : ∀ i, (x i).toInt.natAbs < 8388608) :
    ∃ r : ℕ, IntOp.maxsi (Host.reduce IntOp.maxsi (fun i => IntOp.absi (x i)) init h hu j) 1#32 = BitVec.ofNat 32 r
      ∧ IsMaxOf r {z | ∃ i, h.drop i = j ∧ z = (x i).toInt} ∧ r < 8388608 := by
  have hW : ∀ i, (IntOp.absi (x i)).toInt = ((x i).toInt.natAbs : ℤ) := by
    intro i
    have := hx i
    rw [absi_eq, Int.abs_eq_natAbs, toInt_W (by omega) (by omega)]
  unfold Host.reduce
  obtain ⟨h1, h2, h3⟩ := foldl_maxsi (fun n => IntOp.absi (x (s.rowMajor.symm n)))
    ((List.finRange s.numel).filter fun n => h.drop (s.rowMajor.symm n) = j) (init (Shape.Idx.first hu))
  generalize ((List.finRange s.numel).filter fun n => h.drop (s.rowMajor.symm n) = j).foldl
    (fun r n => IntOp.maxsi r (IntOp.absi (x (s.rowMajor.symm n)))) (init (Shape.Idx.first hu)) = m at *
  have hi' : (init (Shape.Idx.first hu)).toInt = -2147483648 := by rw [hi]; rfl
  have e1 : (1#32 : BitVec 32).toInt = 1 := rfl
  have hmax : (IntOp.maxsi m 1#32).toInt = max m.toInt 1 := by rw [maxsi_toInt, e1]
  have key : IsMaxOf (max m.toInt 1).toNat {z | ∃ i, h.drop i = j ∧ z = (x i).toInt} := by
    refine ⟨by omega, ?_, ?_⟩
    · rintro z ⟨i, hd, rfl⟩
      have := h2 (s.rowMajor i) (List.mem_filter.2 ⟨List.mem_finRange _, by simpa using hd⟩)
      simp only [Equiv.symm_apply_apply, hW] at this
      omega
    · rcases h3 with h3 | ⟨n, hn, h3⟩
      · left; rw [h3, hi']; rfl
      · simp only [hW] at h3
        by_cases hz : (x (s.rowMajor.symm n)).toInt.natAbs = 0
        · left; rw [h3, hz]; rfl
        · refine .inr ⟨_, ⟨s.rowMajor.symm n, by simpa using (List.mem_filter.1 hn).2, rfl⟩, ?_⟩
          rw [h3]; omega
  refine ⟨_, ?_, key, key.lt (by norm_num) ?_⟩
  · rw [← W_toInt (IntOp.maxsi m 1#32), hmax, ofNat_eq_W]
    congr 1; omega
  · rintro z ⟨i, _, rfl⟩; exact hx i

/-- The float maximum of naturals from minus infinity, at least 1. -/
theorem fold_max_nat {ι : Type*} (z : ι → ℕ) (s : Finset ι) :
    ∃ r : ℕ, max (s.fold max (Ideal.ofBits .f32 0xFF800000#32) (fun i => R (z i : ℝ))) (R 1) = R (r : ℝ)
      ∧ 1 ≤ r ∧ (∀ i ∈ s, z i ≤ r) ∧ (r = 1 ∨ ∃ i ∈ s, z i = r) := by
  classical
  induction s using Finset.induction_on with
  | empty =>
    refine ⟨1, ?_, le_refl _, fun _ h => absurd h (by simp), .inl rfl⟩
    have : Ideal.ofBits .f32 0xFF800000#32 = ⊥ := by simp [Ideal.ofBits, Ideal.ieee]
    rw [Finset.fold_empty, this, max_eq_right bot_le]; norm_num
  | insert a s ha ih =>
    obtain ⟨r, h1, h2, h3, h4⟩ := ih
    refine ⟨max (z a) r, ?_, by omega, ?_, ?_⟩
    · rw [Finset.fold_insert ha, max_assoc, h1, R_max]; congr 1; push_cast; rfl
    · intro i hi
      rcases Finset.mem_insert.1 hi with rfl | hi
      · exact le_max_left _ _
      · exact le_trans (h3 i hi) (le_max_right _ _)
    · rcases max_choice (z a) r with hc | hc
      · exact .inr ⟨a, Finset.mem_insert_self _ _, hc.symm⟩
      · rw [hc]
        rcases h4 with h4 | ⟨i, hi, h4⟩
        · exact .inl h4
        · exact .inr ⟨i, Finset.mem_insert_of_mem hi, h4⟩

end Cert.Hand

end
-- ==== Proof.KernelIdeal.QuantVal.lean ====
/- The first kernel call's blocks over the reals: each row's multiplier, exponent and codes are the integer
   quantiser's at the row's largest absolute value. -/
module

public import proofs.«01_k».proof.Proof.KernelIdeal.QuantBody
public import proofs.«01_k».proof.Proof.Math.RowMax
public import Idealize.ShloMosaic.Lib.Pointwise.Index
public import Idealize.ShloMosaic.Lib.Pipeline.Value
public import Idealize.ShloMosaic.PureOps.Ideal.Laws

@[expose] public section

set_option maxRecDepth 16384

noncomputable section

namespace Cert.KernelIdeal.Hand

open Idealize.ShloMosaic Cert.KernelIdeal.Gen Cert.Hand

/-- The integers of one row of a block. -/
def rowSet (X : Vec Ideal S64x16384 .i32) (i : Fin 64) : Set ℤ :=
  {z | ∃ j : Fin 16384, z = BitVec.toInt (X (ix2 (n0 := 64) (n1 := 16384) i j) : BitVec 32)}

/-- The maximum loop makes 32 trips. -/
theorem trips0_1 : k0_t1_loop.trips = 32 := rfl

/-- Trip `k` of the maximum loop starts at column 512 k. -/
theorem k0_off1_eq (k : Fin k0_t1_loop.trips) : k0_off1 k = ![0, 512 * k.val] := by
  revert k; decide

/-- A chunk's lane is the block's column `512 k + lane`. -/
theorem qChunk1_apply (X : Vec Ideal S64x16384 .i32) (k : Fin k0_t1_loop.trips) (i : Fin 64) (l : Fin 512) :
    qChunk1 X k (ix2 i l) = X (ix2 (n0 := 64) (n1 := 16384) i ⟨512 * k.val + l.val, by
      have : k.val < 32 := k.isLt
      have := l.isLt
      omega⟩) := by
  refine congrArg X (funext fun a => Fin.ext ?_)
  match a with
  | ⟨0, _⟩ => show k0_off1 k 0 + 1 * i.val = i.val; rw [k0_off1_eq]; show 0 + 1 * i.val = i.val; omega
  | ⟨1, _⟩ => show k0_off1 k 1 + 1 * l.val = 512 * k.val + l.val; rw [k0_off1_eq]; show 512 * k.val + 1 * l.val = _; omega

/-- An element of trip `k`'s chunk of the input block. -/
theorem qChunk2_apply (X : Vec Ideal S64x16384 .i32) (k : Fin k0_t2_loop.trips) (i : Fin 64) (l : Fin 512) :
    qChunk2 X k (ix2 i l) = X (ix2 (n0 := 64) (n1 := 16384) i ⟨512 * k.val + l.val, by
      have : k.val < 32 := k.isLt
      have := l.isLt
      omega⟩) := by
  refine congrArg X (funext fun a => Fin.ext ?_)
  match a with
  | ⟨0, _⟩ => show k0_off2 k 0 + 1 * i.val = i.val; rw [k0_off2_eq]; show 0 + 1 * i.val = i.val; omega
  | ⟨1, _⟩ => show k0_off2 k 1 + 1 * l.val = 512 * k.val + l.val; rw [k0_off2_eq]; show 512 * k.val + 1 * l.val = _; omega

/-- Conversion to a word at an index. -/
theorem fptosi_apply {s : Shape} (v : FVec Ideal s .f32) (j : s.Idx) :
    fptosi (F := Ideal) 32 v j = BitVec.ofInt 32 (Ideal.toIntClamped (-(2 ^ (32 - 1))) (2 ^ (32 - 1) - 1) (v j)) := rfl

/-- The float maximum of a row of naturals. -/
theorem redMax_row (v : FVec Ideal S64x512 .f32) (i : Fin 64) (z : Fin 512 → ℕ) (hv : ∀ l, v (ix2 (n0 := 64) (n1 := 512) i l) = R (z l : ℝ)) :
    multiReduction (F := Ideal) .maximumf [1] S64 v 0xFF800000#32 reduces_S64x512_S64 (.inl rfl) rfl (ix1 (n0 := 64) i)
      = (Finset.univ : Finset (Fin 512)).fold max (Ideal.ofBits .f32 0xFF800000#32) (fun l => R (z l : ℝ)) := by
  refine (Ideal.multiReduction_maximumf_single v _ _ _ _ _).trans ?_
  refine congrArg (fun f : Fin 512 → EReal => (Finset.univ : Finset (Fin 512)).fold max (Ideal.ofBits .f32 0xFF800000#32) f) (funext fun l => ?_)
  have hi : reduces_S64x512_S64.lift (ix1 (n0 := 64) i) l = ix2 (n0 := 64) (n1 := 512) i l := by
    funext a
    match a with
    | ⟨0, _⟩ => rfl
    | ⟨1, _⟩ => rfl
  exact (congrArg v hi).trans (hv l)

section
variable (X : Vec Ideal S64x16384 .i32) (hX : ∀ y, (BitVec.toInt (X y : BitVec 32)).natAbs < 8388608)
include hX

/-- The lane's running maximum, a natural number, bounds the absolute values the lane has seen and is 0 or one of them. -/
theorem qMax_spec (i : Fin 64) (l : Fin 512) : ∀ k, (hk : k ≤ 32) → ∃ r : ℕ, qMax X k (ix2 i l) = W (r : ℤ) ∧ r < 8388608
    ∧ (∀ j : Fin 16384, j.val / 512 < k → j.val % 512 = l.val → (BitVec.toInt (X (ix2 (n0 := 64) (n1 := 16384) i j) : BitVec 32)).natAbs ≤ r)
    ∧ (r = 0 ∨ ∃ j : Fin 16384, (BitVec.toInt (X (ix2 (n0 := 64) (n1 := 16384) i j) : BitVec 32)).natAbs = r)
  | 0, _ => ⟨0, rfl, by norm_num, fun j h => absurd h (by omega), .inl rfl⟩
  | k + 1, hk => by
    obtain ⟨r, h1, h2, h3, h4⟩ := qMax_spec i l k (by omega)
    have ht : k < k0_t1_loop.trips := by rw [trips0_1]; omega
    have hl := l.isLt
    have hc := qChunk1_apply X ⟨k, ht⟩ i l
    set j0 : Fin 16384 := ⟨512 * k + l.val, by omega⟩ with hj0
    have hv := hX (ix2 (n0 := 64) (n1 := 16384) i j0)
    refine ⟨max r (BitVec.toInt (X (ix2 (n0 := 64) (n1 := 16384) i j0) : BitVec 32)).natAbs, ?_, by omega, ?_, ?_⟩
    · rw [qMax, dif_pos ht]
      show IntOp.maxsi (qMax X k (ix2 i l)) (IntOp.absi (shapeCast S64x512 (qChunk1 X ⟨k, ht⟩) shapeCasts_S64x512_S64x512 (ix2 i l))) = _
      rw [shapeCast_self, hc, h1, absi_eq, Int.abs_eq_natAbs, ← W_toInt (IntOp.maxsi _ _), maxsi_toInt,
        toInt_W (by omega) (by omega), toInt_W (by omega) (by omega)]
      push_cast; rfl
    · intro j hj hjl
      by_cases hjk : j.val / 512 < k
      · exact le_trans (h3 j hjk hjl) (le_max_left _ _)
      · have : j = j0 := Fin.ext (by rw [hj0]; show j.val = 512 * k + l.val; omega)
        rw [this]; exact le_max_right _ _
    · rcases max_choice r (BitVec.toInt (X (ix2 (n0 := 64) (n1 := 16384) i j0) : BitVec 32)).natAbs with hm | hm
      · rw [hm]; exact h4
      · exact .inr ⟨j0, hm.symm⟩

/-- The row's pattern is that of its largest absolute value. -/
theorem pay5_spec (i : Fin 64) : ∃ r : ℕ, IsMaxOf r (rowSet X i) ∧ r < 8388608
    ∧ k0_pay5 (F := Ideal) (qAll X) (ix2 (n0 := 64) (n1 := 1) i 0) = kBits (BitVec.ofNat 32 r) := by
  have hz := fun l : Fin 512 => qMax_spec X hX i l 32 (le_refl _)
  choose z h1 h2 h3 h4 using hz
  obtain ⟨r, e, r1, r2, r3⟩ := fold_max_nat z Finset.univ
  have hr : IsMaxOf r (rowSet X i) := by
    refine ⟨r1, ?_, ?_⟩
    · rintro w ⟨j, rfl⟩
      have := j.isLt
      exact le_trans (h3 ⟨j.val % 512, Nat.mod_lt _ (by norm_num)⟩ j (by omega) rfl) (r2 _ (Finset.mem_univ _))
    · rcases r3 with r3 | ⟨l, _, r3⟩
      · exact .inl r3
      · rcases h4 l with h | ⟨j, h⟩
        · left; omega
        · exact .inr ⟨_, ⟨j, rfl⟩, by rw [h, r3]⟩
  have hlt : r < 8388608 := hr.lt (by norm_num) (by rintro w ⟨j, rfl⟩; exact hX _)
  refine ⟨r, hr, hlt, ?_⟩
  show kBits (fptosi (F := Ideal) 32 (maximumf (shapeCast S64x1 (multiReduction (F := Ideal) .maximumf [1] S64
    (sitofp (F := Ideal) .f32 (qAll X)) 0xFF800000#32 reduces_S64x512_S64 (.inl rfl) rfl) shapeCasts_S64_S64x1)
      (broadcast S64x1 (Scalar.ofBits (F := Ideal) .f32 0x3F800000#32))) (ix2 (n0 := 64) (n1 := 1) i 0)) = _
  refine congrArg kBits ((fptosi_apply _ _).trans ?_)
  rw [show maximumf (F := Ideal) (shapeCast S64x1 (multiReduction (F := Ideal) .maximumf [1] S64
    (sitofp (F := Ideal) .f32 (qAll X)) 0xFF800000#32 reduces_S64x512_S64 (.inl rfl) rfl) shapeCasts_S64_S64x1)
      (broadcast S64x1 (Scalar.ofBits (F := Ideal) .f32 0x3F800000#32)) (ix2 (n0 := 64) (n1 := 1) i 0)
    = max (shapeCast S64x1 (multiReduction (F := Ideal) .maximumf [1] S64
    (sitofp (F := Ideal) .f32 (qAll X)) 0xFF800000#32 reduces_S64x512_S64 (.inl rfl) rfl) shapeCasts_S64_S64x1 (ix2 (n0 := 64) (n1 := 1) i 0))
      (Ideal.ofBits .f32 0x3F800000#32) from rfl]
  rw [shapeCast_apply _ _ _ (ix1 (n0 := 64) i) (by
    rw [Shape.rowMajor_val_one, Shape.rowMajor_val_two]; show i.val = i.val * 1 + 0; omega), c_one]
  have hred := redMax_row (sitofp (F := Ideal) .f32 (qAll X)) i z (fun l => by
    show (((BitVec.toInt (qAll X (ix2 (n0 := 64) (n1 := 512) i l)) : ℤ) : ℝ) : EReal) = _
    have hq : qAll X (ix2 (n0 := 64) (n1 := 512) i l) = W (z l : ℤ) := h1 l
    have := h2 l
    rw [hq, toInt_W (by omega) (by omega)]; push_cast; rfl)
  refine (congrArg (fun q => BitVec.ofInt 32 (Ideal.toIntClamped (-(2 ^ (32 - 1))) (2 ^ (32 - 1) - 1) (max q (R 1)))) hred).trans ?_
  show BitVec.ofInt 32 (Ideal.toIntClamped (-(2 ^ (32 - 1))) (2 ^ (32 - 1) - 1) (max _ (R 1))) = _
  rw [e, ← Int.cast_natCast, fptosi_int (by omega) (by omega), ofNat_eq_W]

/-- A row of the first call's blocks: multiplier, exponent and codes. -/
theorem quant_row (i : Fin 64) : ∃ r : ℕ, IsMaxOf r (rowSet X i) ∧ r < 8388608
    ∧ qM X (ix2 (n0 := 64) (n1 := 1) i 0) = W (qm r)
    ∧ qK X (ix2 (n0 := 64) (n1 := 1) i 0) = refK (BitVec.ofNat 32 r)
    ∧ ∀ j : Fin 16384, qCodes X (ix2 (n0 := 64) (n1 := 16384) i j) = (W (qcode r (BitVec.toInt (X (ix2 (n0 := 64) (n1 := 16384) i j) : BitVec 32)))).setWidth 8 := by
  obtain ⟨r, h1, h2, h3⟩ := pay5_spec X hX i
  have hr1 := h1.1
  have hn : (BitVec.ofNat 32 r).toNat = r := toNat_ofNat (by omega)
  have ha : 1 ≤ (BitVec.ofNat 32 r).toNat := by rw [hn]; exact hr1
  have hb : (BitVec.ofNat 32 r).toNat < 8388608 := by rw [hn]; exact h2
  have h6 : k0_pay6 (F := Ideal) (qAll X) (ix2 (n0 := 64) (n1 := 1) i 0) = W ((nb r + 126 : ℕ) : ℤ) := by
    show IntOp.shrsi .vector (k0_pay5 (F := Ideal) (qAll X) (ix2 (n0 := 64) (n1 := 1) i 0)) 23#32 = _
    rw [h3, kExpo_eq ha hb, hn]
  have h8 : k0_pay8 (F := Ideal) (qAll X) (ix2 (n0 := 64) (n1 := 1) i 0) = R (qm r : ℝ) := by
    show kM (k0_pay5 (F := Ideal) (qAll X) (ix2 (n0 := 64) (n1 := 1) i 0)) = _
    rw [h3, kM_eq ha hb, hn]
  have hm := qm_range ha hb
  rw [hn] at hm
  have hnb := nb_le ha hb
  rw [hn] at hnb
  refine ⟨r, h1, h2, ?_, ?_, ?_⟩
  · show BitVec.ofInt 32 (Ideal.toIntClamped (-(2 ^ (32 - 1))) (2 ^ (32 - 1) - 1) (k0_pay8 (F := Ideal) (qAll X) (ix2 (n0 := 64) (n1 := 1) i 0))) = _
    rw [h8, ← Int.cast_natCast, fptosi_int (by omega) (by omega)]
  · show IntOp.addi (IntOp.subi 15#32 (IntOp.subi (k0_pay6 (F := Ideal) (qAll X) (ix2 (n0 := 64) (n1 := 1) i 0)) 126#32)) 10#32 = _
    have : IntOp.subi (W ((nb r + 126 : ℕ) : ℤ)) 126#32 = refN (BitVec.ofNat 32 r) := by
      rw [refN_eq ha hb, hn, ← ofNat_eq_W, BitVec.ofNat_add]
      unfold IntOp.subi
      exact BitVec.add_sub_cancel _ _
    rw [h6, this]; rfl
  · intro j
    have hj := j.isLt
    have hk : j.val / 512 < k0_t2_loop.trips := by rw [trips0_2]; omega
    have ht : qTrip (ix2 (n0 := 64) (n1 := 16384) i j) = ⟨j.val / 512, hk⟩ := rfl
    have hl : qLane (ix2 (n0 := 64) (n1 := 16384) i j) = ix2 (n0 := 64) (n1 := 512) i ⟨j.val % 512, Nat.mod_lt _ (by norm_num)⟩ := by
      funext a
      match a with
      | ⟨0, _⟩ => rfl
      | ⟨1, _⟩ => rfl
    have hx : qChunk2 X ⟨j.val / 512, hk⟩ (ix2 (n0 := 64) (n1 := 512) i ⟨j.val % 512, Nat.mod_lt _ (by norm_num)⟩) = X (ix2 (n0 := 64) (n1 := 16384) i j) := by
      rw [qChunk2_apply]
      congr 2
      exact Fin.ext (by show 512 * (j.val / 512) + j.val % 512 = j.val; omega)
    unfold qCodes
    rw [ht, hl]
    have hb0 : ∀ (v : Vec Ideal S64x1 .f32), broadcastTo S64x512 v broadcasts_S64x1_S64x512 (ix2 (n0 := 64) (n1 := 512) i ⟨j.val % 512, Nat.mod_lt _ (by norm_num)⟩)
        = v (ix2 (n0 := 64) (n1 := 1) i 0) := by
      intro v
      refine congrArg v (funext fun a => ?_)
      match a with
      | ⟨0, _⟩ => rfl
      | ⟨1, _⟩ => rfl
    have e : k0_pay2 (F := Ideal) (k0_pay6 (F := Ideal) (qAll X)) (k0_pay8 (F := Ideal) (qAll X)) (qChunk2 X ⟨j.val / 512, hk⟩)
        (ix2 (n0 := 64) (n1 := 512) i ⟨j.val % 512, Nat.mod_lt _ (by norm_num)⟩)
        = kCode (k0_pay6 (F := Ideal) (qAll X) (ix2 (n0 := 64) (n1 := 1) i 0)) (k0_pay8 (F := Ideal) (qAll X) (ix2 (n0 := 64) (n1 := 1) i 0))
            (qChunk2 X ⟨j.val / 512, hk⟩ (ix2 (n0 := 64) (n1 := 512) i ⟨j.val % 512, Nat.mod_lt _ (by norm_num)⟩)) := by
      unfold k0_pay2
      rw [shapeCast_self]
      rfl
    rw [e, hx, h6, h8]
    have := kCode_eq (a := BitVec.ofNat 32 r) (x := X (ix2 (n0 := 64) (n1 := 16384) i j)) ha hb
      (by rw [hn]; exact h1.2.1 _ ⟨j, rfl⟩)
    rw [hn] at this
    exact this

end

end Cert.KernelIdeal.Hand

end
-- ==== Proof.Math.Group.lean ====
/- The group quantiser over the reals: on values below 2^18 the kernel's multiplier and codes, rounded once with a
   factor a little above a power of two, are the integer quantiser's. -/
module

public import proofs.«01_k».proof.Proof.Math.RowMax

@[expose] public section

noncomputable section

namespace Cert.Hand

open Idealize.ShloMosaic

/-- A value below 2^18 shifted until its top bit is bit 22 is a multiple of 32. -/
theorem pow_split {n : ℕ} (h : n ≤ 18) : 2 ^ (23 - n) = 32 * 2 ^ (18 - n) := by
  rw [show 23 - n = 5 + (18 - n) by omega, pow_add]; norm_num

/-- A number below 2^18 has at most 18 bits. -/
theorem nb_le18 {a : ℕ} (h : 1 ≤ a) (h2 : a < 262144) : nb a ≤ 18 := by
  by_contra hc
  have := two_pow_le h
  have h3 : 2 ^ 18 ≤ 2 ^ (nb a - 1) := Nat.pow_le_pow_right (by norm_num) (by omega)
  omega

/-- The kernel's group multiplier, as a float. -/
def gM (b : BitVec 32) : EReal :=
  Ideal.liftRound Int.floor
    ((Ideal.ofBits .f32 (IntOp.ori (IntOp.andi b 8388607#32) 1182793728#32) + Ideal.ofBits .f32 0x427E4000#32)
      * Ideal.ofBits .f32 0x3C010204#32)

/-- From the float pattern of a group's maximum the kernel gets the reference's multiplier. -/
theorem gM_eq {a : BitVec 32} (h : 1 ≤ a.toNat) (h2 : a.toNat < 262144) : gM (kBits a) = R (qm a.toNat : ℝ) := by
  unfold gM
  rw [kScaled_eq h (by omega), c_63_5625, c_127th, R_add, R_mul, floor_R]
  have hm := qm_range h (by omega)
  have hd : 32 ∣ nrm a.toNat := ⟨a.toNat * 2 ^ (18 - nb a.toNat), by unfold nrm; rw [pow_split (nb_le18 h h2)]; ring⟩
  have hq : qm a.toNat = (nrm a.toNat + 16256) / 32512 := rfl
  generalize nrm a.toNat = A at *
  generalize qm a.toNat = m at *
  have e : A + 16256 = 32512 * m + (A + 16256) % 32512 := by omega
  have e2 : (A + 16256) % 32512 ≤ 32480 := by omega
  generalize (A + 16256) % 32512 = p at *
  have e' : (A : ℝ) + 16256 = 32512 * m + p := by exact_mod_cast e
  have e2' : (p : ℝ) ≤ 32480 := by exact_mod_cast e2
  have e3 : (0 : ℝ) ≤ p := Nat.cast_nonneg _
  have e4 : (m : ℝ) ≤ 258 := by exact_mod_cast hm.2
  have e5 : (0 : ℝ) ≤ m := Nat.cast_nonneg _
  rw [floor_nat (k := m) (by linarith) (by linarith), Int.cast_natCast]

/-- The kernel's code of one element of a group, from the pattern, the multiplier and the element. -/
def gCode (b : BitVec 32) (m v : EReal) : BitVec 32 :=
  BitVec.ofInt 32 (Ideal.toIntClamped (-(2 ^ (32 - 1))) (2 ^ (32 - 1) - 1)
    (Ideal.liftRound Ideal.roundHalfEven (min (Ideal.ofBits .f32 0x42FE0000#32) (max (Ideal.ofBits .f32 0xC2FE0000#32)
      (v * Ideal.div (Ideal.ofBits .f32 (IntOp.subi 1182793744#32 (IntOp.subi (IntOp.andi b 2139095040#32) 1065353216#32))) m)))))

/-- The exponent mask keeps the exponent field of a nonnegative word and clears the fraction. -/
theorem and_expo (x : BitVec 32) (h : x.toNat < 2147483648) : (IntOp.andi x 2139095040#32).toNat = x.toNat / 8388608 * 8388608 := by
  unfold IntOp.andi
  rw [BitVec.toNat_and, show (2139095040#32 : BitVec 32).toNat = 255 <<< 23 by decide]
  have h1 : x.toNat &&& (255 <<< 23) = ((x.toNat >>> 23) &&& 255) <<< 23 := by
    apply Nat.eq_of_testBit_eq
    intro i
    rw [Nat.testBit_and, Nat.testBit_shiftLeft, Nat.testBit_shiftLeft, Nat.testBit_and, Nat.testBit_shiftRight]
    by_cases hi : 23 ≤ i
    · rw [show 23 + (i - 23) = i by omega]; simp [hi]
    · simp [hi]
  rw [h1, show (255 : ℕ) = 2 ^ 8 - 1 by norm_num, Nat.and_two_pow_sub_one_eq_mod, Nat.shiftRight_eq_div_pow, Nat.shiftLeft_eq]
  norm_num
  omega

/-- The kernel's scaling factor: a power of two, times a little more than 1. -/
theorem gFactor_eq {a : BitVec 32} (h : 1 ≤ a.toNat) (h2 : a.toNat < 8388608) :
    Ideal.ofBits .f32 (IntOp.subi 1182793744#32 (IntOp.subi (IntOp.andi (kBits a) 2139095040#32) 1065353216#32))
      = R (2 ^ (23 - nb a.toNat) / 256 * (1 + 1 / 524288)) := by
  obtain ⟨h3, h4⟩ := nb_le h h2
  obtain ⟨h5, h6⟩ := frac_range h h2
  have hb := kBits_toNat h h2
  have ha := and_expo (kBits a) (by omega)
  have e2 : (IntOp.subi 1182793744#32 (IntOp.subi (IntOp.andi (kBits a) 2139095040#32) 1065353216#32)).toNat
      = (142 - nb a.toNat) * 8388608 + 16 := by
    unfold IntOp.subi at *
    rw [BitVec.toNat_sub, BitVec.toNat_sub, ha, hb]
    simp only [BitVec.toNat_ofNat]
    omega
  rw [ofBits_pos _ _ _ e2 (by omega) (by omega) (by norm_num)]
  refine congrArg R ?_
  have : ((142 - nb a.toNat : ℕ) : ℤ) - 150 = ((23 - nb a.toNat : ℕ) : ℤ) - 31 := by omega
  rw [this, zpow_sub₀ (by norm_num), zpow_natCast]
  norm_num
  ring

/-- Clipping to ±127 before or after rounding is the same, strictly within a half of an integer. -/
theorem clip_round {y : ℝ} {w : ℤ} (h1 : (w : ℝ) - 1 / 2 < y) (h2 : y < w + 1 / 2) :
    Ideal.roundHalfEven (min 127 (max (-127) y)) = min 127 (max (-127) w) := by
  rcases lt_or_ge 127 w with h | h
  · have hw : (128 : ℝ) ≤ w := by exact_mod_cast (by omega : (128 : ℤ) ≤ w)
    rw [max_eq_right (by linarith), min_eq_left (by linarith), max_eq_right (by omega), min_eq_left (by omega)]
    exact_mod_cast roundHalfEven_int 127
  · rcases lt_or_ge w (-127) with h' | h'
    · have hw : (w : ℝ) ≤ -128 := by exact_mod_cast (by omega : w ≤ (-128 : ℤ))
      rw [max_eq_left (by linarith), min_eq_right (by norm_num), max_eq_left (by omega), min_eq_right (by norm_num)]
      exact_mod_cast roundHalfEven_int (-127)
    · have a1 : (w : ℝ) ≤ 127 := by exact_mod_cast h
      have a2 : (-127 : ℝ) ≤ w := by exact_mod_cast h'
      rw [max_eq_right h', min_eq_right h]
      apply roundHalfEven_eq
      · exact lt_min (by linarith) (lt_max_of_lt_right h1)
      · exact min_lt_of_right_lt (max_lt (by linarith) h2)

/-- The scaled magnitude is strictly within a half of the quotient. -/
theorem group_near {a X : ℕ} (h : 1 ≤ a) (h2 : a < 262144) (hX : X ≤ a) :
    (qq a X : ℝ) - 1 / 2 < X * (2 ^ (23 - nb a) / 256 * (1 + 1 / 524288) / (qm a : ℝ))
      ∧ X * (2 ^ (23 - nb a) / 256 * (1 + 1 / 524288) / (qm a : ℝ)) < (qq a X : ℝ) + 1 / 2 := by
  have hm := qm_range h (show a < 8388608 by omega)
  have hA := (nrm_range h (show a < 8388608 by omega)).2
  have hp := pow_split (nb_le18 h h2)
  have ht : X * 2 ^ (18 - nb a) < 262144 := by
    have : X * 2 ^ (23 - nb a) ≤ nrm a := Nat.mul_le_mul_right _ hX
    rw [hp] at this
    have e : X * (32 * 2 ^ (18 - nb a)) = 32 * (X * 2 ^ (18 - nb a)) := by ring
    omega
  have hq : qq a X = (X * 2 ^ (18 - nb a) + 4 * qm a) / (8 * qm a) := by
    unfold qq
    rw [hp, show X * (32 * 2 ^ (18 - nb a)) + 128 * qm a = 32 * (X * 2 ^ (18 - nb a) + 4 * qm a) by ring,
      show 256 * qm a = 32 * (8 * qm a) by ring, Nat.mul_div_mul_left _ _ (by norm_num)]
  have hp' : (2 : ℝ) ^ (23 - nb a) = 32 * 2 ^ (18 - nb a) := by exact_mod_cast hp
  have hx : (X : ℝ) * (2 ^ (23 - nb a) / 256 * (1 + 1 / 524288) / (qm a : ℝ))
      = ((X * 2 ^ (18 - nb a) : ℕ) : ℝ) * (1 + 1 / 524288) / (8 * (qm a : ℝ)) := by
    rw [hp']; push_cast; ring
  rw [hx, hq]
  generalize X * 2 ^ (18 - nb a) = t at *
  generalize qm a = m at *
  have e := Nat.div_add_mod (t + 4 * m) (8 * m)
  have e2 := Nat.mod_lt (t + 4 * m) (show 0 < 8 * m by omega)
  generalize (t + 4 * m) % (8 * m) = p at *
  generalize (t + 4 * m) / (8 * m) = q at *
  have hm0 : (0 : ℝ) < 8 * (m : ℝ) := by have : 0 < m := by omega
                                         positivity
  have e' : 8 * (m : ℝ) * q + p = t + 4 * m := by exact_mod_cast e
  have e2' : (p : ℝ) + 1 ≤ 8 * m := by exact_mod_cast e2
  have e3 : (0 : ℝ) ≤ p := Nat.cast_nonneg _
  have et : (t : ℝ) < 262144 := by exact_mod_cast ht
  have et0 : (0 : ℝ) ≤ t := Nat.cast_nonneg _
  constructor
  · rw [lt_div_iff₀ hm0]
    rcases Nat.eq_zero_or_pos t with h0 | h0
    · have hq0 : q = 0 := by
        by_contra hc
        have : 8 * m * 1 ≤ 8 * m * q := Nat.mul_le_mul_left _ (by omega)
        omega
      rw [hq0, h0]; push_cast; linarith
    · have : (0 : ℝ) < t := by exact_mod_cast h0
      linarith
  · rw [div_lt_iff₀ hm0]
    linarith

/-- The kernel's code of an element of a group is the reference's. -/
theorem gCode_eq {a : BitVec 32} {x : ℤ} (h : 1 ≤ a.toNat) (h2 : a.toNat < 262144) (hx : x.natAbs ≤ a.toNat) :
    gCode (kBits a) (R (qm a.toNat : ℝ)) (R (x : ℝ)) = W (qcode a.toNat x) := by
  have hm := qm_range h (show a.toNat < 8388608 by omega)
  have hm0 : (qm a.toNat : ℝ) ≠ 0 := by have : 0 < qm a.toNat := by omega
                                        positivity
  obtain ⟨n1, n2⟩ := group_near h h2 hx
  unfold gCode
  rw [gFactor_eq h (by omega), c_127, c_neg127, R_div _ hm0, R_mul, R_max, R_min, round_R]
  generalize (2 : ℝ) ^ (23 - nb a.toNat) / 256 * (1 + 1 / 524288) / (qm a.toNat : ℝ) = f at *
  have key : Ideal.roundHalfEven (min 127 (max (-127) ((x : ℝ) * f))) = qcode a.toNat x := by
    unfold qcode
    rcases lt_trichotomy x 0 with hs | hs | hs
    · have e : (x : ℝ) = -((x.natAbs : ℕ) : ℝ) := by
        rw [Nat.cast_natAbs, Int.cast_abs, abs_of_neg (by exact_mod_cast hs), neg_neg]
      rw [Int.sign_eq_neg_one_of_neg hs]
      apply clip_round <;> push_cast <;> rw [e] <;> linarith
    · have : qq a.toNat 0 = 0 := by
        unfold qq; apply Nat.div_eq_of_lt; omega
      subst hs
      apply clip_round <;> simp
    · have e : (x : ℝ) = ((x.natAbs : ℕ) : ℝ) := by
        rw [Nat.cast_natAbs, Int.cast_abs, abs_of_pos (by exact_mod_cast hs)]
      rw [Int.sign_eq_one_of_pos hs]
      apply clip_round <;> push_cast <;> rw [e] <;> linarith
  rw [key, fptosi_int]
  · unfold qcode; omega
  · unfold qcode; omega

end Cert.Hand

end
-- ==== Proof.Math.Swiglu.lean ====
/- The hidden value of one gate and one up entry: the integer formula, the reference's word formula and the kernel's
   float formula, all three the same. Also the rounding shift with its clip. -/
module

public import proofs.«01_k».proof.Proof.Math.Group

@[expose] public section

noncomputable section

namespace Cert.Hand

open Idealize.ShloMosaic

/-! ## The integer formula -/

/-- About `a · log2 e`: the base-2 exponent of the decay, in 1/256. -/
def swL (a : ℕ) : ℕ := a + a / 2 - a / 16
/-- The decay `e^{-a}` in 1/4096. -/
def swE (a : ℕ) : ℕ := (4096 - 8 * (swL a % 256)) / 2 ^ (swL a / 256)
/-- The gate's activation. -/
def swS (g : ℤ) : ℤ :=
  (g * (if 0 ≤ g then 4096 else (swE g.natAbs : ℤ)) + (4096 + (swE g.natAbs : ℤ)) / 2) / (4096 + (swE g.natAbs : ℤ))
/-- The hidden value. -/
def swH (g u : ℤ) : ℤ := (swS g * u + 32) / 64

/-- The exponent of the decay stays below 2^13. -/
theorem swL_lt {a : ℕ} (h : a ≤ 4095) : swL a < 8192 := by unfold swL; omega
/-- The decay is at most 1, that is 4096. -/
theorem swE_le (a : ℕ) : swE a ≤ 4096 := by
  unfold swE
  exact le_trans (Nat.div_le_self _ _) (by omega)

/-- The activation lies in the range of the gate. -/
theorem swS_range {g : ℤ} (h1 : -4095 ≤ g) (h2 : g ≤ 4095) : -4095 ≤ swS g ∧ swS g ≤ 4095 := by
  unfold swS
  have he := swE_le g.natAbs
  generalize swE g.natAbs = E at *
  have hD : (0 : ℤ) < 4096 + (E : ℤ) := by omega
  have hE0 : (0 : ℤ) ≤ E := by omega
  have hE1 : (E : ℤ) ≤ 4096 := by omega
  constructor
  · rw [Int.le_ediv_iff_mul_le hD]
    split <;> nlinarith [Int.ediv_nonneg hD.le (show (0 : ℤ) ≤ 2 by norm_num)]
  · have := Int.ediv_mul_le (4096 + (E : ℤ)) (show (2 : ℤ) ≠ 0 by norm_num)
    rw [← Int.lt_add_one_iff, Int.ediv_lt_iff_lt_mul hD]
    split <;> nlinarith

/-- A hidden value is below 2^18 in magnitude. -/
theorem swH_range {g u : ℤ} (h1 : -4095 ≤ g) (h2 : g ≤ 4095) (h3 : -4095 ≤ u) (h4 : u ≤ 4095) : (swH g u).natAbs < 262144 := by
  obtain ⟨h5, h6⟩ := swS_range h1 h2
  have a1 : swS g * u ≤ 16769025 := by nlinarith
  have a2 : -16769025 ≤ swS g * u := by nlinarith
  unfold swH
  omega

/-! ## The reference's words -/

/-- The reference's exponent of the decay. -/
def rL (a : BitVec 32) : BitVec 32 := IntOp.subi (IntOp.addi a (IntOp.shrsi .host a 1#32)) (IntOp.shrsi .host a 4#32)
/-- The reference's decay. -/
def rE (a : BitVec 32) : BitVec 32 :=
  IntOp.shrsi .host (IntOp.subi 4096#32 (IntOp.shli .host (IntOp.andi (rL a) 255#32) 3#32)) (IntOp.shrsi .host (rL a) 8#32)
/-- The reference's hidden value. -/
def rH (g u : BitVec 32) : BitVec 32 :=
  IntOp.shrsi .host (IntOp.addi (IntOp.muli
    (fdiv (IntOp.addi (IntOp.muli g (Scalar.select (IntOp.cmpi .sge g 0#32) 4096#32 (rE (IntOp.absi g))))
      (IntOp.shrsi .host (IntOp.addi 4096#32 (rE (IntOp.absi g))) 1#32)) (IntOp.addi 4096#32 (rE (IntOp.absi g)))) u)
    (IntOp.shrsi .host (IntOp.shli .host 1#32 6#32) 1#32)) 6#32

/-- Adding words adds the integers. -/
theorem add_W (x y : ℤ) : IntOp.addi (W x) (W y) = W (x + y) := by unfold IntOp.addi W; rw [BitVec.ofInt_add]
/-- Multiplying words multiplies the integers. -/
theorem mul_W (x y : ℤ) : IntOp.muli (W x) (W y) = W (x * y) := by unfold IntOp.muli W; rw [BitVec.ofInt_mul]
/-- Subtracting words subtracts the integers. -/
theorem sub_W (x y : ℤ) : IntOp.subi (W x) (W y) = W (x - y) := by
  unfold IntOp.subi W
  rw [sub_eq_add_neg, BitVec.ofInt_add, BitVec.ofInt_neg, BitVec.sub_eq_add_neg]
/-- Shifting a word right is the floor division by a power of two. -/
theorem shr_W (u : ArithUnit) {x : ℤ} (h1 : -2147483648 ≤ x) (h2 : x < 2147483648) (s : ℕ) (hs : s < 32) :
    IntOp.shrsi u (W x) (W (s : ℤ)) = W (x / 2 ^ s) := by
  have e : (W (s : ℤ)).toNat = s := by rw [← ofNat_eq_W, toNat_ofNat (by omega)]
  rw [shrsi_eq _ _ _ (by rw [e]; exact hs), e, toInt_W h1 h2]
/-- Shifting a word left is multiplying by a power of two. -/
theorem shl_W (u : ArithUnit) {x : ℤ} (h1 : -2147483648 ≤ x) (h2 : x < 2147483648) (s : ℕ) (hs : s < 32) :
    IntOp.shli u (W x) (W (s : ℤ)) = W (x * 2 ^ s) := by
  have e : (W (s : ℤ)).toNat = s := by rw [← ofNat_eq_W, toNat_ofNat (by omega)]
  rw [shli_eq _ _ _ (by rw [e]; exact hs), e, toInt_W h1 h2]

/-- The reference's word for the exponent of the decay is the formula's. -/
theorem rL_eq {a : ℕ} (h : a ≤ 4095) : rL (W a) = W (swL a : ℤ) := by
  unfold rL
  rw [show (1#32 : BitVec 32) = W ((1 : ℕ) : ℤ) from rfl, show (4#32 : BitVec 32) = W ((4 : ℕ) : ℤ) from rfl,
    shr_W _ (by omega) (by omega) 1 (by norm_num), shr_W _ (by omega) (by omega) 4 (by norm_num), add_W, sub_W]
  congr 1
  unfold swL
  omega

/-- Masking with 255 takes the remainder by 256. -/
theorem and_255 {l : ℕ} (h : l < 4294967296) : IntOp.andi (W (l : ℤ)) 255#32 = W ((l % 256 : ℕ) : ℤ) := by
  apply BitVec.eq_of_toNat_eq
  unfold IntOp.andi
  rw [BitVec.toNat_and, ← ofNat_eq_W, ← ofNat_eq_W, toNat_ofNat h, toNat_ofNat (n := l % 256) (by omega)]
  exact Nat.and_two_pow_sub_one_eq_mod l 8

/-- The reference's word for the decay is the formula's. -/
theorem rE_eq {a : ℕ} (h : a ≤ 4095) : rE (W a) = W (swE a : ℤ) := by
  unfold rE
  have hl := swL_lt h
  have hL := swL a
  rw [rL_eq h, and_255 (by omega), show (3#32 : BitVec 32) = W ((3 : ℕ) : ℤ) from rfl, show (8#32 : BitVec 32) = W ((8 : ℕ) : ℤ) from rfl,
    shl_W _ (by omega) (by omega) 3 (by norm_num), shr_W _ (by omega) (by omega) 8 (by norm_num),
    show (4096#32 : BitVec 32) = W 4096 from rfl, sub_W]
  have e : ((swL a : ℕ) : ℤ) / 2 ^ 8 = ((swL a / 256 : ℕ) : ℤ) := by norm_num
  rw [e, shr_W _ (by omega) (by omega) _ (by omega)]
  congr 1
  unfold swE
  push_cast
  rw [Nat.cast_sub (by omega)]
  push_cast
  congr 1
  ring

/-- The reference's hidden value is the formula's. -/
theorem rH_eq {g u : ℤ} (h1 : -4095 ≤ g) (h2 : g ≤ 4095) (h3 : -4095 ≤ u) (h4 : u ≤ 4095) : rH (W g) (W u) = W (swH g u) := by
  have ha : IntOp.absi (W g) = W ((g.natAbs : ℕ) : ℤ) := by
    rw [absi_eq, toInt_W (by omega) (by omega), Int.abs_eq_natAbs]
  have he := swE_le g.natAbs
  have hs : Scalar.select (IntOp.cmpi .sge (W g) 0#32) 4096#32 (W (swE g.natAbs : ℤ)) = W (if 0 ≤ g then 4096 else (swE g.natAbs : ℤ)) := by
    have hc : IntOp.cmpi .sge (W g) 0#32 = BitVec.ofBool (decide (0 ≤ g)) := by
      show BitVec.ofBool ((0#32).sle (W g)) = _
      congr 1
      show decide ((0#32 : BitVec 32).toInt ≤ (W g).toInt) = _
      rw [toInt_W (by omega) (by omega)]; rfl
    rw [hc]
    by_cases hg : 0 ≤ g
    · simp [hg, Scalar.select]
    · simp [hg, Scalar.select]
  have hr := swS_range h1 h2
  have hp : -16777216 ≤ g * (if 0 ≤ g then 4096 else (swE g.natAbs : ℤ)) ∧ g * (if 0 ≤ g then 4096 else (swE g.natAbs : ℤ)) ≤ 16777216 := by
    constructor <;> split <;> nlinarith
  have hb1 : swS g * u ≤ 16769025 := by nlinarith
  have hb2 : -16769025 ≤ swS g * u := by nlinarith
  unfold rH
  rw [ha, rE_eq (by omega), hs, mul_W, show (4096#32 : BitVec 32) = W 4096 from rfl, add_W,
    show (1#32 : BitVec 32) = W ((1 : ℕ) : ℤ) from rfl, shr_W _ (by omega) (by omega) 1 (by norm_num), add_W,
    fdiv_eq _ _ (by rw [toInt_W (by omega) (by omega)]; omega), toInt_W (by omega) (by omega), toInt_W (by omega) (by omega),
    show (6#32 : BitVec 32) = W ((6 : ℕ) : ℤ) from rfl, shl_W _ (by norm_num) (by norm_num) 6 (by norm_num),
    shr_W _ (by norm_num) (by norm_num) 1 (by norm_num), pow_one]
  change IntOp.shrsi .host (IntOp.addi (IntOp.muli (W (swS g)) (W u)) (W _)) _ = _
  rw [mul_W, add_W, shr_W _ (by norm_num; omega) (by norm_num; omega) 6 (by norm_num)]
  rfl

/-! ## The kernel's words and floats -/

/-- The kernel's decay: the mask taken after the shift. -/
def kE (a : BitVec 32) : BitVec 32 :=
  IntOp.shrsi .vector (IntOp.subi 4096#32 (IntOp.andi (IntOp.shli .vector
    (IntOp.subi (IntOp.addi a (IntOp.shrsi .vector a 1#32)) (IntOp.shrsi .vector a 4#32)) 3#32) 2040#32))
    (IntOp.shrsi .vector (IntOp.subi (IntOp.addi a (IntOp.shrsi .vector a 1#32)) (IntOp.shrsi .vector a 4#32)) 8#32)

/-- The kernel's decay is the reference's. -/
theorem kE_eq_rE (a : BitVec 32) : kE a = rE a := by
  unfold kE rE rL
  rw [shrsi_unit .vector .host a, shrsi_unit .vector .host a]
  generalize IntOp.subi (IntOp.addi a (IntOp.shrsi .host a 1#32)) (IntOp.shrsi .host a 4#32) = l
  have : IntOp.andi (IntOp.shli .vector l 3#32) 2040#32 = IntOp.shli .host (IntOp.andi l 255#32) 3#32 := by
    unfold IntOp.andi IntOp.shli
    rw [if_pos (by decide), if_pos (by decide), BitVec.shiftLeft_eq', BitVec.shiftLeft_eq',
      BitVec.shiftLeft_and_distrib]
    rfl
  rw [this, shrsi_unit .vector .host, shrsi_unit .vector .host l]

/-- The kernel's hidden value of a gate and an up entry. -/
def kH (g u : EReal) : EReal :=
  let a : EReal := max g (-g)
  let e : EReal := (((kE (BitVec.ofInt 32 (Ideal.toIntClamped (-(2 ^ (32 - 1))) (2 ^ (32 - 1) - 1) a))).toInt : ℝ) : EReal)
  Ideal.liftRound Int.floor ((max g (Ideal.ofBits .f32 0x00000000#32)
    + Ideal.liftRound Ideal.roundHalfEven (Ideal.div (Ideal.ofBits .f32 0x3E800000#32 - a * e) (e + Ideal.ofBits .f32 0x45800000#32)))
    * u * Ideal.ofBits .f32 0x3C800000#32 + Ideal.ofBits .f32 0x3F000000#32)

/-- Rounding a quotient moved up by a quarter of the divisor's unit rounds halves up. -/
theorem round_quarter (N D : ℤ) (hD : 0 < D) : Ideal.roundHalfEven (((N : ℝ) + 1 / 4) / (D : ℝ)) = (N + D / 2) / D := by
  have e := Int.mul_ediv_add_emod (N + D / 2) D
  have e1 := Int.emod_nonneg (N + D / 2) hD.ne'
  have e2 := Int.emod_lt_of_pos (N + D / 2) hD
  generalize (N + D / 2) / D = q at *
  generalize (N + D / 2) % D = p at *
  have hd : (0 : ℝ) < D := by exact_mod_cast hD
  have f1 : 2 * (D * q) - D ≤ 2 * N := by omega
  have f2 : 2 * N ≤ 2 * (D * q) + D - 1 := by omega
  have f1' : 2 * ((D : ℝ) * q) - D ≤ 2 * N := by exact_mod_cast f1
  have f2' : 2 * (N : ℝ) ≤ 2 * ((D : ℝ) * q) + D - 1 := by exact_mod_cast f2
  apply roundHalfEven_eq
  · rw [lt_div_iff₀ hd]; linarith
  · rw [div_lt_iff₀ hd]; linarith

/-- The kernel's hidden value is the formula's. -/
theorem kH_eq {g u : ℤ} (h1 : -4095 ≤ g) (h2 : g ≤ 4095) (h3 : -4095 ≤ u) (h4 : u ≤ 4095) :
    kH (R (g : ℝ)) (R (u : ℝ)) = R (swH g u : ℝ) := by
  unfold kH
  simp only
  have ha : |(g : ℝ)| = ((g.natAbs : ℤ) : ℝ) := by rw [← Int.cast_abs, Int.abs_eq_natAbs]
  have he := swE_le g.natAbs
  rw [R_abs, ha, fptosi_int (by omega) (by omega), kE_eq_rE, rE_eq (by omega), toInt_W (by omega) (by omega),
    c_zero, c_quarter, c_4096, c_64th, c_half, R_mul, R_sub, R_add]
  have hD0 : (0 : ℤ) < 4096 + (swE g.natAbs : ℤ) := by omega
  have hD : ((swE g.natAbs : ℤ) : ℝ) + 4096 = ((4096 + (swE g.natAbs : ℤ) : ℤ) : ℝ) := by push_cast; ring
  have hDne : ((4096 + (swE g.natAbs : ℤ) : ℤ) : ℝ) ≠ 0 := by exact_mod_cast hD0.ne'
  have hN : (1 / 4 : ℝ) - ((g.natAbs : ℤ) : ℝ) * ((swE g.natAbs : ℤ) : ℝ) = ((-(g.natAbs : ℤ) * (swE g.natAbs : ℤ) : ℤ) : ℝ) + 1 / 4 := by
    push_cast; ring
  rw [hD, R_div _ hDne, hN, round_R, round_quarter _ _ hD0, R_max, R_add, R_mul, R_mul, R_add, floor_R]
  have hs : max (g : ℝ) 0 + (((-(g.natAbs : ℤ) * (swE g.natAbs : ℤ) + (4096 + (swE g.natAbs : ℤ)) / 2) / (4096 + (swE g.natAbs : ℤ)) : ℤ) : ℝ)
      = (swS g : ℝ) := by
    unfold swS
    generalize swE g.natAbs = E at *
    by_cases hg : 0 ≤ g
    · have e1 : ((g.natAbs : ℕ) : ℤ) = g := by omega
      rw [if_pos hg, e1, max_eq_left (by exact_mod_cast hg), ← Int.cast_add]
      congr 1
      rw [show g * 4096 + (4096 + (E : ℤ)) / 2 = (-g * E + (4096 + (E : ℤ)) / 2) + g * (4096 + (E : ℤ)) by ring,
        Int.add_mul_ediv_right _ _ hD0.ne']
      ring
    · have e1 : ((g.natAbs : ℕ) : ℤ) = -g := by omega
      rw [if_neg hg, e1, max_eq_right (by exact_mod_cast (by omega : g ≤ 0)), zero_add, neg_neg]
  rw [hs]
  unfold swH
  have hq : ⌊(swS g : ℝ) * (u : ℝ) * (1 / 64) + 1 / 2⌋ = (swS g * u + 32) / 64 := by
    have e := Int.mul_ediv_add_emod (swS g * u + 32) 64
    have e1 := Int.emod_nonneg (swS g * u + 32) (show (64 : ℤ) ≠ 0 by norm_num)
    have e2 := Int.emod_lt_of_pos (swS g * u + 32) (show (0 : ℤ) < 64 by norm_num)
    generalize (swS g * u + 32) / 64 = q at *
    generalize (swS g * u + 32) % 64 = p at *
    have e' : (64 : ℝ) * q + p = swS g * u + 32 := by exact_mod_cast e
    have e1' : (0 : ℝ) ≤ p := by exact_mod_cast e1
    have e2' : (p : ℝ) < 64 := by exact_mod_cast e2
    rw [Int.floor_eq_iff]
    constructor <;> linarith
  rw [hq]

/-! ## The rounding shift -/

/-- The reference's: scale, add half, shift right, clip. -/
def rScale (acc m s : BitVec 32) : BitVec 32 :=
  IntOp.minsi 4095#32 (IntOp.maxsi 4294963201#32
    (IntOp.shrsi .host (IntOp.addi (IntOp.muli acc m) (IntOp.shrsi .host (IntOp.shli .host 1#32 s) 1#32)) s))

/-- The kernel's guard: whether the shift is in 0..31. -/
def kOk (s : BitVec 32) : BitVec 1 := IntOp.andi (IntOp.cmpi .sge s 0#32) (IntOp.cmpi .slt s 32#32)
/-- The kernel's shift word: the shift where it is in range, 31 otherwise. -/
def kSc (s : BitVec 32) : BitVec 32 := Scalar.select (kOk s) s 31#32
/-- The kernel's: the same with the shift guarded and the clip on floats. -/
def kScale (acc m s : BitVec 32) : EReal :=
  min (Ideal.ofBits .f32 0x457FF000#32) (max (Ideal.ofBits .f32 0xC57FF000#32)
    (((IntOp.shrsi .vector (IntOp.addi (IntOp.muli acc m)
      (Scalar.select (kOk s) (IntOp.shrsi .vector (IntOp.shli .vector 1#32 (kSc s)) 1#32) 0#32)) (kSc s)).toInt : ℝ) : EReal))

/-- The clipped integer of both. -/
def zScale (acc m s : BitVec 32) : ℤ := (rScale acc m s).toInt

/-- A scaled entry lies in -4095..4095. -/
theorem zScale_range (acc m s : BitVec 32) : -4095 ≤ zScale acc m s ∧ zScale acc m s ≤ 4095 := by
  unfold zScale rScale
  rw [minsi_toInt, maxsi_toInt, show (4095#32 : BitVec 32).toInt = 4095 from rfl, show (4294963201#32 : BitVec 32).toInt = -4095 from rfl]
  omega

/-- The reference's scaled entry is the word of the clipped integer. -/
theorem rScale_eq (acc m s : BitVec 32) : rScale acc m s = W (zScale acc m s) := (W_toInt _).symm

/-- The guard holds exactly for shifts below 32, the word read without sign. -/
theorem kOk_eq (s : BitVec 32) : kOk s = BitVec.ofBool (decide (s.toNat < 32)) := by
  have h1 : IntOp.cmpi .sge s 0#32 = BitVec.ofBool (decide (0 ≤ s.toInt)) := rfl
  have h2 : IntOp.cmpi .slt s 32#32 = BitVec.ofBool (decide (s.toInt < 32)) := rfl
  unfold kOk
  rw [h1, h2]
  by_cases h : s.toNat < 32
  · have := toInt_eq_toNat (x := s) (by omega)
    have a1 : 0 ≤ s.toInt := by omega
    have a2 : s.toInt < 32 := by omega
    simp [h, a1, a2, IntOp.andi]
  · have h' : ¬ (0 ≤ s.toInt ∧ s.toInt < 32) := by
      rintro ⟨a1, a2⟩
      have := BitVec.toInt_eq_toNat_cond s
      split at this <;> omega
    by_cases a1 : 0 ≤ s.toInt
    · have a2 : ¬ s.toInt < 32 := fun a2 => h' ⟨a1, a2⟩
      simp [h, a1, a2, IntOp.andi]
    · simp [h, a1, IntOp.andi]

/-- A shift by 31 fills with the sign, as an out-of-range one does. -/
theorem shr_fill (u u' : ArithUnit) (x s : BitVec 32) (h : ¬ s.toNat < 32) : IntOp.shrsi u x s = IntOp.shrsi u' x 31#32 := by
  rw [shrsi_eq u' x 31#32 (by decide)]
  unfold IntOp.shrsi IntOp.cornerWord
  rw [if_neg h]
  obtain ⟨h1, h2⟩ := toInt_range x
  by_cases hm : x.msb
  · have : x.toInt < 0 := by rw [BitVec.msb_eq_toInt] at hm; simpa using hm
    have e : x.toInt / 2 ^ (31#32 : BitVec 32).toNat = -1 := by
      show x.toInt / 2 ^ 31 = -1
      norm_num; omega
    rw [e]; simp [hm]; decide
  · have : ¬ x.toInt < 0 := by rw [BitVec.msb_eq_toInt] at hm; simpa using hm
    have e : x.toInt / 2 ^ (31#32 : BitVec 32).toNat = 0 := by
      show x.toInt / 2 ^ 31 = 0
      norm_num; omega
    rw [e]; simp [hm]

/-- Before clipping, the guarded shift and the plain shift give the same word, for every shift. -/
theorem kScale_word (acc m s : BitVec 32) :
    IntOp.shrsi .vector (IntOp.addi (IntOp.muli acc m)
      (Scalar.select (kOk s) (IntOp.shrsi .vector (IntOp.shli .vector 1#32 (kSc s)) 1#32) 0#32)) (kSc s)
    = IntOp.shrsi .host (IntOp.addi (IntOp.muli acc m) (IntOp.shrsi .host (IntOp.shli .host 1#32 s) 1#32)) s := by
  unfold kSc
  rw [kOk_eq]
  by_cases h : s.toNat < 32
  · simp only [h, decide_true, Scalar.select, BitVec.ofBool_true, if_true]
    rw [shli_unit .vector .host, shrsi_unit .vector .host, shrsi_unit .vector .host]
  · simp only [h, decide_false, Scalar.select, BitVec.ofBool_false]
    have e0 : IntOp.shrsi .host (IntOp.shli .host 1#32 s) 1#32 = 0#32 := by
      unfold IntOp.shli IntOp.cornerWord
      rw [if_neg h, if_neg (not_not.2 rfl)]
      show IntOp.shrsi .host 0#32 1#32 = 0#32
      rw [shrsi_eq _ _ _ (by decide)]
      rfl
    rw [e0, shr_fill .host .vector _ s h]
    rfl

/-- The kernel's scaled entry is the same clipped integer. -/
theorem kScale_eq (acc m s : BitVec 32) : kScale acc m s = R (zScale acc m s : ℝ) := by
  unfold kScale zScale rScale
  rw [kScale_word, c_4095, c_neg4095, R_max, R_min, minsi_toInt, maxsi_toInt,
    show (4095#32 : BitVec 32).toInt = 4095 from rfl, show (4294963201#32 : BitVec 32).toInt = -4095 from rfl]
  congr 1
  push_cast
  rfl

end Cert.Hand

end
-- ==== Proof.Math.Spec.lean ====
/- The results as functions of the arguments: codes, multipliers and exponents of the input rows, the clipped gate and up
   entries, the hidden values and their groups. Both programs are proved to return these. -/
module

public import proofs.«01_k».proof.Proof.Math.RowMax
public import proofs.«01_k».proof.Proof.Math.Swiglu
public import proofs.«01_k».proof.Proof.Math.Group

@[expose] public section

noncomputable section

namespace Cert.Hand

open Idealize.ShloMosaic

open Classical in
/-- The largest absolute value of a set of integers, at least 1. -/
def theMax (S : Set ℤ) : ℕ := if h : ∃ r, IsMaxOf r S then h.choose else 1

/-- Whatever is the largest absolute value is the one `theMax` names. -/
theorem IsMaxOf.theMax_eq {r : ℕ} {S : Set ℤ} (h : IsMaxOf r S) : theMax S = r := by
  have hx : ∃ r, IsMaxOf r S := ⟨r, h⟩
  unfold theMax
  rw [dif_pos hx]
  exact hx.choose_spec.unique h

/-! ## The quantized input -/

section
variable {R C : ℕ} (x : Fin R → Fin C → ℤ)

/-- A row's largest absolute value. -/
def rowMx (i : Fin R) : ℕ := theMax {z | ∃ j, z = x i j}
/-- Its codes, as integers. -/
def codeZ (i : Fin R) (j : Fin C) : ℤ := qcode (rowMx x i) (x i j)
/-- Its codes, as bytes. -/
def codeB (i : Fin R) (j : Fin C) : BitVec 8 := (W (codeZ x i j)).setWidth 8
/-- Its multiplier. -/
def multW (i : Fin R) : BitVec 32 := W (qm (rowMx x i))
/-- Its exponent. -/
def expoW (i : Fin R) : BitVec 32 := refK (BitVec.ofNat 32 (rowMx x i))

/-- A code lies in -127..127. -/
theorem qcode_range (a : ℕ) (z : ℤ) : -127 ≤ qcode a z ∧ qcode a z ≤ 127 := by
  unfold qcode
  constructor <;> omega

/-- A code's byte reads back as the code. -/
theorem byte_toInt {z : ℤ} (h₁ : -127 ≤ z) (h₂ : z ≤ 127) : ((W z).setWidth 8).toInt = z := by
  unfold W
  rw [BitVec.toInt_setWidth, BitVec.toNat_ofInt,
    show ((z % ((2 ^ 32 : ℕ) : ℤ)).toNat : ℤ) = z % ((2 ^ 32 : ℕ) : ℤ) from Int.toNat_of_nonneg (Int.emod_nonneg _ (by norm_num)), Int.bmod_def]
  norm_num
  split <;> omega

/-- The byte of a code, read as a signed number, is the code. -/
theorem codeB_toInt (i : Fin R) (j : Fin C) : (codeB x i j).toInt = codeZ x i j :=
  byte_toInt (qcode_range _ _).1 (qcode_range _ _).2
end

/-! ## The scaled entries and the hidden values -/

section
variable {K : ℕ} (a : Fin K → ℤ) (w : Fin K → ℤ) (m k e : BitVec 32)

/-- The integer product of a row of codes and a column of weights, as a word. -/
def dotW : BitVec 32 := W (∑ t, a t * w t)
/-- The clipped entry. -/
def entZ : ℤ := zScale (dotW a w) m (IntOp.addi (IntOp.subi k 8#32) e)

/-- An entry lies in -4095..4095. -/
theorem entZ_range : -4095 ≤ entZ a w m k e ∧ entZ a w m k e ≤ 4095 := zScale_range _ _ _
end

/-- The hidden values of quantized rows `x`, gate and up weights and their column exponents. -/
def hiddenZ (x : Fin 8192 → Fin 16384 → ℤ) (wg wu : Fin 16384 → Fin 20480 → ℤ) (ge ue : Fin 20480 → BitVec 32) (i : Fin 8192) (j : Fin 20480) : ℤ :=
  swH (entZ (codeZ x i) (fun t => wg t j) (multW x i) (expoW x i) (ge j)) (entZ (codeZ x i) (fun t => wu t j) (multW x i) (expoW x i) (ue j))

/-! ## The hidden groups -/

/-- Column `l` of group `p`. -/
def grpCol (p : Fin 160) (l : Fin 128) : Fin 20480 := ⟨128 * p.val + l.val, by
  have := p.isLt
  have := l.isLt
  omega⟩
/-- The group of a column. -/
def grpOf (j : Fin 20480) : Fin 160 := ⟨j.val / 128, by
  have := j.isLt
  omega⟩

section
variable (h : Fin 8192 → Fin 20480 → ℤ)

/-- A group's largest absolute value. -/
def grpMx (i : Fin 8192) (p : Fin 160) : ℕ := theMax {z | ∃ l, z = h i (grpCol p l)}
/-- The hidden codes, as bytes. -/
def hidB (i : Fin 8192) (j : Fin 20480) : BitVec 8 := (W (qcode (grpMx h i (grpOf j)) (h i j))).setWidth 8
/-- A group's multiplier. -/
def hidM (i : Fin 8192) (p : Fin 160) : BitVec 32 := W (qm (grpMx h i p))
/-- A group's exponent. -/
def hidK (i : Fin 8192) (p : Fin 160) : BitVec 32 := refK (BitVec.ofNat 32 (grpMx h i p))
end

end Cert.Hand

end
-- ==== Proof.KernelIdeal.QuantArr.lean ====
/- The first kernel call's three result arrays over the reals: codes, multipliers and exponents of every input row. -/
module

public import proofs.«01_k».proof.Proof.KernelIdeal.QuantVal
public import proofs.«01_k».proof.Proof.KernelIdeal.Dats
public import proofs.«01_k».proof.Proof.Math.Spec
public import Idealize.ShloMosaic.Lib.Pipeline.ValueKit

@[expose] public section

set_option maxRecDepth 16384

noncomputable section

namespace Cert.KernelIdeal.Hand

open Idealize.ShloMosaic Cert.KernelIdeal.Gen Cert.Hand
open Idealize.ShloMosaic.Pipeline (Dat Cfg Window)

/-- The row an element of block `t` lies in. -/
theorem idx0 (t : Fin cfg0.N) (i : Fin 64) : 64 * t.val + i.val < 8192 := by
  have h : t.val < 128 := t.isLt
  have := i.isLt
  omega

/-- The coordinate of a point is its number. -/
theorem coord0 (t : Fin cfg0.N) : ((grid0.coords t) 0).val = t.val := by
  rw [Pipeline.Grid.coords_val (S := 1) (B := 128) t 0 (by decide) (by decide), Nat.div_one]
  exact Nat.mod_eq_of_lt t.isLt

/-! Each window's block index on the rows is the point. -/

/-- The input block of a point. -/
theorem at0_0 (t : Fin cfg0.N) : win0_0.index t 0 = t.val := by
  show (BitVec.ofNat 32 ((grid0.coords t) 0).val).toNat = t.val
  rw [coord0]
  exact toNat_ofNat (by have h : t.val < 128 := t.isLt; omega)
/-- The codes' block of a point. -/
theorem at0_1 (t : Fin cfg0.N) : win0_1.index t 0 = t.val := at0_0 t
/-- The multipliers' block of a point. -/
theorem at0_2 (t : Fin cfg0.N) : win0_2.index t 0 = t.val := at0_0 t
/-- The exponents' block of a point. -/
theorem at0_3 (t : Fin cfg0.N) : win0_3.index t 0 = t.val := at0_0 t

section
variable (W : Dev nD → Valuation τ sig (Elt Ideal)) (c : Dev nD)

/-- The input array at the call's entry. -/
abbrev xIn : Vec Ideal S8192x16384 .i32 := W c (Proc.devRef .tc main_v0)

/-- It as integers. -/
def xZ (i : Fin 8192) (j : Fin 16384) : ℤ := BitVec.toInt (xIn W c (ix2 (n0 := 8192) (n1 := 16384) i j) : BitVec 32)

/-- Block `t` is the rows from `64 t`. -/
theorem iblk0_apply (t : Fin cfg0.N) (i : Fin 64) (j : Fin 16384) :
    iblk0 W c 0 t (ix2 (n0 := 64) (n1 := 16384) i j) = xIn W c (ix2 (n0 := 8192) (n1 := 16384) ⟨64 * t.val + i.val, idx0 t i⟩ j) := by
  unfold iblk0
  refine congrArg (xIn W c) (funext fun a => Fin.ext ?_)
  match a with
  | ⟨0, _⟩ => blk_simp; rw [at0_0]; show t.val * 64 + i.val = 64 * t.val + i.val; omega
  | ⟨1, _⟩ => blk_simp; show 0 * 16384 + j.val = j.val; omega

variable (hW : ∀ i j, (xZ W c i j).natAbs < 8388608)
include hW

/-- One row of block `t`: what the call leaves of it. -/
theorem row0 (t : Fin cfg0.N) (i : Fin 64) :
    qM (iblk0 W c 0 t) (ix2 (n0 := 64) (n1 := 1) i 0) = multW (xZ W c) ⟨64 * t.val + i.val, idx0 t i⟩
    ∧ qK (iblk0 W c 0 t) (ix2 (n0 := 64) (n1 := 1) i 0) = expoW (xZ W c) ⟨64 * t.val + i.val, idx0 t i⟩
    ∧ ∀ j, qCodes (iblk0 W c 0 t) (ix2 (n0 := 64) (n1 := 16384) i j) = codeB (xZ W c) ⟨64 * t.val + i.val, idx0 t i⟩ j := by
  obtain ⟨r, h1, _, h3, h4, h5⟩ := quant_row (iblk0 W c 0 t) (fun y => by
    have e : y = ix2 (n0 := 64) (n1 := 16384) (y 0) (y 1) := (ix2_eta y).symm
    rw [e]
    exact (congrArg (fun q : BitVec 32 => (BitVec.toInt q).natAbs < 8388608) (iblk0_apply W c t (y 0) (y 1))).mpr (hW _ _)) i
  have hr : rowMx (xZ W c) ⟨64 * t.val + i.val, idx0 t i⟩ = r := by
    refine IsMaxOf.theMax_eq ?_
    have e : {z | ∃ j, z = xZ W c ⟨64 * t.val + i.val, idx0 t i⟩ j} = rowSet (iblk0 W c 0 t) i := by
      ext z
      unfold rowSet xZ
      simp only [iblk0_apply]
    rw [e]
    exact h1
  unfold multW expoW codeB codeZ
  rw [hr]
  refine ⟨h3, h4, fun j => ?_⟩
  rw [h5, iblk0_apply]
  rfl

/-- The codes the first call leaves. -/
theorem codes_arr : (dat0 W c).arrAt 1 cfg0.N = fun y => codeB (xZ W c) (y 0) (y 1) := by
  refine (dat0 W c).arrAt_eq_of_covers 1 _ (by decide +kernel) fun t _ y => ?_
  blk_simp
  have e : y = ix2 (n0 := 64) (n1 := 16384) (y 0) (y 1) := (ix2_eta y).symm
  rw [after0_1]
  refine (congrArg (qCodes (iblk0 W c 0 t)) e).trans (((row0 W c hW t (y 0)).2.2 (y 1)).trans ?_)
  refine congrArg₂ (codeB (xZ W c)) (Fin.ext ?_) (Fin.ext ?_)
  · blk_simp; rw [at0_1]; show 64 * t.val + (y 0).val = t.val * 64 + (y 0).val; omega
  · blk_simp; show (y 1).val = 0 * 16384 + (y 1).val; omega

/-- The multipliers the first call leaves. -/
theorem mult_arr : (dat0 W c).arrAt 2 cfg0.N = fun y => multW (xZ W c) (y 0) := by
  refine (dat0 W c).arrAt_eq_of_covers 2 _ (by decide +kernel) fun t _ y => ?_
  blk_simp
  have e : y = ix2 (n0 := 64) (n1 := 1) (y 0) 0 := (ix2_eta y).symm.trans (congrArg (ix2 (n0 := 64) (n1 := 1) (y 0)) (Subsingleton.elim (α := Fin 1) _ _))
  rw [after0_2]
  refine (congrArg (qM (iblk0 W c 0 t)) e).trans ((row0 W c hW t (y 0)).1.trans ?_)
  refine congrArg (multW (xZ W c)) (Fin.ext ?_)
  blk_simp; rw [at0_2]; show 64 * t.val + (y 0).val = t.val * 64 + (y 0).val; omega

/-- The exponents the first call leaves. -/
theorem expo_arr : (dat0 W c).arrAt 3 cfg0.N = fun y => expoW (xZ W c) (y 0) := by
  refine (dat0 W c).arrAt_eq_of_covers 3 _ (by decide +kernel) fun t _ y => ?_
  blk_simp
  have e : y = ix2 (n0 := 64) (n1 := 1) (y 0) 0 := (ix2_eta y).symm.trans (congrArg (ix2 (n0 := 64) (n1 := 1) (y 0)) (Subsingleton.elim (α := Fin 1) _ _))
  rw [after0_3]
  refine (congrArg (qK (iblk0 W c 0 t)) e).trans ((row0 W c hW t (y 0)).2.1.trans ?_)
  refine congrArg (expoW (xZ W c)) (Fin.ext ?_)
  blk_simp; rw [at0_3]; show 64 * t.val + (y 0).val = t.val * 64 + (y 0).val; omega

end

end Cert.KernelIdeal.Hand

end
-- ==== Proof.KernelIdeal.AccVal.lean ====
/- The second kernel call's accumulators over the reals: after the sixteen trips an entry is the word of the whole
   integer dot product. -/
module

public import proofs.«01_k».proof.Proof.KernelIdeal.MmBody
public import proofs.«01_k».proof.Proof.KernelIdeal.QuantVal
public import proofs.«01_k».proof.Proof.Math.Swiglu
public import Idealize.ShloMosaic.Lib.MatmulPlain

@[expose] public section

set_option maxRecDepth 16384

noncomputable section

namespace Cert.KernelIdeal.Hand

open Idealize.ShloMosaic Cert.KernelIdeal.Gen Cert.Hand

/-- A sum of reals in the float type is the sum of the reals. -/
theorem R_sum {ι : Type*} (s : Finset ι) (f : ι → ℝ) : ∑ i ∈ s, R (f i) = R (∑ i ∈ s, f i) := by
  classical
  induction s using Finset.induction_on with
  | empty => simp
  | insert a s ha ih => rw [Finset.sum_insert ha, Finset.sum_insert ha, ih, R_add]

/-- The product of two bytes is at most 2^14 in size. -/
theorem byte_mul (a b : BitVec 8) : |a.toInt * b.toInt| ≤ 16384 := by
  have h1 := BitVec.le_toInt a
  have h2 := BitVec.toInt_lt (x := a)
  have h3 := BitVec.le_toInt b
  have h4 := BitVec.toInt_lt (x := b)
  norm_num at h1 h2 h3 h4
  rw [abs_le]
  constructor <;> nlinarith

/-- One block's product, exactly. -/
theorem prod_blk (x : Vec Ideal S256x1024 .i8) (w : Vec Ideal S1024x256 .i8) (r c : Fin 256) :
    matmul (F := Ideal) dot_S256x1024_S1024x256_S256x256_1_0_0_1_n_n none (k1_pay8 x) (k1_pay6 w) (constant S256x256 .f32 0x00000000#32)
      (ix2 (n0 := 256) (n1 := 256) r c)
    = R ((∑ k : Fin 1024, BitVec.toInt (x (ix2 (n0 := 256) (n1 := 1024) r k) : BitVec 8) * BitVec.toInt (w (ix2 (n0 := 1024) (n1 := 256) k c) : BitVec 8) : ℤ) : ℝ) := by
  refine (Ideal.matmul_plain_apply (M := 256) (K := 1024) (N := 256) none (k1_pay8 x) (k1_pay6 w) (constant S256x256 .f32 0x00000000#32) r c).trans ?_
  have h0 : (constant (F := Ideal) S256x256 .f32 0x00000000#32) (ix2 (n0 := 256) (n1 := 256) r c) = R 0 := c_zero
  have h1 : ∀ k : Fin 1024, k1_pay8 x (ix2 (n0 := 256) (n1 := 1024) r k) * k1_pay6 w (ix2 (n0 := 1024) (n1 := 256) k c)
      = R ((BitVec.toInt (x (ix2 (n0 := 256) (n1 := 1024) r k) : BitVec 8) * BitVec.toInt (w (ix2 (n0 := 1024) (n1 := 256) k c) : BitVec 8) : ℤ) : ℝ) := by
    intro k
    unfold k1_pay8 k1_pay6
    rw [shapeCast_self]
    show R (_ : ℝ) * R (_ : ℝ) = _
    rw [R_mul]
    push_cast
    rfl
  refine (congrArg₂ (· + ·) h0 (Finset.sum_congr rfl fun k _ => h1 k)).trans ?_
  simp only [R_sum, R_add]
  push_cast
  rw [zero_add]

/-- Terms of at most 16384 each sum to at most 16384 times their number. -/
theorem sum_bound {n : ℕ} (f : Fin n → ℤ) (h : ∀ k, |f k| ≤ 16384) : |∑ k, f k| ≤ n * 16384 := by
  refine (Finset.abs_sum_le_sum_abs _ _).trans ?_
  refine (Finset.sum_le_card_nsmul _ _ 16384 fun k _ => h k).trans ?_
  simp

/-- The terms of an entry's dot product, by position. -/
def dotTerm (X : Vec Ideal S1024x16384 .i8) (Wt : Vec Ideal S16384x256 .i8) (i : Fin 1024) (j : Fin 256) (t : ℕ) : ℤ :=
  if h : t < 16384 then BitVec.toInt (X (ix2 (n0 := 1024) (n1 := 16384) i ⟨t, h⟩) : BitVec 8) * BitVec.toInt (Wt (ix2 (n0 := 16384) (n1 := 256) ⟨t, h⟩ j) : BitVec 8) else 0

/-- An element of step `k`'s slice of the weights. -/
theorem wBlk_apply (Wt : Vec Ideal S16384x256 .i8) (k : Fin k1_t1_loop.trips) (t : Fin 1024) (j : Fin 256) :
    wBlk Wt k (ix2 (n0 := 1024) (n1 := 256) t j) = Wt (ix2 (n0 := 16384) (n1 := 256) ⟨1024 * k.val + t.val, by
      have : k.val < 16 := k.isLt
      have := t.isLt
      omega⟩ j) := by
  have ho : k1_off1 k = ![1024 * k.val, 0] := by revert k; decide
  refine congrArg Wt (funext fun a => Fin.ext ?_)
  match a with
  | ⟨0, _⟩ => show k1_off1 k 0 + 1 * t.val = 1024 * k.val + t.val; rw [ho]; show 1024 * k.val + 1 * t.val = _; omega
  | ⟨1, _⟩ => show k1_off1 k 1 + 1 * j.val = j.val; rw [ho]; show 0 + 1 * j.val = _; omega

/-- An element of the slice of the codes for row quarter `q` and step `k`. -/
theorem xBlk_apply (X : Vec Ideal S1024x16384 .i8) (k : Fin k1_t1_loop.trips) (q : ℕ) (hq : q < 4) (r : Fin 256) (t : Fin 1024) :
    xBlk X k q (ix2 (n0 := 256) (n1 := 1024) r t) = X (ix2 (n0 := 1024) (n1 := 16384) ⟨256 * q + r.val, by omega⟩ ⟨1024 * k.val + t.val, by
      have : k.val < 16 := k.isLt
      have := t.isLt
      omega⟩) := by
  have key : ∀ (off : Fin 2 → ℕ) (inb : ∀ a, off a + S256x1024.size a ≤ S1024x16384.size a), off = ![256 * q, 1024 * k.val] →
      View.ld X (Rect.unit (s := S1024x16384) off S256x1024.size inb) (ix2 (n0 := 256) (n1 := 1024) r t)
        = X (ix2 (n0 := 1024) (n1 := 16384) ⟨256 * q + r.val, by omega⟩ ⟨1024 * k.val + t.val, by
          have : k.val < 16 := k.isLt
          have := t.isLt
          omega⟩) := by
    intro off inb ho
    refine congrArg X (funext fun a => Fin.ext ?_)
    match a with
    | ⟨0, _⟩ => show off 0 + 1 * r.val = 256 * q + r.val; rw [ho]; show 256 * q + 1 * r.val = _; omega
    | ⟨1, _⟩ => show off 1 + 1 * t.val = 1024 * k.val + t.val; rw [ho]; show 1024 * k.val + 1 * t.val = _; omega
  obtain rfl | rfl | rfl | rfl : q = 0 ∨ q = 1 ∨ q = 2 ∨ q = 3 := by omega
  · exact key _ _ (by clear key; revert k; decide)
  · exact key _ _ (by clear key; revert k; decide)
  · exact key _ _ (by clear key; revert k; decide)
  · exact key _ _ (by clear key; revert k; decide)

/-- An element of row quarter `q` of the accumulator. -/
theorem aBlk_apply (A : Vec Ideal S1024x256 .i32) (q : ℕ) (hq : q < 4) (r c : Fin 256) :
    aBlk A q (ix2 (n0 := 256) (n1 := 256) r c) = A (ix2 (n0 := 1024) (n1 := 256) ⟨256 * q + r.val, by omega⟩ c) := by
  obtain rfl | rfl | rfl | rfl : q = 0 ∨ q = 1 ∨ q = 2 ∨ q = 3 := by omega
  all_goals
    refine congrArg A (funext fun a => Fin.ext ?_)
    match a with
    | ⟨0, _⟩ => show _ + 1 * r.val = _; simp
    | ⟨1, _⟩ => show _ + 1 * c.val = c.val; simp

/-- Whether a trip is the first, as the kernel asks it. -/
theorem first_trip (k : Fin k1_t1_loop.trips) : Scalar.cmpi .eq (Scf.iv 0#32 1#32 k) 0#32 = if k.val = 0 then 1#1 else 0#1 := by
  revert k; decide

/-- One block's step: the products' exact sum added to what the entry held. -/
theorem step_val (k : Fin k1_t1_loop.trips) (w : Vec Ideal S1024x256 .i8) (x : Vec Ideal S256x1024 .i8) (A : Vec Ideal S256x256 .i32) (r c : Fin 256) :
    k1_pay9 0#32 1#32 k w x A (ix2 (n0 := 256) (n1 := 256) r c)
      = IntOp.addi (if k.val = 0 then 0#32 else A (ix2 (n0 := 256) (n1 := 256) r c))
          (W (∑ t : Fin 1024, BitVec.toInt (x (ix2 (n0 := 256) (n1 := 1024) r t) : BitVec 8) * BitVec.toInt (w (ix2 (n0 := 1024) (n1 := 256) t c) : BitVec 8))) := by
  have hb : |∑ t : Fin 1024, BitVec.toInt (x (ix2 (n0 := 256) (n1 := 1024) r t) : BitVec 8) * BitVec.toInt (w (ix2 (n0 := 1024) (n1 := 256) t c) : BitVec 8)|
      ≤ (1024 : ℕ) * 16384 := sum_bound _ fun t => byte_mul _ _
  have hp := prod_blk x w r c
  unfold k1_pay9
  rw [shapeCast_self]
  refine congrArg₂ IntOp.addi ?_ ?_
  · show Scalar.select (Scalar.cmpi .eq (Scf.iv 0#32 1#32 k) 0#32) (broadcast S256x256 0#32) A (ix2 (n0 := 256) (n1 := 256) r c) = _
    rw [first_trip]
    by_cases h : k.val = 0
    · rw [if_pos h, if_pos h]; rfl
    · rw [if_neg h, if_neg h]; rfl
  · refine (fptosi_apply _ _).trans ?_
    refine (congrArg (fun q => BitVec.ofInt 32 (Ideal.toIntClamped (-(2 ^ (32 - 1))) (2 ^ (32 - 1) - 1) (Ideal.liftRound Ideal.roundHalfEven q))) hp).trans ?_
    rw [round_R, roundHalfEven_int, fptosi_int (by have := abs_le.1 hb; omega) (by have := abs_le.1 hb; omega)]

/-- One trip at an entry. -/
theorem trip_val (X : Vec Ideal S1024x16384 .i8) (Wt : Vec Ideal S16384x256 .i8) (A : Vec Ideal S1024x256 .i32) (i : Fin 1024) (j : Fin 256)
    (k : ℕ) (hk : k < k1_t1_loop.trips) :
    accN X Wt A (k + 1) (ix2 (n0 := 1024) (n1 := 256) i j)
      = IntOp.addi (if k = 0 then 0#32 else accN X Wt A k (ix2 (n0 := 1024) (n1 := 256) i j))
          (W (∑ t : Fin 1024, dotTerm X Wt i j (1024 * k + t.val))) := by
  have hi := i.isLt
  have hk' : k < 16 := hk
  have hq : i.val / 256 < 4 := by omega
  have hl : lane256 (ix2 (n0 := 1024) (n1 := 256) i j) = ix2 (n0 := 256) (n1 := 256) ⟨i.val % 256, Nat.mod_lt _ (by norm_num)⟩ j := by
    funext a
    match a with
    | ⟨0, _⟩ => rfl
    | ⟨1, _⟩ => rfl
  have hi' : (⟨256 * (i.val / 256) + i.val % 256, by omega⟩ : Fin 1024) = i := Fin.ext (by show 256 * (i.val / 256) + i.val % 256 = i.val; omega)
  rw [accN_succ _ _ _ k hk]
  refine (congrArg _ hl).trans ((step_val _ _ _ _ _ _).trans ?_)
  refine congrArg₂ IntOp.addi ?_ (congrArg W (Finset.sum_congr rfl fun t _ => ?_))
  · by_cases h0 : k = 0
    · rw [if_pos h0, if_pos h0]
    · rw [if_neg h0, if_neg h0]
      refine (aBlk_apply _ _ hq _ _).trans ?_
      exact congrArg (fun z => accN X Wt A k (ix2 (n0 := 1024) (n1 := 256) z j)) hi'
  · have := t.isLt
    unfold dotTerm
    rw [dif_pos (by omega)]
    refine congrArg₂ (fun a b : BitVec 8 => a.toInt * b.toInt) ?_ (wBlk_apply Wt ⟨k, hk⟩ t j)
    refine (xBlk_apply X ⟨k, hk⟩ _ hq _ _).trans ?_
    exact congrArg (fun z => X (ix2 (n0 := 1024) (n1 := 16384) z _)) hi'

/-- After `k` trips an entry is the word of the first `1024 k` terms' sum. -/
theorem accN_val (X : Vec Ideal S1024x16384 .i8) (Wt : Vec Ideal S16384x256 .i8) (i : Fin 1024) (j : Fin 256) (k : ℕ) : k ≤ 16 →
    accN X Wt (fun _ => 0#32) k (ix2 (n0 := 1024) (n1 := 256) i j) = W (∑ t ∈ Finset.range (1024 * k), dotTerm X Wt i j t) := by
  induction k with
  | zero => intro _; rfl
  | succ k ih =>
    intro hk
    have ht : k < k1_t1_loop.trips := by rw [trips1_1]; omega
    have h0 : (if k = 0 then 0#32 else accN X Wt (fun _ => 0#32) k (ix2 (n0 := 1024) (n1 := 256) i j)) = W (∑ t ∈ Finset.range (1024 * k), dotTerm X Wt i j t) := by
      by_cases h0 : k = 0
      · subst h0; rfl
      · rw [if_neg h0]; exact ih (by omega)
    rw [trip_val X Wt _ i j k ht, h0, add_W, show 1024 * (k + 1) = 1024 * k + 1024 by ring, Finset.sum_range_add]
    congr 2

/-- An entry after the loop: the word of the whole dot product. -/
theorem acc_val (X : Vec Ideal S1024x16384 .i8) (Wt : Vec Ideal S16384x256 .i8) (i : Fin 1024) (j : Fin 256) :
    acc X Wt (ix2 (n0 := 1024) (n1 := 256) i j) = W (∑ t : Fin 16384, BitVec.toInt (X (ix2 (n0 := 1024) (n1 := 16384) i t) : BitVec 8)
      * BitVec.toInt (Wt (ix2 (n0 := 16384) (n1 := 256) t j) : BitVec 8)) := by
  unfold acc
  rw [trips1_1, accN_val X Wt i j 16 (le_refl _), show 1024 * 16 = 16384 by norm_num]
  refine congrArg W ((Finset.sum_range fun t => dotTerm X Wt i j t).trans (Finset.sum_congr rfl fun t _ => ?_))
  rw [dotTerm, dif_pos t.isLt]

end Cert.KernelIdeal.Hand

end
-- ==== Proof.KernelIdeal.EpiVal.lean ====
/- The second kernel call's epilogue over the reals: the clipped gate and up entries, the hidden values, each group's
   largest absolute value, the group codes, and what the scratch of maxima holds. -/
module

public import proofs.«01_k».proof.Proof.KernelIdeal.AccVal

@[expose] public section

set_option maxRecDepth 16384

noncomputable section

namespace Cert.KernelIdeal.Hand

open Idealize.ShloMosaic Cert.KernelIdeal.Gen Cert.Hand

/-! ## Gate and up entries -/

/-- The clipped integer of one scaled entry: accumulator, row multiplier, row exponent and column exponent. -/
def zEnt (M K : Vec Ideal S1024x1 .i32) (E : Vec Ideal S1x256 .i32) (A : Vec Ideal S1024x256 .i32) (i : Fin 1024) (j : Fin 256) : ℤ :=
  zScale (A (ix2 (n0 := 1024) (n1 := 256) i j)) (M (ix2 (n0 := 1024) (n1 := 1) i 0))
    (IntOp.addi (IntOp.subi (K (ix2 (n0 := 1024) (n1 := 1) i 0)) 8#32) (E (ix2 (n0 := 1) (n1 := 256) 0 j)))

/-- Row `r` of trip `k`. -/
def rowOf (k : Fin k1_t2_loop.trips) (r : Fin 32) : Fin 1024 := ⟨32 * k.val + r.val, by
  have : k.val < 32 := k.isLt
  have := r.isLt
  omega⟩

/-- Trip `k` starts at row 32 k. -/
theorem k1_off6_eq (k : Fin k1_t2_loop.trips) : k1_off6 k = ![32 * k.val, 0] := by
  revert k; decide

/-- An element of trip `k`'s slice of a column. -/
theorem col32_apply (M : Vec Ideal S1024x1 .i32) (k : Fin k1_t2_loop.trips) (r : Fin 32) :
    col32 M k (ix2 (n0 := 32) (n1 := 1) r 0) = M (ix2 (n0 := 1024) (n1 := 1) (rowOf k r) 0) := by
  refine congrArg M (funext fun a => Fin.ext ?_)
  match a with
  | ⟨0, _⟩ => show k1_off6 k 0 + 1 * r.val = 32 * k.val + r.val; rw [k1_off6_eq]; show 32 * k.val + 1 * r.val = _; omega
  | ⟨1, _⟩ => show k1_off6 k 1 + 1 * 0 = 0; rw [k1_off6_eq]; rfl

/-- An element of trip `k`'s slice of a block. -/
theorem row32_apply {e : EltTy} (A : Vec Ideal S1024x256 e) (k : Fin k1_t2_loop.trips) (r : Fin 32) (j : Fin 256) :
    row32 A k (ix2 (n0 := 32) (n1 := 256) r j) = A (ix2 (n0 := 1024) (n1 := 256) (rowOf k r) j) := by
  refine congrArg A (funext fun a => Fin.ext ?_)
  match a with
  | ⟨0, _⟩ => show k1_off7 k 0 + 1 * r.val = 32 * k.val + r.val; rw [k1_off7_eq]; show 32 * k.val + 1 * r.val = _; omega
  | ⟨1, _⟩ => show k1_off7 k 1 + 1 * j.val = j.val; rw [k1_off7_eq]; show 0 + 1 * j.val = _; omega

/-- Reading the whole of a row changes nothing. -/
theorem row1_apply (G : Vec Ideal S1x256 .i32) (j : Fin 256) :
    row1 G (ix2 (n0 := 1) (n1 := 256) 0 j) = G (ix2 (n0 := 1) (n1 := 256) 0 j) := by
  refine congrArg G (funext fun a => Fin.ext ?_)
  match a with
  | ⟨0, _⟩ => rfl
  | ⟨1, _⟩ => show 0 + 1 * j.val = j.val; omega

/-- A column of words repeated along the 256 lanes. -/
theorem bcast_col (v : IVec S32x1 32) :
    broadcastTo S32x256 v broadcasts_S32x1_S32x256 = fun y => v (ix2 (n0 := 32) (n1 := 1) (y 0) 0) :=
  funext fun _ => congrArg v (funext fun a => match a with | ⟨0, _⟩ => rfl | ⟨1, _⟩ => rfl)

/-- A column of floats repeated along the 256 lanes. -/
theorem bcast_colF (v : FVec Ideal S32x1 .f32) :
    broadcastTo S32x256 v broadcasts_S32x1_S32x256 = fun y => v (ix2 (n0 := 32) (n1 := 1) (y 0) 0) :=
  funext fun _ => congrArg v (funext fun a => match a with | ⟨0, _⟩ => rfl | ⟨1, _⟩ => rfl)

/-- A column of floats repeated along the 128 lanes of a half. -/
theorem bcast_half (v : FVec Ideal S32x1 .f32) :
    broadcastTo S32x128 v broadcasts_S32x1_S32x128 = fun y => v (ix2 (n0 := 32) (n1 := 1) (y 0) 0) :=
  funext fun _ => congrArg v (funext fun a => match a with | ⟨0, _⟩ => rfl | ⟨1, _⟩ => rfl)

/-- A row of words repeated along the 32 rows. -/
theorem bcast_row (v : IVec S1x256 32) :
    broadcastTo S32x256 v broadcasts_S1x256_S32x256 = fun y => v (ix2 (n0 := 1) (n1 := 256) 0 (y 1)) :=
  funext fun _ => congrArg v (funext fun a => match a with | ⟨0, _⟩ => rfl | ⟨1, _⟩ => rfl)

/-- A gate entry is the scaled accumulator of its place. -/
theorem pay22_apply (m k : Vec Ideal S32x1 .i32) (A : Vec Ideal S32x256 .i32) (E : Vec Ideal S1x256 .i32) (r : Fin 32) (j : Fin 256) :
    k1_pay22 (F := Ideal) m k A E (ix2 (n0 := 32) (n1 := 256) r j)
      = kScale (A (ix2 (n0 := 32) (n1 := 256) r j)) (m (ix2 (n0 := 32) (n1 := 1) r 0))
          (IntOp.addi (IntOp.subi (k (ix2 (n0 := 32) (n1 := 1) r 0)) 8#32) (E (ix2 (n0 := 1) (n1 := 256) 0 j))) := by
  simp only [k1_pay22, k1_pay20, k1_pay21, shapeCast_self, bcast_col, bcast_row]
  rfl

/-- An up entry is the scaled accumulator of its place. -/
theorem pay23_apply (m k : Vec Ideal S32x1 .i32) (A : Vec Ideal S32x256 .i32) (E : Vec Ideal S1x256 .i32) (r : Fin 32) (j : Fin 256) :
    k1_pay23 (F := Ideal) (k1_pay20 (F := Ideal) m) (k1_pay21 (F := Ideal) k) A E (ix2 (n0 := 32) (n1 := 256) r j)
      = kScale (A (ix2 (n0 := 32) (n1 := 256) r j)) (m (ix2 (n0 := 32) (n1 := 1) r 0))
          (IntOp.addi (IntOp.subi (k (ix2 (n0 := 32) (n1 := 1) r 0)) 8#32) (E (ix2 (n0 := 1) (n1 := 256) 0 j))) := by
  simp only [k1_pay23, k1_pay20, k1_pay21, shapeCast_self, bcast_col, bcast_row]
  rfl

/-- A gate entry as an integer. -/
theorem eGate_val (M K : Vec Ideal S1024x1 .i32) (Ge : Vec Ideal S1x256 .i32) (Ag : Vec Ideal S1024x256 .i32) (k : Fin k1_t2_loop.trips) (r : Fin 32) (j : Fin 256) :
    eGate M K Ge Ag k (ix2 (n0 := 32) (n1 := 256) r j) = R (zEnt M K Ge Ag (rowOf k r) j : ℝ) := by
  unfold eGate
  rw [pay22_apply, col32_apply, col32_apply, row32_apply, row1_apply, kScale_eq]
  rfl

/-- An up entry as an integer. -/
theorem eUp_val (M K : Vec Ideal S1024x1 .i32) (Ue : Vec Ideal S1x256 .i32) (Au : Vec Ideal S1024x256 .i32) (k : Fin k1_t2_loop.trips) (r : Fin 32) (j : Fin 256) :
    eUp M K Ue Au k (ix2 (n0 := 32) (n1 := 256) r j) = R (zEnt M K Ue Au (rowOf k r) j : ℝ) := by
  unfold eUp
  rw [pay23_apply, col32_apply, col32_apply, row32_apply, row1_apply, kScale_eq]
  rfl

/-- An entry lies in -4095..4095. -/
theorem zEnt_range (M K : Vec Ideal S1024x1 .i32) (E : Vec Ideal S1x256 .i32) (A : Vec Ideal S1024x256 .i32) (i : Fin 1024) (j : Fin 256) :
    -4095 ≤ zEnt M K E A i j ∧ zEnt M K E A i j ≤ 4095 := zScale_range _ _ _

/-! ## Hidden values, group maxima and codes of a 32-row block -/

/-- The hidden block is the hidden value place by place. -/
theorem hid_apply (g u : FVec Ideal S32x256 .f32) (y : S32x256.Idx) : hid g u y = kH (g y) (u y) := rfl

/-- The largest absolute value of each row of a 128-wide block, at least 1. -/
def halfMax (v : FVec Ideal S32x128 .f32) : FVec Ideal S32x1 .f32 :=
  maximumf (shapeCast S32x1 (multiReduction (F := Ideal) .maximumf [1] S32 (absf v) 0xFF800000#32 reduces_S32x128_S32 (.inl rfl) rfl) shapeCasts_S32_S32x1)
    (broadcast S32x1 (Scalar.ofBits (F := Ideal) .f32 0x3F800000#32))

/-- The kernel's maximum of the first half is `halfMax` of that half. -/
theorem pay29_eq (g u : FVec Ideal S32x256 .f32) :
    k1_pay29 g u (k1_pay25 g) (k1_pay26 g) quarter = halfMax (k1_pay28 g u (k1_pay25 g) (k1_pay26 g) quarter) := rfl

/-- The kernel's maximum of the second half is `halfMax` of that half. -/
theorem pay35_eq (h : FVec Ideal S32x256 .f32) : k1_pay35 h = halfMax (k1_pay34 h) := rfl

/-- The reduction along a half is the largest of its 128 elements. -/
theorem redMax_half (v : FVec Ideal S32x128 .f32) (i : Fin 32) (z : Fin 128 → ℕ) (hv : ∀ l, v (ix2 (n0 := 32) (n1 := 128) i l) = R (z l : ℝ)) :
    multiReduction (F := Ideal) .maximumf [1] S32 v 0xFF800000#32 reduces_S32x128_S32 (.inl rfl) rfl (ix1 (n0 := 32) i)
      = (Finset.univ : Finset (Fin 128)).fold max (Ideal.ofBits .f32 0xFF800000#32) (fun l => R (z l : ℝ)) := by
  refine (Ideal.multiReduction_maximumf_single v _ _ _ _ _).trans ?_
  refine congrArg (fun f : Fin 128 → EReal => (Finset.univ : Finset (Fin 128)).fold max (Ideal.ofBits .f32 0xFF800000#32) f) (funext fun l => ?_)
  have hi : reduces_S32x128_S32.lift (ix1 (n0 := 32) i) l = ix2 (n0 := 32) (n1 := 128) i l := by
    funext a
    match a with
    | ⟨0, _⟩ => rfl
    | ⟨1, _⟩ => rfl
  exact (congrArg v hi).trans (hv l)

/-- The maximum of a half of integers is the largest absolute value, a number below 2^18. -/
theorem halfMax_spec (v : FVec Ideal S32x128 .f32) (r : Fin 32) (z : Fin 128 → ℤ) (hv : ∀ l, v (ix2 (n0 := 32) (n1 := 128) r l) = R (z l : ℝ))
    (hz : ∀ l, (z l).natAbs < 262144) :
    ∃ m : ℕ, halfMax v (ix2 (n0 := 32) (n1 := 1) r 0) = R (m : ℝ) ∧ IsMaxOf m {w | ∃ l, w = z l} ∧ m < 262144 := by
  obtain ⟨m, e, m1, m2, m3⟩ := fold_max_nat (fun l => (z l).natAbs) (Finset.univ : Finset (Fin 128))
  have hm : IsMaxOf m {w | ∃ l, w = z l} := by
    refine ⟨m1, ?_, ?_⟩
    · rintro w ⟨l, rfl⟩; exact m2 l (Finset.mem_univ _)
    · rcases m3 with m3 | ⟨l, _, m3⟩
      · exact .inl m3
      · exact .inr ⟨_, ⟨l, rfl⟩, m3⟩
  refine ⟨m, ?_, hm, hm.lt (by norm_num) (by rintro w ⟨l, rfl⟩; exact hz l)⟩
  have hred := redMax_half (absf v) r (fun l => (z l).natAbs) (fun l => by
    show max (v (ix2 (n0 := 32) (n1 := 128) r l)) (-v (ix2 (n0 := 32) (n1 := 128) r l)) = _
    rw [hv, R_abs, ← Int.cast_abs, Int.abs_eq_natAbs, Int.cast_natCast])
  show max (shapeCast S32x1 (multiReduction (F := Ideal) .maximumf [1] S32 (absf v) 0xFF800000#32 reduces_S32x128_S32 (.inl rfl) rfl)
    shapeCasts_S32_S32x1 (ix2 (n0 := 32) (n1 := 1) r 0)) (Ideal.ofBits .f32 0x3F800000#32) = _
  rw [shapeCast_apply _ _ _ (ix1 (n0 := 32) r) (by
    rw [Shape.rowMajor_val_one, Shape.rowMajor_val_two]; show r.val = r.val * 1 + 0; omega), c_one]
  exact (congrArg (fun q => max q (R 1)) hred).trans e

/-- The codes of a 128-wide block: from its rows' patterns and multipliers. -/
theorem pay32_apply (v : FVec Ideal S32x128 .f32) (b : IVec S32x1 32) (a : FVec Ideal S32x1 .f32) (r : Fin 32) (l : Fin 128) :
    k1_pay32 v b a (ix2 (n0 := 32) (n1 := 128) r l)
      = gCode (b (ix2 (n0 := 32) (n1 := 1) r 0)) (Ideal.liftRound Int.floor (a (ix2 (n0 := 32) (n1 := 1) r 0) * Ideal.ofBits .f32 0x3C010204#32))
          (v (ix2 (n0 := 32) (n1 := 128) r l)) := by
  simp only [k1_pay32, bcast_half]
  rfl

/-- The word of a group's maximum, and its pattern. -/
theorem bits_of_max {m : ℕ} (h : m < 262144) :
    BitVec.ofInt 32 (Ideal.toIntClamped (-(2 ^ (32 - 1))) (2 ^ (32 - 1) - 1) (R (m : ℝ))) = BitVec.ofNat 32 m := by
  rw [← Int.cast_natCast, fptosi_int (by omega) (by omega), ofNat_eq_W]

section
variable (g u : FVec Ideal S32x256 .f32) (r : Fin 32) (a b : Fin 256 → ℤ)
  (hg : ∀ j, g (ix2 (n0 := 32) (n1 := 256) r j) = R (a j : ℝ)) (hu : ∀ j, u (ix2 (n0 := 32) (n1 := 256) r j) = R (b j : ℝ))
  (ha : ∀ j, -4095 ≤ a j ∧ a j ≤ 4095) (hb : ∀ j, -4095 ≤ b j ∧ b j ≤ 4095)

/-- Column `l` of half `h`. -/
def halfCol (h : Fin 2) (l : Fin 128) : Fin 256 := ⟨128 * h.val + l.val, by
  have := h.isLt
  have := l.isLt
  omega⟩

include hg hu ha hb

/-- A hidden value as an integer. -/
theorem hid_val (j : Fin 256) : hid g u (ix2 (n0 := 32) (n1 := 256) r j) = R (swH (a j) (b j) : ℝ) := by
  rw [hid_apply, hg, hu, kH_eq (ha j).1 (ha j).2 (hb j).1 (hb j).2]

/-- The first half holds the hidden values of the first 128 columns. -/
theorem first_val (l : Fin 128) : k1_pay28 g u (k1_pay25 g) (k1_pay26 g) quarter (ix2 (n0 := 32) (n1 := 128) r l)
    = R (swH (a (halfCol 0 l)) (b (halfCol 0 l)) : ℝ) := by
  rw [← hid_val g u r a b hg hu ha hb]
  unfold k1_pay28
  refine extractStridedSlice_apply _ _ _ _ _ fun c => ?_
  match c with
  | ⟨0, _⟩ => show r.val = 0 + r.val; omega
  | ⟨1, _⟩ => show 128 * 0 + l.val = 0 + l.val; omega

/-- The second half holds the hidden values of the last 128 columns. -/
theorem second_val (l : Fin 128) : k1_pay34 (hid g u) (ix2 (n0 := 32) (n1 := 128) r l)
    = R (swH (a (halfCol 1 l)) (b (halfCol 1 l)) : ℝ) := by
  rw [← hid_val g u r a b hg hu ha hb]
  unfold k1_pay34
  refine extractStridedSlice_apply _ _ _ _ _ fun c => ?_
  match c with
  | ⟨0, _⟩ => show r.val = 0 + r.val; omega
  | ⟨1, _⟩ => show 128 * 1 + l.val = 128 + l.val; omega

/-- Both halves of a row: their largest absolute values, the codes, and the two columns put into the scratch. -/
theorem epi_row : ∃ m : Fin 2 → ℕ, (∀ h, IsMaxOf (m h) {w | ∃ l, w = swH (a (halfCol h l)) (b (halfCol h l))} ∧ m h < 262144)
    ∧ k1_pay29 g u (k1_pay25 g) (k1_pay26 g) quarter (ix2 (n0 := 32) (n1 := 1) r 0) = R (m 0 : ℝ)
    ∧ k1_pay35 (hid g u) (ix2 (n0 := 32) (n1 := 1) r 0) = R (m 1 : ℝ)
    ∧ ∀ h l, hcBlk g u (ix2 (n0 := 32) (n1 := 256) r (halfCol h l)) = (W (qcode (m h) (swH (a (halfCol h l)) (b (halfCol h l))))).setWidth 8 := by
  obtain ⟨m0, e0, h0, l0⟩ := halfMax_spec _ r _ (first_val g u r a b hg hu ha hb)
    (fun l => swH_range (ha _).1 (ha _).2 (hb _).1 (hb _).2)
  obtain ⟨m1, e1, h1, l1⟩ := halfMax_spec _ r _ (second_val g u r a b hg hu ha hb)
    (fun l => swH_range (ha _).1 (ha _).2 (hb _).1 (hb _).2)
  have b0 : k1_pay30 g u (k1_pay25 g) (k1_pay26 g) quarter (ix2 (n0 := 32) (n1 := 1) r 0) = kBits (BitVec.ofNat 32 m0) := by
    rw [← bits_of_max l0, ← e0]; rfl
  have b1 : IntOp.ori (k1_pay38 (hid g u) (ix2 (n0 := 32) (n1 := 1) r 0)) (k1_pay39 (hid g u) (ix2 (n0 := 32) (n1 := 1) r 0)) = kBits (BitVec.ofNat 32 m1) := by
    rw [← bits_of_max l1, ← e1]; rfl
  have n0 : (BitVec.ofNat 32 m0).toNat = m0 := toNat_ofNat (by omega)
  have n1 : (BitVec.ofNat 32 m1).toNat = m1 := toNat_ofNat (by omega)
  refine ⟨fun h => if h = 0 then m0 else m1, ?_, e0, e1, ?_⟩
  · intro h
    match h with
    | 0 => exact ⟨h0, l0⟩
    | 1 => exact ⟨h1, l1⟩
  · intro h l
    simp only [hcBlk, k1_pay41, bcast_half]
    refine congrArg (BitVec.setWidth 8) ?_
    match h with
    | 0 =>
      refine (concatenate_pair_apply_left (t := S32x256) (s₁ := S32x128) (s₂ := S32x128) (1 : Fin 2) _ _ concatenates_S32x128_S32x128_S32x256_d1 _ rfl (ix2 (n0 := 32) (n1 := 128) r l) (fun c => ?_)).trans ?_
      · match c with
        | ⟨0, _⟩ => rfl
        | ⟨1, _⟩ => show l.val = 128 * 0 + l.val; omega
      · rw [pay32_apply, first_val g u r a b hg hu ha hb, b0]
        have hgm : Ideal.liftRound Int.floor (k1_pay31 g u (k1_pay25 g) (k1_pay26 g) quarter (ix2 (n0 := 32) (n1 := 1) r 0) * Ideal.ofBits .f32 0x3C010204#32)
            = gM (k1_pay30 g u (k1_pay25 g) (k1_pay26 g) quarter (ix2 (n0 := 32) (n1 := 1) r 0)) := rfl
        rw [hgm, b0, gM_eq (by rw [n0]; exact h0.1) (by rw [n0]; exact l0),
          gCode_eq (by rw [n0]; exact h0.1) (by rw [n0]; exact l0) (by rw [n0]; exact h0.2.1 _ ⟨l, rfl⟩), n0]
        rfl
    | 1 =>
      refine (concatenate_pair_apply_right (t := S32x256) (s₁ := S32x128) (s₂ := S32x128) (1 : Fin 2) _ _ concatenates_S32x128_S32x128_S32x256_d1 _ rfl rfl (ix2 (n0 := 32) (n1 := 128) r l) (fun c hc => ?_) ?_).trans ?_
      · match c with
        | ⟨0, _⟩ => rfl
        | ⟨1, _⟩ => exact absurd rfl hc
      · show l.val + 128 = 128 * 1 + l.val; omega
      · have e : ∀ (y : S32x128.Idx), y = ix2 (n0 := 32) (n1 := 128) r l → gCode (IntOp.ori (k1_pay38 (hid g u) (ix2 (n0 := 32) (n1 := 1) r 0)) (k1_pay39 (hid g u) (ix2 (n0 := 32) (n1 := 1) r 0)))
            (gM (IntOp.ori (k1_pay38 (hid g u) (ix2 (n0 := 32) (n1 := 1) r 0)) (k1_pay39 (hid g u) (ix2 (n0 := 32) (n1 := 1) r 0)))) (k1_pay34 (hid g u) y)
            = W (qcode m1 (swH (a (halfCol 1 l)) (b (halfCol 1 l)))) := by
          rintro y rfl
          rw [b1, second_val g u r a b hg hu ha hb, gM_eq (by rw [n1]; exact h1.1) (by rw [n1]; exact l1),
            gCode_eq (by rw [n1]; exact h1.1) (by rw [n1]; exact l1) (by rw [n1]; exact h1.2.1 _ ⟨l, rfl⟩), n1]
        exact e _ rfl

/-- The scratch's row: two columns replaced by the two halves' maxima, the others kept. -/
theorem amBlk_val (n : ℕ) (hn : n < 80) (S : Vec Ideal S32x256 .f32) : ∃ m : Fin 2 → ℕ,
    (∀ h, IsMaxOf (m h) {w | ∃ l, w = swH (a (halfCol h l)) (b (halfCol h l))} ∧ m h < 262144)
    ∧ (∀ j : Fin 256, amBlk (BitVec.ofNat 32 n) g u S (ix2 (n0 := 32) (n1 := 256) r j)
        = if j.val = 2 * n + 1 then R (m 1 : ℝ) else if j.val = 2 * n then R (m 0 : ℝ) else S (ix2 (n0 := 32) (n1 := 256) r j))
    ∧ ∀ h l, hcBlk g u (ix2 (n0 := 32) (n1 := 256) r (halfCol h l)) = (W (qcode (m h) (swH (a (halfCol h l)) (b (halfCol h l))))).setWidth 8 := by
  obtain ⟨m, h1, h2, h3, h4⟩ := epi_row g u r a b hg hu ha hb
  refine ⟨m, h1, fun j => ?_, h4⟩
  have hj := j.isLt
  have hio : iota .tc S32x256 32 [1] iota_S32x256_d1_w32 (ix2 (n0 := 32) (n1 := 256) r j) = BitVec.ofNat 32 j.val := iota_single_apply _ _ _ _ _ _
  have hw : ∀ o : ℕ, o < 2 → IntOp.addi (IntOp.muli (BitVec.ofNat 32 n) 2#32) (BitVec.ofNat 32 o) = BitVec.ofNat 32 (2 * n + o) := by
    intro o _
    unfold IntOp.addi IntOp.muli
    rw [show (2#32 : BitVec 32) = BitVec.ofNat 32 2 from rfl, ← BitVec.ofNat_mul, ← BitVec.ofNat_add, mul_comm]
  have hc : ∀ o : ℕ, o < 2 → IntOp.cmpi .eq (BitVec.ofNat 32 j.val) (BitVec.ofNat 32 (2 * n + o)) = BitVec.ofBool (decide (j.val = 2 * n + o)) := by
    intro o ho
    show BitVec.ofBool (BitVec.ofNat 32 j.val == BitVec.ofNat 32 (2 * n + o)) = _
    congr 1
    by_cases h : j.val = 2 * n + o
    · rw [h]; simp
    · rw [decide_eq_false h, beq_eq_false_iff_ne]
      intro hh
      have := congrArg BitVec.toNat hh
      rw [toNat_ofNat (by omega), toNat_ofNat (by omega)] at this
      exact h this
  unfold amBlk k1_pay40 k1_pay33
  rw [shapeCast_self, shapeCast_self, shapeCast_self]
  show Scalar.select (IntOp.cmpi .eq (iota .tc S32x256 32 [1] iota_S32x256_d1_w32 (ix2 (n0 := 32) (n1 := 256) r j)) (IntOp.addi (IntOp.muli (BitVec.ofNat 32 n) 2#32) 1#32))
    (broadcastTo S32x256 (k1_pay35 (hid g u)) broadcasts_S32x1_S32x256 (ix2 (n0 := 32) (n1 := 256) r j))
    (Scalar.select (IntOp.cmpi .eq (iota .tc S32x256 32 [1] iota_S32x256_d1_w32 (ix2 (n0 := 32) (n1 := 256) r j)) (IntOp.addi (IntOp.muli (BitVec.ofNat 32 n) 2#32) 0#32))
      (broadcastTo S32x256 (k1_pay29 g u (k1_pay25 g) (k1_pay26 g) quarter) broadcasts_S32x1_S32x256 (ix2 (n0 := 32) (n1 := 256) r j))
      (S (ix2 (n0 := 32) (n1 := 256) r j))) = _
  rw [hio, show (1#32 : BitVec 32) = BitVec.ofNat 32 1 from rfl, show (0#32 : BitVec 32) = BitVec.ofNat 32 0 from rfl,
    hw 1 (by norm_num), hw 0 (by norm_num), hc 1 (by norm_num), hc 0 (by norm_num), bcast_colF, bcast_colF]
  show Scalar.select _ (k1_pay35 (hid g u) (ix2 (n0 := 32) (n1 := 1) r 0)) (Scalar.select _ (k1_pay29 g u (k1_pay25 g) (k1_pay26 g) quarter (ix2 (n0 := 32) (n1 := 1) r 0)) _) = _
  rw [h2, h3]
  by_cases c1 : j.val = 2 * n + 1
  · simp [c1, Scalar.select]
  · by_cases c0 : j.val = 2 * n
    · simp [c0, Scalar.select]
    · simp [c1, c0, Scalar.select]

end

/-! ## The last column's two outputs -/

/-- From a maximum in the scratch the last column writes the reference's multiplier and exponent. -/
theorem pay4_val (S : Vec Ideal S1024x256 .f32) (i : Fin 1024) (q : Fin 160) (m : ℕ) (hm : 1 ≤ m) (hl : m < 262144)
    (hS : S (ix2 (n0 := 1024) (n1 := 256) i ⟨q.val, by have := q.isLt; omega⟩) = R (m : ℝ)) :
    k1_pay4 S (ix2 (n0 := 1024) (n1 := 160) i q) = W (qm m) ∧ k1_pay5 S (ix2 (n0 := 1024) (n1 := 160) i q) = refK (BitVec.ofNat 32 m) := by
  have n0 : (BitVec.ofNat 32 m).toNat = m := toNat_ofNat (by omega)
  have hb : k1_pay3 S (ix2 (n0 := 1024) (n1 := 256) i ⟨q.val, by have := q.isLt; omega⟩) = kBits (BitVec.ofNat 32 m) := by
    rw [← bits_of_max hl, ← hS]; rfl
  have a1 : 1 ≤ (BitVec.ofNat 32 m).toNat := by rw [n0]; exact hm
  have a2 : (BitVec.ofNat 32 m).toNat < 262144 := by rw [n0]; exact hl
  have hq := qm_range a1 (show _ < 8388608 by omega)
  rw [n0] at hq
  constructor
  · unfold k1_pay4
    refine (extractStridedSlice_apply _ _ _ _ (ix2 (n0 := 1024) (n1 := 256) i ⟨q.val, by have := q.isLt; omega⟩) fun c => ?_).trans ?_
    · match c with
      | ⟨0, _⟩ => show i.val = 0 + i.val; omega
      | ⟨1, _⟩ => show q.val = 0 + q.val; omega
    · refine (fptosi_apply _ _).trans ?_
      have e : gM (k1_pay3 S (ix2 (n0 := 1024) (n1 := 256) i ⟨q.val, by have := q.isLt; omega⟩)) = R (((qm m : ℕ) : ℤ) : ℝ) := by
        rw [hb, gM_eq a1 a2, n0, Int.cast_natCast]
      refine (congrArg (fun q => BitVec.ofInt 32 (Ideal.toIntClamped (-(2 ^ (32 - 1))) (2 ^ (32 - 1) - 1) q)) e).trans ?_
      exact fptosi_int (by omega) (by omega)
  · unfold k1_pay5
    refine (extractStridedSlice_apply _ _ _ _ (ix2 (n0 := 1024) (n1 := 256) i ⟨q.val, by have := q.isLt; omega⟩) fun c => ?_).trans ?_
    · match c with
      | ⟨0, _⟩ => show i.val = 0 + i.val; omega
      | ⟨1, _⟩ => show q.val = 0 + q.val; omega
    · show IntOp.subi 151#32 (IntOp.shrsi .vector (k1_pay3 S (ix2 (n0 := 1024) (n1 := 256) i ⟨q.val, by have := q.isLt; omega⟩)) 23#32) = _
      rw [hb, kExpo_eq a1 (by omega), n0]
      unfold refK
      rw [refN_eq a1 (by omega), n0, show BitVec.ofNat 32 (nb m) = W (nb m : ℕ) from ofNat_eq_W _, show (151#32 : BitVec 32) = W 151 from rfl, show (15#32 : BitVec 32) = W 15 from rfl,
        show (10#32 : BitVec 32) = W 10 from rfl, sub_W, sub_W, add_W]
      congr 1
      push_cast
      ring

end Cert.KernelIdeal.Hand

end
-- ==== Proof.KernelIdeal.MmArr.lean ====
/- The second kernel call's three result arrays over the reals: hidden codes, group multipliers and group exponents. -/
module

public import proofs.«01_k».proof.Proof.KernelIdeal.EpiVal
public import proofs.«01_k».proof.Proof.KernelIdeal.Dats
public import proofs.«01_k».proof.Proof.Math.Spec
public import Idealize.ShloMosaic.Lib.Pipeline.ValueKit

@[expose] public section

set_option maxRecDepth 16384

noncomputable section

namespace Cert.KernelIdeal.Hand

open Idealize.ShloMosaic Cert.KernelIdeal.Gen Cert.Hand
open Idealize.ShloMosaic.Pipeline (Dat Cfg Window)

/-! ## Rows, columns and groups of a point -/

/-- The array row of a block's row. -/
def ptRow (t : Fin cfg1.N) (i : Fin 1024) : Fin 8192 := ⟨1024 * (t.val / 80) + i.val, by
  have h : t.val < 640 := t.isLt
  have := i.isLt
  omega⟩
/-- The array column of a block's column. -/
def ptCol (t : Fin cfg1.N) (j : Fin 256) : Fin 20480 := ⟨256 * (t.val % 80) + j.val, by
  have := j.isLt
  omega⟩
/-- The group of a block's half. -/
def ptGrp (t : Fin cfg1.N) (q : Fin 2) : Fin 160 := ⟨2 * (t.val % 80) + q.val, by
  have := q.isLt
  omega⟩

/-- A column of half `q` of a point's block is a column of the point's group `q`. -/
theorem ptCol_half (t : Fin cfg1.N) (q : Fin 2) (l : Fin 128) : ptCol t (halfCol q l) = grpCol (ptGrp t q) l := by
  apply Fin.ext
  show 256 * (t.val % 80) + (128 * q.val + l.val) = 128 * (2 * (t.val % 80) + q.val) + l.val
  omega

/-- The row block of a point: the point number divided by 80. -/
theorem word_row (t : Fin cfg1.N) : (BitVec.ofNat 32 ((grid1.coords t) 0).val).toNat = t.val / 80 := by
  rw [row_val]
  exact toNat_ofNat (by have h : t.val < 640 := t.isLt; omega)
/-- The column block of a point: the remainder by 80. -/
theorem word_col (t : Fin cfg1.N) : (BitVec.ofNat 32 ((grid1.coords t) 1).val).toNat = t.val % 80 := by
  rw [col_val]
  exact toNat_ofNat (by omega)

/-- The codes' block of a point: its row block. -/
theorem at1_0 (t : Fin cfg1.N) : win1_0.index t 0 = t.val / 80 := word_row t
/-- The gate weights' block of a point: its column block. -/
theorem at1_1 (t : Fin cfg1.N) : win1_1.index t 1 = t.val % 80 := word_col t
/-- The up weights' block of a point: its column block. -/
theorem at1_2 (t : Fin cfg1.N) : win1_2.index t 1 = t.val % 80 := word_col t
/-- The multipliers' block of a point: its row block. -/
theorem at1_3 (t : Fin cfg1.N) : win1_3.index t 0 = t.val / 80 := word_row t
/-- The exponents' block of a point: its row block. -/
theorem at1_4 (t : Fin cfg1.N) : win1_4.index t 0 = t.val / 80 := word_row t
/-- The gate column exponents' block of a point: its column block. -/
theorem at1_5 (t : Fin cfg1.N) : win1_5.index t 1 = t.val % 80 := word_col t
/-- The up column exponents' block of a point: its column block. -/
theorem at1_6 (t : Fin cfg1.N) : win1_6.index t 1 = t.val % 80 := word_col t
/-- The hidden codes' block of a point, along the rows: its row block. -/
theorem at1_7r (t : Fin cfg1.N) : win1_7.index t 0 = t.val / 80 := word_row t
/-- The hidden codes' block of a point, along the columns: its column block. -/
theorem at1_7c (t : Fin cfg1.N) : win1_7.index t 1 = t.val % 80 := word_col t
/-- The hidden multipliers' block of a point: its row block. -/
theorem at1_8 (t : Fin cfg1.N) : win1_8.index t 0 = t.val / 80 := word_row t
/-- The hidden exponents' block of a point: its row block. -/
theorem at1_9 (t : Fin cfg1.N) : win1_9.index t 0 = t.val / 80 := word_row t

section
variable (W : Dev nD → Valuation τ sig (Elt Ideal)) (c : Dev nD)

/-! The arrays at the call's entry. -/
abbrev aCodes : Vec Ideal S8192x16384 .i8 := W c (Proc.devRef .tc main_v1_0)
/-- The gate weights. -/
abbrev aGate : Vec Ideal S16384x20480 .i8 := W c (Proc.devRef .tc main_arg1)
/-- The up weights. -/
abbrev aUp : Vec Ideal S16384x20480 .i8 := W c (Proc.devRef .tc main_arg3)
/-- The multipliers of the input rows. -/
abbrev aMult : Vec Ideal S8192x1 .i32 := W c (Proc.devRef .tc main_v1_1)
/-- The exponents of the input rows. -/
abbrev aExpo : Vec Ideal S8192x1 .i32 := W c (Proc.devRef .tc main_v1_2)
/-- The gate column exponents. -/
abbrev aGe : Vec Ideal S1x20480 .i32 := W c (Proc.devRef .tc main_v2)
/-- The up column exponents. -/
abbrev aUe : Vec Ideal S1x20480 .i32 := W c (Proc.devRef .tc main_v3)

/-! ## The blocks at coordinates -/

/-- An element of a point's block of codes, in the whole array. -/
theorem blk_codes (t : Fin cfg1.N) (i : Fin 1024) (k : Fin 16384) :
    iblk1 W c 0 t (ix2 (n0 := 1024) (n1 := 16384) i k) = aCodes W c (ix2 (n0 := 8192) (n1 := 16384) (ptRow t i) k) := by
  unfold iblk1
  refine congrArg (aCodes W c) (funext fun a => Fin.ext ?_)
  match a with
  | ⟨0, _⟩ => blk_simp; rw [at1_0]; show t.val / 80 * 1024 + i.val = 1024 * (t.val / 80) + i.val; omega
  | ⟨1, _⟩ => blk_simp; show 0 * 16384 + k.val = k.val; omega

/-- An element of a point's block of gate weights, in the whole array. -/
theorem blk_gate (t : Fin cfg1.N) (k : Fin 16384) (j : Fin 256) :
    iblk1 W c 1 t (ix2 (n0 := 16384) (n1 := 256) k j) = aGate W c (ix2 (n0 := 16384) (n1 := 20480) k (ptCol t j)) := by
  unfold iblk1
  refine congrArg (aGate W c) (funext fun a => Fin.ext ?_)
  match a with
  | ⟨0, _⟩ => blk_simp; show 0 * 16384 + k.val = k.val; omega
  | ⟨1, _⟩ => blk_simp; rw [at1_1]; show t.val % 80 * 256 + j.val = 256 * (t.val % 80) + j.val; omega

/-- An element of a point's block of up weights, in the whole array. -/
theorem blk_up (t : Fin cfg1.N) (k : Fin 16384) (j : Fin 256) :
    iblk1 W c 2 t (ix2 (n0 := 16384) (n1 := 256) k j) = aUp W c (ix2 (n0 := 16384) (n1 := 20480) k (ptCol t j)) := by
  unfold iblk1
  refine congrArg (aUp W c) (funext fun a => Fin.ext ?_)
  match a with
  | ⟨0, _⟩ => blk_simp; show 0 * 16384 + k.val = k.val; omega
  | ⟨1, _⟩ => blk_simp; rw [at1_2]; show t.val % 80 * 256 + j.val = 256 * (t.val % 80) + j.val; omega

/-- An element of a point's block of multipliers, in the whole array. -/
theorem blk_mult (t : Fin cfg1.N) (i : Fin 1024) :
    iblk1 W c 3 t (ix2 (n0 := 1024) (n1 := 1) i 0) = aMult W c (ix2 (n0 := 8192) (n1 := 1) (ptRow t i) 0) := by
  unfold iblk1
  refine congrArg (aMult W c) (funext fun a => Fin.ext ?_)
  match a with
  | ⟨0, _⟩ => blk_simp; rw [at1_3]; show t.val / 80 * 1024 + i.val = 1024 * (t.val / 80) + i.val; omega
  | ⟨1, _⟩ => blk_simp; rfl

/-- An element of a point's block of exponents, in the whole array. -/
theorem blk_expo (t : Fin cfg1.N) (i : Fin 1024) :
    iblk1 W c 4 t (ix2 (n0 := 1024) (n1 := 1) i 0) = aExpo W c (ix2 (n0 := 8192) (n1 := 1) (ptRow t i) 0) := by
  unfold iblk1
  refine congrArg (aExpo W c) (funext fun a => Fin.ext ?_)
  match a with
  | ⟨0, _⟩ => blk_simp; rw [at1_4]; show t.val / 80 * 1024 + i.val = 1024 * (t.val / 80) + i.val; omega
  | ⟨1, _⟩ => blk_simp; rfl

/-- An element of a point's block of gate column exponents, in the whole array. -/
theorem blk_ge (t : Fin cfg1.N) (j : Fin 256) :
    iblk1 W c 5 t (ix2 (n0 := 1) (n1 := 256) 0 j) = aGe W c (ix2 (n0 := 1) (n1 := 20480) 0 (ptCol t j)) := by
  unfold iblk1
  refine congrArg (aGe W c) (funext fun a => Fin.ext ?_)
  match a with
  | ⟨0, _⟩ => blk_simp; rfl
  | ⟨1, _⟩ => blk_simp; rw [at1_5]; show t.val % 80 * 256 + j.val = 256 * (t.val % 80) + j.val; omega

/-- An element of a point's block of up column exponents, in the whole array. -/
theorem blk_ue (t : Fin cfg1.N) (j : Fin 256) :
    iblk1 W c 6 t (ix2 (n0 := 1) (n1 := 256) 0 j) = aUe W c (ix2 (n0 := 1) (n1 := 20480) 0 (ptCol t j)) := by
  unfold iblk1
  refine congrArg (aUe W c) (funext fun a => Fin.ext ?_)
  match a with
  | ⟨0, _⟩ => blk_simp; rfl
  | ⟨1, _⟩ => blk_simp; rw [at1_6]; show t.val % 80 * 256 + j.val = 256 * (t.val % 80) + j.val; omega

/-! ## Gate, up and hidden entries of the arrays -/

/-- The clipped gate entry. -/
def gZ (i : Fin 8192) (j : Fin 20480) : ℤ :=
  entZ (fun t : Fin 16384 => BitVec.toInt (aCodes W c (ix2 (n0 := 8192) (n1 := 16384) i t) : BitVec 8)) (fun t => BitVec.toInt (aGate W c (ix2 (n0 := 16384) (n1 := 20480) t j) : BitVec 8))
    (aMult W c (ix2 (n0 := 8192) (n1 := 1) i 0)) (aExpo W c (ix2 (n0 := 8192) (n1 := 1) i 0)) (aGe W c (ix2 (n0 := 1) (n1 := 20480) 0 j))
/-- The clipped up entry. -/
def uZ (i : Fin 8192) (j : Fin 20480) : ℤ :=
  entZ (fun t : Fin 16384 => BitVec.toInt (aCodes W c (ix2 (n0 := 8192) (n1 := 16384) i t) : BitVec 8)) (fun t => BitVec.toInt (aUp W c (ix2 (n0 := 16384) (n1 := 20480) t j) : BitVec 8))
    (aMult W c (ix2 (n0 := 8192) (n1 := 1) i 0)) (aExpo W c (ix2 (n0 := 8192) (n1 := 1) i 0)) (aUe W c (ix2 (n0 := 1) (n1 := 20480) 0 j))
/-- The hidden value. -/
def hZ (i : Fin 8192) (j : Fin 20480) : ℤ := swH (gZ W c i j) (uZ W c i j)

/-- A gate entry of a point's block is the entry of the whole array. -/
theorem gate_ent (t : Fin cfg1.N) (i : Fin 1024) (j : Fin 256) :
    zEnt (iblk1 W c 3 t) (iblk1 W c 4 t) (iblk1 W c 5 t) (acc (iblk1 W c 0 t) (iblk1 W c 1 t)) i j = gZ W c (ptRow t i) (ptCol t j) := by
  unfold zEnt gZ entZ dotW
  rw [acc_val, blk_mult, blk_expo, blk_ge]
  simp only [blk_codes, blk_gate]

/-- An up entry of a point's block is the entry of the whole array. -/
theorem up_ent (t : Fin cfg1.N) (i : Fin 1024) (j : Fin 256) :
    zEnt (iblk1 W c 3 t) (iblk1 W c 4 t) (iblk1 W c 6 t) (acc (iblk1 W c 0 t) (iblk1 W c 2 t)) i j = uZ W c (ptRow t i) (ptCol t j) := by
  unfold zEnt uZ entZ dotW
  rw [acc_val, blk_mult, blk_expo, blk_ue]
  simp only [blk_codes, blk_up]

/-! ## A row of a point -/

/-- The trip of a row. -/
def tripOf (i : Fin 1024) : Fin k1_t2_loop.trips := ⟨i.val / 32, by
  have := i.isLt
  show i.val / 32 < 32
  omega⟩
/-- Its row in the trip. -/
def inTrip (i : Fin 1024) : Fin 32 := ⟨i.val % 32, Nat.mod_lt _ (by norm_num)⟩

/-- Every row is the row of its trip at its place in it. -/
theorem rowOf_trip (i : Fin 1024) : rowOf (tripOf i) (inTrip i) = i := by
  apply Fin.ext
  show 32 * (i.val / 32) + i.val % 32 = i.val
  omega

/-- What a point does to one row: the maxima are in range, the scratch gets them, the codes are the reference's. -/
theorem mm_row (t : Fin cfg1.N) (i : Fin 1024) :
    (∀ q, 1 ≤ grpMx (hZ W c) (ptRow t i) (ptGrp t q) ∧ grpMx (hZ W c) (ptRow t i) (ptGrp t q) < 262144)
    ∧ (∀ (S : Vec Ideal S1024x256 .f32) (j : Fin 256), amNext (grid1.coords t) (iblk1 W c 0 t) (iblk1 W c 1 t) (iblk1 W c 2 t) (iblk1 W c 3 t) (iblk1 W c 4 t)
        (iblk1 W c 5 t) (iblk1 W c 6 t) S (ix2 (n0 := 1024) (n1 := 256) i j)
      = if j.val = 2 * (t.val % 80) + 1 then R (grpMx (hZ W c) (ptRow t i) (ptGrp t 1) : ℝ)
        else if j.val = 2 * (t.val % 80) then R (grpMx (hZ W c) (ptRow t i) (ptGrp t 0) : ℝ)
        else (if firstCol (grid1.coords t) = 1#1 then k1_pay2 (F := Ideal) else S) (ix2 (n0 := 1024) (n1 := 256) i j))
    ∧ ∀ q l, hcNext (iblk1 W c 0 t) (iblk1 W c 1 t) (iblk1 W c 2 t) (iblk1 W c 3 t) (iblk1 W c 4 t) (iblk1 W c 5 t) (iblk1 W c 6 t)
        (ix2 (n0 := 1024) (n1 := 256) i (halfCol q l)) = hidB (hZ W c) (ptRow t i) (grpCol (ptGrp t q) l) := by
  have hi := i.isLt
  have key := fun S => amBlk_val (eGate (iblk1 W c 3 t) (iblk1 W c 4 t) (iblk1 W c 5 t) (acc (iblk1 W c 0 t) (iblk1 W c 1 t)) (tripOf i))
    (eUp (iblk1 W c 3 t) (iblk1 W c 4 t) (iblk1 W c 6 t) (acc (iblk1 W c 0 t) (iblk1 W c 2 t)) (tripOf i)) (inTrip i)
    (fun j => gZ W c (ptRow t i) (ptCol t j)) (fun j => uZ W c (ptRow t i) (ptCol t j))
    (fun j => by rw [eGate_val, rowOf_trip, gate_ent]) (fun j => by rw [eUp_val, rowOf_trip, up_ent])
    (fun j => entZ_range _ _ _ _ _) (fun j => entZ_range _ _ _ _ _) (t.val % 80) (Nat.mod_lt _ (by norm_num)) S
  have hmx : ∀ (m : Fin 2 → ℕ), (∀ h, IsMaxOf (m h) {w | ∃ l, w = swH (gZ W c (ptRow t i) (ptCol t (halfCol h l))) (uZ W c (ptRow t i) (ptCol t (halfCol h l)))} ∧ m h < 262144) →
      ∀ q, grpMx (hZ W c) (ptRow t i) (ptGrp t q) = m q := fun m hm q => by
    refine IsMaxOf.theMax_eq ?_
    have := (hm q).1
    simp only [ptCol_half] at this
    exact this
  have hlane : ∀ j : Fin 256, lane32 (ix2 (n0 := 1024) (n1 := 256) i j) = ix2 (n0 := 32) (n1 := 256) (inTrip i) j := fun j =>
    funext fun a => Fin.ext (match a with
    | ⟨0, _⟩ => rfl
    | ⟨1, _⟩ => rfl)
  have hn : nW (grid1.coords t) = BitVec.ofNat 32 (t.val % 80) := by unfold nW; rw [col_val]
  refine ⟨fun q => ?_, fun S j => ?_, fun q l => ?_⟩
  · obtain ⟨m, h1, _, _⟩ := key (fun _ => R 0)
    rw [hmx m h1]
    exact ⟨(h1 q).1.1, (h1 q).2⟩
  · obtain ⟨m, h1, h2, _⟩ := key (row32 (if firstCol (grid1.coords t) = 1#1 then k1_pay2 (F := Ideal) else S) (tripOf i))
    rw [hmx m h1, hmx m h1]
    have e := h2 j
    rw [row32_apply, rowOf_trip] at e
    refine Eq.trans ?_ e
    unfold amNext amOut
    rw [hlane, hn]
    rfl
  · obtain ⟨m, h1, _, h3⟩ := key (fun _ => R 0)
    have e := h3 q l
    unfold hidB
    have hg : grpOf (grpCol (ptGrp t q) l) = ptGrp t q := by
      apply Fin.ext
      have := l.isLt
      show (128 * (ptGrp t q).val + l.val) / 128 = (ptGrp t q).val
      omega
    rw [hg, hmx m h1, ← ptCol_half]
    refine Eq.trans ?_ e
    unfold hcNext hcOut
    rw [hlane]
    rfl

/-- One point of a row block: its two groups' maxima are put in, the earlier ones kept. -/
theorem am_step (n : ℕ) (hn : n < cfg1.N) (i : Fin 1024) (p : Fin 160) (hp : p.val ≤ 2 * (n % 80) + 1)
    (prev : p.val < 2 * (n % 80) → am W c n (ix2 (n0 := 1024) (n1 := 256) i ⟨p.val, by have := p.isLt; omega⟩) = R (grpMx (hZ W c) (ptRow ⟨n, hn⟩ i) p : ℝ)) :
    am W c (n + 1) (ix2 (n0 := 1024) (n1 := 256) i ⟨p.val, by have := p.isLt; omega⟩) = R (grpMx (hZ W c) (ptRow ⟨n, hn⟩ i) p : ℝ) := by
  have hr := (mm_row W c ⟨n, hn⟩ i).2.1 (am W c n) ⟨p.val, by have := p.isLt; omega⟩
  rw [show am W c (n + 1) = _ from am_succ W c ⟨n, hn⟩, hr]
  dsimp only
  by_cases c1 : p.val = 2 * (n % 80) + 1
  · rw [if_pos c1, show ptGrp ⟨n, hn⟩ 1 = p from Fin.ext c1.symm]
  · rw [if_neg c1]
    by_cases c0 : p.val = 2 * (n % 80)
    · rw [if_pos c0, show ptGrp ⟨n, hn⟩ 0 = p from Fin.ext c0.symm]
    · rw [if_neg c0, if_neg (fun h => by have := (firstCol_at ⟨n, hn⟩).mp h; dsimp only at this; omega)]
      exact prev (by omega)

/-- Along a row block the scratch collects the groups' maxima. -/
theorem am_val (n : ℕ) (hn : n < cfg1.N) (i : Fin 1024) (p : Fin 160) (hp : p.val ≤ 2 * (n % 80) + 1) :
    am W c (n + 1) (ix2 (n0 := 1024) (n1 := 256) i ⟨p.val, by have := p.isLt; omega⟩) = R (grpMx (hZ W c) (ptRow ⟨n, hn⟩ i) p : ℝ) := by
  induction n with
  | zero => exact am_step W c 0 hn i p hp fun h => absurd h (by omega)
  | succ k ih =>
    refine am_step W c (k + 1) hn i p hp fun h => ?_
    rw [ih (by omega) (by omega)]
    have e : ptRow ⟨k, by omega⟩ i = ptRow ⟨k + 1, hn⟩ i := Fin.ext (by
      show 1024 * (k / 80) + i.val = 1024 * ((k + 1) / 80) + i.val; omega)
    rw [e]

/-! ## The arrays -/

/-- The hidden codes the second call leaves. -/
theorem hid_arr : (dat1 W c).arrAt 7 cfg1.N = fun y => hidB (hZ W c) (y 0) (y 1) := by
  refine (dat1 W c).arrAt_eq_of_covers 7 _ (by decide +kernel) fun t _ y => ?_
  blk_simp
  have hy : (y 1).val < 256 := (y 1).isLt
  have e : y = ix2 (n0 := 1024) (n1 := 256) (y 0) (halfCol ⟨(y 1).val / 128, by omega⟩ ⟨(y 1).val % 128, by omega⟩) :=
    (ix2_eta y).symm.trans (congrArg (ix2 (n0 := 1024) (n1 := 256) (y 0)) (Fin.ext (by
      show (y 1).val = 128 * ((y 1).val / 128) + (y 1).val % 128; omega)))
  rw [after1_7]
  refine (congrArg _ e).trans (((mm_row W c t (y 0)).2.2 _ _).trans ?_)
  refine congrArg₂ (hidB (hZ W c)) (Fin.ext ?_) (Fin.ext ?_)
  · blk_simp; rw [at1_7r]; show 1024 * (t.val / 80) + (y 0).val = t.val / 80 * 1024 + (y 0).val; omega
  · blk_simp; rw [at1_7c]; show 128 * (2 * (t.val % 80) + (y 1).val / 128) + (y 1).val % 128 = t.val % 80 * 256 + (y 1).val; omega

/-- In the last column of a row block, the multipliers and exponents of all its groups. -/
theorem last_row (t : Fin cfg1.N) (ht : t.val % 80 = 79) (i : Fin 1024) (p : Fin 160) :
    k1_pay4 (am W c (t.val + 1)) (ix2 (n0 := 1024) (n1 := 160) i p) = hidM (hZ W c) (ptRow t i) p
    ∧ k1_pay5 (am W c (t.val + 1)) (ix2 (n0 := 1024) (n1 := 160) i p) = hidK (hZ W c) (ptRow t i) p := by
  have hp := p.isLt
  have hN : t.val < 640 := t.isLt
  -- the group's own point
  have hg := (mm_row W c ⟨t.val / 80 * 80 + p.val / 2, by show _ < 640; omega⟩ i).1 ⟨p.val % 2, by omega⟩
  have e1 : ptRow ⟨t.val / 80 * 80 + p.val / 2, by show _ < 640; omega⟩ i = ptRow t i := Fin.ext (by
    show 1024 * ((t.val / 80 * 80 + p.val / 2) / 80) + i.val = 1024 * (t.val / 80) + i.val; omega)
  have e2 : ptGrp ⟨t.val / 80 * 80 + p.val / 2, by show _ < 640; omega⟩ ⟨p.val % 2, by omega⟩ = p := Fin.ext (by
    show 2 * ((t.val / 80 * 80 + p.val / 2) % 80) + p.val % 2 = p.val; omega)
  rw [e1, e2] at hg
  exact pay4_val _ i p _ hg.1 hg.2 (am_val W c t.val t.isLt i p (by omega))

/-- The hidden multipliers the second call leaves. -/
theorem hidM_arr : (dat1 W c).arrAt 8 cfg1.N = fun y => hidM (hZ W c) (y 0) (y 1) := by
  refine (dat1 W c).arrAt_eq_of_covers 8 _ (by decide +kernel) fun t hf y => ?_
  blk_simp
  have e : y = ix2 (n0 := 1024) (n1 := 160) (y 0) (y 1) := (ix2_eta y).symm
  rw [after1_8]
  refine (congrArg _ e).trans ((last_row W c t ((flush1_8 t).mp hf) (y 0) (y 1)).1.trans ?_)
  refine congrArg₂ (hidM (hZ W c)) (Fin.ext ?_) (Fin.ext ?_)
  · blk_simp; rw [at1_8]; show 1024 * (t.val / 80) + (y 0).val = t.val / 80 * 1024 + (y 0).val; omega
  · blk_simp; show (y 1).val = 0 * 160 + (y 1).val; omega

/-- The hidden exponents the second call leaves. -/
theorem hidK_arr : (dat1 W c).arrAt 9 cfg1.N = fun y => hidK (hZ W c) (y 0) (y 1) := by
  refine (dat1 W c).arrAt_eq_of_covers 9 _ (by decide +kernel) fun t hf y => ?_
  blk_simp
  have e : y = ix2 (n0 := 1024) (n1 := 160) (y 0) (y 1) := (ix2_eta y).symm
  rw [after1_9]
  refine (congrArg _ e).trans ((last_row W c t ((flush1_9 t).mp hf) (y 0) (y 1)).2.trans ?_)
  refine congrArg₂ (hidK (hZ W c)) (Fin.ext ?_) (Fin.ext ?_)
  · blk_simp; rw [at1_9]; show 1024 * (t.val / 80) + (y 0).val = t.val / 80 * 1024 + (y 0).val; omega
  · blk_simp; show (y 1).val = 0 * 160 + (y 1).val; omega

end

end Cert.KernelIdeal.Hand

end
-- ==== Proof.KernelIdeal.Result.lean ====
/- What the kernel program's six results hold over the reals, as functions of its arguments. -/
module

public import proofs.«01_k».proof.Proof.KernelIdeal.QuantArr
public import proofs.«01_k».proof.Proof.KernelIdeal.MmArr
public import proofs.«01_k».proof.Proof.KernelIdeal.Run

@[expose] public section

set_option maxRecDepth 16384

noncomputable section

namespace Cert.KernelIdeal.Hand

open Idealize.ShloMosaic Idealize.ShloMosaic.TcCoe Idealize.ShloMosaic.Tactic Cert.KernelIdeal.Gen Cert.Hand
open Idealize.ShloMosaic.Pipeline

variable (m : (ℓ : Loc nD τ sig) → Buf (Elt Ideal) ℓ) (c : Dev nD)

/-! ## The arguments -/

/-- The input as integers. -/
def argX (i : Fin 8192) (j : Fin 16384) : ℤ :=
  BitVec.toInt ((m ((c.tc : Thread nD τ).loc main_arg0) : Vec Ideal S1x8192x16384 .i32) (ix3 (n0 := 1) (n1 := 8192) (n2 := 16384) 0 i j) : BitVec 32)
/-- The gate weights as integers. -/
def argG (t : Fin 16384) (j : Fin 20480) : ℤ :=
  BitVec.toInt ((m ((c.tc : Thread nD τ).loc main_arg1) : Vec Ideal S16384x20480 .i8) (ix2 (n0 := 16384) (n1 := 20480) t j) : BitVec 8)
/-- The gate columns' exponents. -/
def argGe (j : Fin 20480) : BitVec 32 := (m ((c.tc : Thread nD τ).loc main_arg2) : Vec Ideal S20480 .i32) (ix1 (n0 := 20480) j)
/-- The up weights as integers. -/
def argU (t : Fin 16384) (j : Fin 20480) : ℤ :=
  BitVec.toInt ((m ((c.tc : Thread nD τ).loc main_arg3) : Vec Ideal S16384x20480 .i8) (ix2 (n0 := 16384) (n1 := 20480) t j) : BitVec 8)
/-- The up columns' exponents. -/
def argUe (j : Fin 20480) : BitVec 32 := (m ((c.tc : Thread nD τ).loc main_arg4) : Vec Ideal S20480 .i32) (ix1 (n0 := 20480) j)

/-- The hidden values of the arguments. -/
def argH : Fin 8192 → Fin 20480 → ℤ := hiddenZ (argX m c) (argG m c) (argU m c) (argGe m c) (argUe m c)

/-! ## The first call's arrays -/

/-- The first call's input is the reshaped argument. -/
theorem W1_v0 : W1 m c (Proc.devRef .tc main_v0)
    = shapeCast S8192x16384 (m ((c.tc : Thread nD τ).loc main_arg0) : Vec Ideal S1x8192x16384 .i32) shapeCasts_S1x8192x16384_S8192x16384 := by
  unfold W1
  after_results
  rfl

/-- The first call's input, as integers, is the argument. -/
theorem xZ_eq : xZ (W1 m) c = argX m c := by
  funext i j
  unfold xZ argX xIn
  rw [W1_v0]
  refine congrArg BitVec.toInt (shapeCast_apply _ _ _ (ix3 (n0 := 1) (n1 := 8192) (n2 := 16384) 0 i j) ?_)
  rw [Shape.rowMajor_val_three, Shape.rowMajor_val_two]
  show (0 * 8192 + i.val) * 16384 + j.val = i.val * 16384 + j.val
  omega

section
variable (hX : ∀ i j, (argX m c i j).natAbs < 8388608)
include hX

/-- The first call's input is in range. -/
theorem hX1 : ∀ i j, (xZ (W1 m) c i j).natAbs < 8388608 := by rw [xZ_eq]; exact hX

/-- Before the second call: the codes of the argument. -/
theorem W3_codes : W3 m c (Proc.devRef .tc main_v1_0) = fun y : S8192x16384.Idx => codeB (argX m c) (y 0) (y 1) := by
  unfold W3
  rw [StableHlo.after_of_writes_sub hostOps1 _ hostOps1_writes (by decide)]
  refine (afterRegion_arr (dat0 (W1 m) c) (W1 m c) launch0.win.arr_inj 1).trans ?_
  rw [codes_arr (W1 m) c (hX1 m c hX), xZ_eq]
  rfl

/-- Before the second call: the multipliers of the argument. -/
theorem W3_mult : W3 m c (Proc.devRef .tc main_v1_1) = fun y : S8192x1.Idx => multW (argX m c) (y 0) := by
  unfold W3
  rw [StableHlo.after_of_writes_sub hostOps1 _ hostOps1_writes (by decide)]
  refine (afterRegion_arr (dat0 (W1 m) c) (W1 m c) launch0.win.arr_inj 2).trans ?_
  rw [mult_arr (W1 m) c (hX1 m c hX), xZ_eq]
  rfl

/-- Before the second call: the exponents of the argument. -/
theorem W3_expo : W3 m c (Proc.devRef .tc main_v1_2) = fun y : S8192x1.Idx => expoW (argX m c) (y 0) := by
  unfold W3
  rw [StableHlo.after_of_writes_sub hostOps1 _ hostOps1_writes (by decide)]
  refine (afterRegion_arr (dat0 (W1 m) c) (W1 m c) launch0.win.arr_inj 3).trans ?_
  rw [expo_arr (W1 m) c (hX1 m c hX), xZ_eq]
  rfl

end

/-! ## The second call's other inputs -/

/-- A buffer the first call and the host lines around it leave alone. -/
theorem W2_keeps (r : Ref sig .tc) (h0 : r ∉ hostOps0_W) (h1 : ∀ w, arrRef spec0 w = r → (cfg0.win w).isOut = false) :
    W2 m c (Proc.devRef .tc r) = m ((c.tc : Thread nD τ).loc r) := by
  unfold W2
  rw [afterRegion_keeps (dat0 (W1 m) c) (W1 m c) launch0.win.arr_inj (A0_eq (W1 m) c) r h1]
  unfold W1
  rw [StableHlo.after_of_writes_sub hostOps0 _ hostOps0_writes h0]
  rfl

/-- Before the second call: the gate weights as launched. -/
theorem W3_gate : W3 m c (Proc.devRef .tc main_arg1) = m ((c.tc : Thread nD τ).loc main_arg1) := by
  unfold W3
  rw [StableHlo.after_of_writes_sub hostOps1 _ hostOps1_writes (by decide)]
  exact W2_keeps m c main_arg1 (by decide) (by decide)

/-- Before the second call: the up weights as launched. -/
theorem W3_up : W3 m c (Proc.devRef .tc main_arg3) = m ((c.tc : Thread nD τ).loc main_arg3) := by
  unfold W3
  rw [StableHlo.after_of_writes_sub hostOps1 _ hostOps1_writes (by decide)]
  exact W2_keeps m c main_arg3 (by decide) (by decide)

/-- Before the second call: the gate column exponents, reshaped to a row. -/
theorem W3_ge : W3 m c (Proc.devRef .tc main_v2) = shapeCast S1x20480 (m ((c.tc : Thread nD τ).loc main_arg2) : Vec Ideal S20480 .i32) shapeCasts_S20480_S1x20480 := by
  rw [← W2_keeps m c main_arg2 (by decide) (by decide)]
  unfold W3
  after_results
  rfl

/-- Before the second call: the up column exponents, reshaped to a row. -/
theorem W3_ue : W3 m c (Proc.devRef .tc main_v3) = shapeCast S1x20480 (m ((c.tc : Thread nD τ).loc main_arg4) : Vec Ideal S20480 .i32) shapeCasts_S20480_S1x20480 := by
  rw [← W2_keeps m c main_arg4 (by decide) (by decide)]
  unfold W3
  after_results
  rfl

/-- A vector reshaped to a row has the same elements. -/
theorem row_cast (v : Vec Ideal S20480 .i32) (j : Fin 20480) :
    shapeCast S1x20480 v shapeCasts_S20480_S1x20480 (ix2 (n0 := 1) (n1 := 20480) 0 j) = v (ix1 (n0 := 20480) j) :=
  shapeCast_apply _ _ _ _ (by rw [Shape.rowMajor_val_one, Shape.rowMajor_val_two]; show j.val = 0 * 20480 + j.val; omega)

section
variable (hX : ∀ i j, (argX m c i j).natAbs < 8388608)
include hX

/-- The second call's hidden values are those of the arguments. -/
theorem hZ_eq : hZ (W3 m) c = argH m c := by
  funext i j
  have hcode : ∀ t : Fin 16384, (BitVec.toInt (aCodes (W3 m) c (ix2 (n0 := 8192) (n1 := 16384) i t) : BitVec 8)) = codeZ (argX m c) i t := fun t => by
    unfold aCodes
    rw [W3_codes m c hX]
    exact codeB_toInt _ _ _
  unfold hZ argH hiddenZ gZ uZ
  simp only [hcode]
  unfold aMult aExpo aGate aUp aGe aUe
  rw [W3_mult m c hX, W3_expo m c hX, W3_gate, W3_up, W3_ge, W3_ue, row_cast, row_cast]
  rfl

/-! ## The results -/

/-- After the second call the codes are still there. -/
theorem W4_codes : W4 m c (Proc.devRef .tc main_v1_0) = fun y : S8192x16384.Idx => codeB (argX m c) (y 0) (y 1) := by
  unfold W4
  rw [afterRegion_keeps (dat1 (W3 m) c) (W3 m c) launch1.win.arr_inj (A1_eq (W3 m) c) main_v1_0 (by decide)]
  exact W3_codes m c hX

/-- After the second call the multipliers are still there. -/
theorem W4_mult : W4 m c (Proc.devRef .tc main_v1_1) = fun y : S8192x1.Idx => multW (argX m c) (y 0) := by
  unfold W4
  rw [afterRegion_keeps (dat1 (W3 m) c) (W3 m c) launch1.win.arr_inj (A1_eq (W3 m) c) main_v1_1 (by decide)]
  exact W3_mult m c hX

/-- After the second call the exponents are still there. -/
theorem W4_expo : W4 m c (Proc.devRef .tc main_v1_2) = fun y : S8192x1.Idx => expoW (argX m c) (y 0) := by
  unfold W4
  rw [afterRegion_keeps (dat1 (W3 m) c) (W3 m c) launch1.win.arr_inj (A1_eq (W3 m) c) main_v1_2 (by decide)]
  exact W3_expo m c hX

/-- After the second call: the hidden codes of the arguments. -/
theorem W4_hid : W4 m c (Proc.devRef .tc main_v4_0) = fun y : S8192x20480.Idx => hidB (argH m c) (y 0) (y 1) := by
  refine (afterRegion_arr (dat1 (W3 m) c) (W3 m c) launch1.win.arr_inj 7).trans ?_
  rw [hid_arr, hZ_eq m c hX]
  rfl

/-- After the second call: the hidden multipliers of the arguments. -/
theorem W4_hidM : W4 m c (Proc.devRef .tc main_v4_1) = fun y : S8192x160.Idx => hidM (argH m c) (y 0) (y 1) := by
  refine (afterRegion_arr (dat1 (W3 m) c) (W3 m c) launch1.win.arr_inj 8).trans ?_
  rw [hidM_arr, hZ_eq m c hX]
  rfl

/-- After the second call: the hidden exponents of the arguments. -/
theorem W4_hidK : W4 m c (Proc.devRef .tc main_v4_2) = fun y : S8192x160.Idx => hidK (argH m c) (y 0) (y 1) := by
  refine (afterRegion_arr (dat1 (W3 m) c) (W3 m c) launch1.win.arr_inj 9).trans ?_
  rw [hidK_arr, hZ_eq m c hX]
  rfl

/-- Result 1, the hidden codes. -/
theorem res_v5 : W5 m c (Proc.devRef .tc main_v5) = fun y : S1x8192x20480.Idx => hidB (argH m c) (y 1) (y 2) := by
  have e : W5 m c (Proc.devRef .tc main_v5) = shapeCast S1x8192x20480 (W4 m c (Proc.devRef .tc main_v4_0) : Vec Ideal S8192x20480 .i8) shapeCasts_S8192x20480_S1x8192x20480 := by
    unfold W5
    after_results
    rfl
  rw [e, W4_hid m c hX]
  funext y
  refine shapeCast_apply _ _ _ (ix2 (n0 := 8192) (n1 := 20480) (y 1) (y 2)) ?_
  rw [Shape.rowMajor_val_three, Shape.rowMajor_val_two]
  have h : (y 0).val < 1 := (y 0).isLt
  show (y 1).val * 20480 + (y 2).val = ((y 0).val * 8192 + (y 1).val) * 20480 + (y 2).val
  omega

/-- Result 2, the hidden multipliers. -/
theorem res_v6 : W5 m c (Proc.devRef .tc main_v6) = fun y : S1x8192x160.Idx => hidM (argH m c) (y 1) (y 2) := by
  have e : W5 m c (Proc.devRef .tc main_v6) = shapeCast S1x8192x160 (W4 m c (Proc.devRef .tc main_v4_1) : Vec Ideal S8192x160 .i32) shapeCasts_S8192x160_S1x8192x160 := by
    unfold W5
    after_results
    rfl
  rw [e, W4_hidM m c hX]
  funext y
  refine shapeCast_apply _ _ _ (ix2 (n0 := 8192) (n1 := 160) (y 1) (y 2)) ?_
  rw [Shape.rowMajor_val_three, Shape.rowMajor_val_two]
  have h : (y 0).val < 1 := (y 0).isLt
  show (y 1).val * 160 + (y 2).val = ((y 0).val * 8192 + (y 1).val) * 160 + (y 2).val
  omega

/-- Result 3, the hidden exponents. -/
theorem res_v7 : W5 m c (Proc.devRef .tc main_v7) = fun y : S1x8192x160.Idx => hidK (argH m c) (y 1) (y 2) := by
  have e : W5 m c (Proc.devRef .tc main_v7) = shapeCast S1x8192x160 (W4 m c (Proc.devRef .tc main_v4_2) : Vec Ideal S8192x160 .i32) shapeCasts_S8192x160_S1x8192x160 := by
    unfold W5
    after_results
    rfl
  rw [e, W4_hidK m c hX]
  funext y
  refine shapeCast_apply _ _ _ (ix2 (n0 := 8192) (n1 := 160) (y 1) (y 2)) ?_
  rw [Shape.rowMajor_val_three, Shape.rowMajor_val_two]
  have h : (y 0).val < 1 := (y 0).isLt
  show (y 1).val * 160 + (y 2).val = ((y 0).val * 8192 + (y 1).val) * 160 + (y 2).val
  omega

/-- Result 4, the input codes. -/
theorem res_v8 : W5 m c (Proc.devRef .tc main_v8) = fun y : S1x8192x16384.Idx => codeB (argX m c) (y 1) (y 2) := by
  have e : W5 m c (Proc.devRef .tc main_v8) = shapeCast S1x8192x16384 (W4 m c (Proc.devRef .tc main_v1_0) : Vec Ideal S8192x16384 .i8) shapeCasts_S8192x16384_S1x8192x16384 := by
    unfold W5
    after_results
    rfl
  rw [e, W4_codes m c hX]
  funext y
  refine shapeCast_apply _ _ _ (ix2 (n0 := 8192) (n1 := 16384) (y 1) (y 2)) ?_
  rw [Shape.rowMajor_val_three, Shape.rowMajor_val_two]
  have h : (y 0).val < 1 := (y 0).isLt
  show (y 1).val * 16384 + (y 2).val = ((y 0).val * 8192 + (y 1).val) * 16384 + (y 2).val
  omega

/-- Result 5, the input multipliers. -/
theorem res_v9 : W5 m c (Proc.devRef .tc main_v9) = fun y : S1x8192.Idx => multW (argX m c) (y 1) := by
  have e : W5 m c (Proc.devRef .tc main_v9) = shapeCast S1x8192 (W4 m c (Proc.devRef .tc main_v1_1) : Vec Ideal S8192x1 .i32) shapeCasts_S8192x1_S1x8192 := by
    unfold W5
    after_results
    rfl
  rw [e, W4_mult m c hX]
  funext y
  refine shapeCast_apply _ _ _ (ix2 (n0 := 8192) (n1 := 1) (y 1) 0) ?_
  rw [Shape.rowMajor_val_two, Shape.rowMajor_val_two]
  have h : (y 0).val < 1 := (y 0).isLt
  show (y 1).val * 1 + 0 = (y 0).val * 8192 + (y 1).val
  omega

/-- Result 6, the input exponents. -/
theorem res_v10 : W5 m c (Proc.devRef .tc main_v10) = fun y : S1x8192.Idx => expoW (argX m c) (y 1) := by
  have e : W5 m c (Proc.devRef .tc main_v10) = shapeCast S1x8192 (W4 m c (Proc.devRef .tc main_v1_2) : Vec Ideal S8192x1 .i32) shapeCasts_S8192x1_S1x8192 := by
    unfold W5
    after_results
    rfl
  rw [e, W4_expo m c hX]
  funext y
  refine shapeCast_apply _ _ _ (ix2 (n0 := 8192) (n1 := 1) (y 1) 0) ?_
  rw [Shape.rowMajor_val_two, Shape.rowMajor_val_two]
  have h : (y 0).val < 1 := (y 0).isLt
  show (y 1).val * 1 + 0 = (y 0).val * 8192 + (y 1).val
  omega

end

end Cert.KernelIdeal.Hand

end
-- ==== Proof.ReferenceIdeal.Bcast.lean ====
/- The reference's broadcasts as reindexings. -/
module

public import proofs.«01_k».proof.Proof.Gen.ReferenceIdeal
public import proofs.«01_k».proof.Proof.Math.Spec
public import Idealize.ShloMosaic.Lib.Pointwise.Index

@[expose] public section

noncomputable section

namespace Cert.ReferenceIdeal.Hand

open Cert.ReferenceIdeal Cert.ReferenceIdeal.Gen Idealize.ShloMosaic

variable {α : Type}

/-- A scalar spread over any shape. -/
theorem bc0 (S : Shape) (h : S_.BroadcastsInDim S ![]) (v : S_.Idx → α) :
    broadcastInDim S ![] h v = fun _ => v ix0 := funext fun _ => congrArg v (funext fun a => a.elim0)

/-- A row's entry, with a third axis of length 1. -/
theorem bcRow (v : S1x8192.Idx → α) :
    broadcastInDim S1x8192x1 ![0, 1] bcast_S1x8192_S1x8192x1_0_1 v = fun y => v (ix2 (n0 := 1) (n1 := 8192) 0 (y 1)) :=
  funext fun _ => congrArg v (funext fun a => match a with | ⟨0, _⟩ => rfl | ⟨1, _⟩ => rfl)

/-- A row's entry along the row. -/
theorem bcRowX (v : S1x8192x1.Idx → α) :
    broadcastInDim S1x8192x16384 ![0, 1, 2] bcast_S1x8192x1_S1x8192x16384_0_1_2 v = fun y => v (ix3 (n0 := 1) (n1 := 8192) (n2 := 1) 0 (y 1) 0) :=
  funext fun _ => congrArg v (funext fun a => match a with | ⟨0, _⟩ => rfl | ⟨1, _⟩ => rfl | ⟨2, _⟩ => rfl)

/-- A row's entry along the hidden row. -/
theorem bcRowH (v : S1x8192x1.Idx → α) :
    broadcastInDim S1x8192x20480 ![0, 1, 2] bcast_S1x8192x1_S1x8192x20480_0_1_2 v = fun y => v (ix3 (n0 := 1) (n1 := 8192) (n2 := 1) 0 (y 1) 0) :=
  funext fun _ => congrArg v (funext fun a => match a with | ⟨0, _⟩ => rfl | ⟨1, _⟩ => rfl | ⟨2, _⟩ => rfl)

/-- The codes, with a third axis of length 1. -/
theorem bcCode (v : S8192x16384.Idx → α) :
    broadcastInDim S8192x16384x1 ![0, 1] bcast_S8192x16384_S8192x16384x1_0_1 v = fun y => v (ix2 (n0 := 8192) (n1 := 16384) (y 0) (y 1)) :=
  funext fun _ => congrArg v (funext fun a => match a with | ⟨0, _⟩ => rfl | ⟨1, _⟩ => rfl)

/-- The codes along the columns of the weights. -/
theorem bcCodes (v : S8192x16384x1.Idx → α) :
    broadcastInDim S8192x16384x20480 ![0, 1, 2] bcast_S8192x16384x1_S8192x16384x20480_0_1_2 v = fun y => v (ix3 (n0 := 8192) (n1 := 16384) (n2 := 1) (y 0) (y 1) 0) :=
  funext fun _ => congrArg v (funext fun a => match a with | ⟨0, _⟩ => rfl | ⟨1, _⟩ => rfl | ⟨2, _⟩ => rfl)

/-- The weights, with a first axis of length 1. -/
theorem bcWt (v : S16384x20480.Idx → α) :
    broadcastInDim S1x16384x20480 ![1, 2] bcast_S16384x20480_S1x16384x20480_1_2 v = fun y => v (ix2 (n0 := 16384) (n1 := 20480) (y 1) (y 2)) :=
  funext fun _ => congrArg v (funext fun a => match a with | ⟨0, _⟩ => rfl | ⟨1, _⟩ => rfl)

/-- The weights along the rows. -/
theorem bcWts (v : S1x16384x20480.Idx → α) :
    broadcastInDim S8192x16384x20480 ![0, 1, 2] bcast_S1x16384x20480_S8192x16384x20480_0_1_2 v = fun y => v (ix3 (n0 := 1) (n1 := 16384) (n2 := 20480) 0 (y 1) (y 2)) :=
  funext fun _ => congrArg v (funext fun a => match a with | ⟨0, _⟩ => rfl | ⟨1, _⟩ => rfl | ⟨2, _⟩ => rfl)

/-- The product, with a first axis of length 1. -/
theorem bcProd (v : S8192x20480.Idx → α) :
    broadcastInDim S1x8192x20480 ![1, 2] bcast_S8192x20480_S1x8192x20480_1_2 v = fun y => v (ix2 (n0 := 8192) (n1 := 20480) (y 1) (y 2)) :=
  funext fun _ => congrArg v (funext fun a => match a with | ⟨0, _⟩ => rfl | ⟨1, _⟩ => rfl)

/-- A column's entry, with two axes of length 1. -/
theorem bcCol (v : S20480.Idx → α) :
    broadcastInDim S1x1x20480 ![2] bcast_S20480_S1x1x20480_2 v = fun y => v (ix1 (y 2)) :=
  funext fun _ => congrArg v (funext fun a => match a with | ⟨0, _⟩ => rfl)

/-- A column's entry along the rows. -/
theorem bcCols (v : S1x1x20480.Idx → α) :
    broadcastInDim S1x8192x20480 ![0, 1, 2] bcast_S1x1x20480_S1x8192x20480_0_1_2 v = fun y => v (ix3 (n0 := 1) (n1 := 1) (n2 := 20480) 0 0 (y 2)) :=
  funext fun _ => congrArg v (funext fun a => match a with | ⟨0, _⟩ => rfl | ⟨1, _⟩ => rfl | ⟨2, _⟩ => rfl)

/-- A group's entry, with a fourth axis of length 1. -/
theorem bcGrp (v : S1x8192x160.Idx → α) :
    broadcastInDim S1x8192x160x1 ![0, 1, 2] bcast_S1x8192x160_S1x8192x160x1_0_1_2 v = fun y => v (ix3 (n0 := 1) (n1 := 8192) (n2 := 160) 0 (y 1) (y 2)) :=
  funext fun _ => congrArg v (funext fun a => match a with | ⟨0, _⟩ => rfl | ⟨1, _⟩ => rfl | ⟨2, _⟩ => rfl)

/-- A group's entry along the group. -/
theorem bcGrps (v : S1x8192x160x1.Idx → α) :
    broadcastInDim S1x8192x160x128 ![0, 1, 2, 3] bcast_S1x8192x160x1_S1x8192x160x128_0_1_2_3 v = fun y => v (ix4 (n0 := 1) (n1 := 8192) (n2 := 160) (n3 := 1) 0 (y 1) (y 2) 0) :=
  funext fun _ => congrArg v (funext fun a => match a with | ⟨0, _⟩ => rfl | ⟨1, _⟩ => rfl | ⟨2, _⟩ => rfl | ⟨3, _⟩ => rfl)

end Cert.ReferenceIdeal.Hand
-- ==== Proof.ReferenceIdeal.Words.lean ====
/- The reference's arrays read element by element as the word functions of the mathematics modules. -/
module

public import proofs.«01_k».proof.Proof.Gen.ReferenceIdeal.Run
public import proofs.«01_k».proof.Proof.ReferenceIdeal.Bcast

@[expose] public section

set_option maxRecDepth 8192

noncomputable section

namespace Cert.ReferenceIdeal.Hand

open Cert.ReferenceIdeal Cert.ReferenceIdeal.Gen Cert.ReferenceIdeal.Value Cert.Hand
open Idealize.ShloMosaic Idealize.ShloMosaic.TcCoe

variable (V : Valuation τ sig (Elt Ideal))

/-- The five arguments. -/
abbrev a0 : Vec Ideal S1x8192x16384 .i32 := V (Proc.devRef .tc main_arg0)
/-- The gate weights. -/
abbrev a1 : Vec Ideal S16384x20480 .i8 := V (Proc.devRef .tc main_arg1)
/-- The gate column exponents. -/
abbrev a2 : Vec Ideal S20480 .i32 := V (Proc.devRef .tc main_arg2)
/-- The up weights. -/
abbrev a3 : Vec Ideal S16384x20480 .i8 := V (Proc.devRef .tc main_arg3)
/-- The up column exponents. -/
abbrev a4 : Vec Ideal S20480 .i32 := V (Proc.devRef .tc main_arg4)
/-- The rows' maxima. -/
abbrev mx : S1x8192.Idx → BitVec 32 := res_main_v3 V

/-! ## The input's quantization -/

/-- The bit lengths of the row maxima. -/
theorem v6_eq : res_main_v6 V = fun y => refN (mx V y) := by
  unfold res_main_v6
  rfl

/-- The dividends of the multipliers. -/
theorem v11_eq : res_main_v11 V = fun y => IntOp.addi (IntOp.shli .host (mx V y) (IntOp.subi 23#32 (refN (mx V y)))) 16256#32 := by
  unfold res_main_v11
  rw [v6_eq]
  rfl

/-- The multipliers. -/
theorem v12_eq : res_main_v12 V = fun y => refM (mx V y) := by
  unfold res_main_v12 res_main_call0_v2 res_main_call0_v0
  rw [v11_eq]
  rfl

/-- The exponents. -/
theorem expo_eq : addi (subi (broadcastInDim S1x8192 ![] bcast_S_S1x8192 (constantI S_ 32 15#32)) (res_main_v6 V)) (broadcastInDim S1x8192 ![] bcast_S_S1x8192 (constantI S_ 32 10#32))
    = fun y => refK (mx V y) := by
  rw [v6_eq]
  rfl

/-- The divisors of the codes, repeated along each row. -/
theorem v19_eq : res_main_v19 V = fun y => refD (mx V (ix2 (n0 := 1) (n1 := 8192) 0 (y 1))) := by
  unfold res_main_v19
  rw [v12_eq]
  repeat rw [bcRow]
  rfl

/-- The dividends of the codes. -/
theorem v29_eq : res_main_v29 V = fun y => IntOp.addi (IntOp.shli .host (IntOp.absi (a0 V y)) (IntOp.subi 23#32 (refN (mx V (ix2 (n0 := 1) (n1 := 8192) 0 (y 1))))))
    (IntOp.shrsi .host (refD (mx V (ix2 (n0 := 1) (n1 := 8192) 0 (y 1)))) 1#32) := by
  unfold res_main_v29
  rw [v6_eq, v19_eq]
  repeat rw [bcRow]
  repeat rw [bcRowX]
  rfl

/-- The codes. -/
theorem v35_eq : res_main_v35_0 V = fun y => refCode (mx V (ix2 (n0 := 1) (n1 := 8192) 0 (y 1))) (a0 V y) := by
  unfold res_main_v35_0 res_main_call1_v1
  rw [v29_eq, v19_eq]
  repeat rw [bcRowX]
  rfl

/-! ## The scaled entries -/

/-- The integer product of the codes and a weight array. -/
def prod (w : Vec Ideal S16384x20480 .i8) : Vec Ideal S8192x20480 .i32 :=
  Host.reduce IntOp.addi (muli (broadcastInDim S8192x16384x20480 ![0, 1, 2] bcast_S8192x16384x1_S8192x16384x20480_0_1_2 (broadcastInDim S8192x16384x1 ![0, 1] bcast_S8192x16384_S8192x16384x1_0_1 (extsi 32 (shapeCast _ (res_main_v35_0 V) shapeCasts_S1x8192x16384_S8192x16384) natLt_8_32))) (broadcastInDim S8192x16384x20480 ![0, 1, 2] bcast_S1x16384x20480_S8192x16384x20480_0_1_2 (broadcastInDim S1x16384x20480 ![1, 2] bcast_S16384x20480_S1x16384x20480_1_2 (extsi 32 w natLt_8_32)))) (constantI S_ 32 0#32) reducesTo_S8192x16384x20480_S8192x20480_d1 h_S_

/-- The scaled and clipped entries of a weight array with column exponents `e`. -/
def ent (w : Vec Ideal S16384x20480 .i8) (e : Vec Ideal S20480 .i32) (y : S1x8192x20480.Idx) : BitVec 32 :=
  rScale (prod V w (ix2 (n0 := 8192) (n1 := 20480) (y 1) (y 2))) (refM (mx V (ix2 (n0 := 1) (n1 := 8192) 0 (y 1))))
    (IntOp.subi (IntOp.addi (refK (mx V (ix2 (n0 := 1) (n1 := 8192) 0 (y 1)))) (e (ix1 (y 2)))) 8#32)

/-- The multipliers, repeated along each row. -/
theorem v56_eq : res_main_v56 V = fun y => refM (mx V (ix2 (n0 := 1) (n1 := 8192) 0 (y 1))) := by
  unfold res_main_v56
  simp only [id]
  rw [v12_eq, bcRow]
  rfl

/-- The exponents, repeated along each row. -/
theorem v57_eq : res_main_v57 V = fun y => refK (mx V (ix2 (n0 := 1) (n1 := 8192) 0 (y 1))) := by
  unfold res_main_v57
  simp only [id]
  rw [expo_eq, bcRow]
  rfl

/-- The shifts of the gate entries. -/
theorem v65_eq : res_main_v65 V = fun y => IntOp.subi (IntOp.addi (refK (mx V (ix2 (n0 := 1) (n1 := 8192) 0 (y 1)))) (a2 V (ix1 (y 2)))) 8#32 := by
  unfold res_main_v65
  rw [v57_eq]
  repeat rw [bcRowH]
  repeat rw [bcCol]
  repeat rw [bcCols]
  rfl

/-- The shifts of the up entries. -/
theorem v79_eq : res_main_v79 V = fun y => IntOp.subi (IntOp.addi (refK (mx V (ix2 (n0 := 1) (n1 := 8192) 0 (y 1)))) (a4 V (ix1 (y 2)))) 8#32 := by
  unfold res_main_v79
  rw [v57_eq]
  repeat rw [bcRowH]
  repeat rw [bcCol]
  repeat rw [bcCols]
  rfl

/-- Scaling a product `P` by multipliers `M` and shifts `e`, and clipping, element by element. -/
theorem scale_eq (P : Vec Ideal S8192x20480 .i32) (M e : Vec Ideal S1x8192x20480 .i32) :
    minsi (broadcastInDim S1x8192x20480 ![] bcast_S_S1x8192x20480 (id (constantI S_ 32 4095#32))) (maxsi (broadcastInDim S1x8192x20480 ![] bcast_S_S1x8192x20480 (id (constantI S_ 32 4294963201#32))) (Host.shrsi (addi (muli (broadcastInDim S1x8192x20480 ![1, 2] bcast_S8192x20480_S1x8192x20480_1_2 P) M) (Host.shrsi (Host.shli (broadcastInDim S1x8192x20480 ![] bcast_S_S1x8192x20480 (constantI S_ 32 1#32)) e) (broadcastInDim S1x8192x20480 ![] bcast_S_S1x8192x20480 (constantI S_ 32 1#32)))) e))
    = fun y => rScale (P (ix2 (n0 := 8192) (n1 := 20480) (y 1) (y 2))) (M y) (e y) := by
  rw [bcProd]
  rfl

/-- The gate entries. -/
theorem v86_eq : res_main_v86 V = ent V (a1 V) (a2 V) := by
  unfold res_main_v86
  rw [← prod, v65_eq, v56_eq]
  repeat rw [bcRowH]
  exact scale_eq (prod V (a1 V)) _ _

/-- The up entries. -/
theorem up_eq : minsi (broadcastInDim S1x8192x20480 ![] bcast_S_S1x8192x20480 (id (constantI S_ 32 4095#32))) (maxsi (broadcastInDim S1x8192x20480 ![] bcast_S_S1x8192x20480 (id (constantI S_ 32 4294963201#32))) (Host.shrsi (addi (muli (broadcastInDim S1x8192x20480 ![1, 2] bcast_S8192x20480_S1x8192x20480_1_2 (prod V (a3 V))) (broadcastInDim S1x8192x20480 ![0, 1, 2] bcast_S1x8192x1_S1x8192x20480_0_1_2 (res_main_v56 V))) (Host.shrsi (Host.shli (broadcastInDim S1x8192x20480 ![] bcast_S_S1x8192x20480 (constantI S_ 32 1#32)) (res_main_v79 V)) (broadcastInDim S1x8192x20480 ![] bcast_S_S1x8192x20480 (constantI S_ 32 1#32)))) (res_main_v79 V)))
    = ent V (a3 V) (a4 V) := by
  rw [v79_eq, v56_eq]
  repeat rw [bcRowH]
  exact scale_eq (prod V (a3 V)) _ _

/-! ## The hidden values -/

/-- The exponents of the decay. -/
theorem v94_eq : res_main_v94 V = fun y => rL (IntOp.absi (ent V (a1 V) (a2 V) y)) := by
  unfold res_main_v94 res_main_v88
  rw [v86_eq]
  generalize ent V (a1 V) (a2 V) = g
  rfl

/-- The decays. -/
theorem v103_eq : res_main_v103 V = fun y => rE (IntOp.absi (ent V (a1 V) (a2 V) y)) := by
  unfold res_main_v103
  rw [v94_eq]
  generalize ent V (a1 V) (a2 V) = g
  rfl

/-- The divisors of the activation, one plus the decay. -/
theorem v109_eq : res_main_v109 V = fun y => IntOp.addi 4096#32 (rE (IntOp.absi (ent V (a1 V) (a2 V) y))) := by
  unfold res_main_v109
  rw [v103_eq]
  generalize ent V (a1 V) (a2 V) = g
  rfl

/-- The hidden values, four axes. -/
theorem v121_eq : res_main_v121 V = shapeCast S1x8192x160x128 (fun y => rH (ent V (a1 V) (a2 V) y) (ent V (a3 V) (a4 V) y)) shapeCasts_S1x8192x20480_S1x8192x160x128 := by
  unfold res_main_v121 res_main_call6_v0 res_main_v112
  rw [← prod, up_eq, v86_eq, v103_eq, v109_eq]
  generalize ent V (a1 V) (a2 V) = g
  generalize ent V (a3 V) (a4 V) = u
  rfl

/-! ## The hidden values' quantization -/

/-- The groups' maxima. -/
abbrev gmx : S1x8192x160.Idx → BitVec 32 := res_main_v125 V

/-- The bit lengths of the group maxima. -/
theorem v128_eq : res_main_v128 V = fun y => refN (gmx V y) := by
  unfold res_main_v128
  rfl

/-- The dividends of the groups' multipliers. -/
theorem v133_eq : res_main_v133 V = fun y => IntOp.addi (IntOp.shli .host (gmx V y) (IntOp.subi 23#32 (refN (gmx V y)))) 16256#32 := by
  unfold res_main_v133
  rw [v128_eq]
  rfl

/-- The groups' multipliers. -/
theorem v134_eq : res_main_v134 V = fun y => refM (gmx V y) := by
  unfold res_main_v134 res_main_call7_v2 res_main_call7_v0
  rw [v133_eq]
  rfl

/-- The groups' exponents. -/
theorem gexpo_eq : addi (subi (broadcastInDim S1x8192x160 ![] bcast_S_S1x8192x160 (constantI S_ 32 15#32)) (res_main_v128 V)) (broadcastInDim S1x8192x160 ![] bcast_S_S1x8192x160 (constantI S_ 32 10#32))
    = fun y => refK (gmx V y) := by
  rw [v128_eq]
  rfl

/-- The divisors of the groups' codes, repeated along each group. -/
theorem v141_eq : res_main_v141 V = fun y => refD (gmx V (ix3 (n0 := 1) (n1 := 8192) (n2 := 160) 0 (y 1) (y 2))) := by
  unfold res_main_v141
  rw [v134_eq]
  repeat rw [bcGrp]
  rfl

/-- The dividends of the groups' codes. -/
theorem v151_eq : res_main_v151 V = fun y => IntOp.addi (IntOp.shli .host (IntOp.absi (res_main_v121 V y)) (IntOp.subi 23#32 (refN (gmx V (ix3 (n0 := 1) (n1 := 8192) (n2 := 160) 0 (y 1) (y 2))))))
    (IntOp.shrsi .host (refD (gmx V (ix3 (n0 := 1) (n1 := 8192) (n2 := 160) 0 (y 1) (y 2)))) 1#32) := by
  unfold res_main_v151
  rw [v128_eq, v141_eq]
  repeat rw [bcGrp]
  repeat rw [bcGrps]
  rfl

/-- The hidden codes, four axes. -/
theorem hcode_eq : id (trunci 8 (minsi (broadcastInDim S1x8192x160x128 ![] bcast_S_S1x8192x160x128 (id (constantI S_ 32 127#32))) (maxsi (broadcastInDim S1x8192x160x128 ![] bcast_S_S1x8192x160x128 (id (constantI S_ 32 4294967169#32))) (muli (signi (res_main_v121 V)) (select (andi (cmpi .ne (signi (res_main_v151 V)) (broadcastInDim S1x8192x160x128 ![0, 1, 2, 3] bcast_S1x8192x160x1_S1x8192x160x128_0_1_2_3 (signi (res_main_v141 V)))) (cmpi .ne (Host.remsi (res_main_v151 V) (broadcastInDim S1x8192x160x128 ![0, 1, 2, 3] bcast_S1x8192x160x1_S1x8192x160x128_0_1_2_3 (res_main_v141 V))) (broadcastInDim S1x8192x160x128 ![] bcast_S_S1x8192x160x128 (constantI S_ 32 0#32)))) (subi (res_main_call8_v1 V) (broadcastInDim S1x8192x160x128 ![] bcast_S_S1x8192x160x128 (constantI S_ 32 1#32))) (res_main_call8_v1 V))))) natLt_8_32)
    = fun y => refCode (gmx V (ix3 (n0 := 1) (n1 := 8192) (n2 := 160) 0 (y 1) (y 2))) (res_main_v121 V y) := by
  unfold res_main_call8_v1
  rw [v151_eq, v141_eq]
  repeat rw [bcGrps]
  rfl

end Cert.ReferenceIdeal.Hand
-- ==== Proof.Math.HostSum.lean ====
/- A host sum of 32-bit words along axes, as the word of the integers' sum. -/
module

public import proofs.«01_k».proof.Proof.Math.Spec

@[expose] public section

noncomputable section

namespace Cert.Hand

open Idealize.ShloMosaic

/-- Adding up words one after another is the word of the sum. -/
theorem foldl_addi {α : Type*} (x : α → BitVec 32) (z : α → ℤ) (hz : ∀ i, x i = W (z i)) (l : List α) (a : ℤ) :
    l.foldl (fun r n => IntOp.addi r (x n)) (W a) = W (a + (l.map z).sum) := by
  induction l generalizing a with
  | nil => simp
  | cons b l ih => rw [List.foldl_cons, hz, add_W, ih, List.map_cons, List.sum_cons, add_assoc]

/-- The sum over the members of a list that pass a test, with a zero for each that does not. -/
theorem sum_map_filter {α : Type*} (p : α → Prop) [DecidablePred p] (z : α → ℤ) (l : List α) :
    ((l.filter fun n => p n).map z).sum = (l.map fun n => if p n then z n else 0).sum := by
  induction l with
  | nil => rfl
  | cons b l ih => by_cases hb : p b <;> simp [List.filter_cons, hb, ih]

/-- A host sum reads, at a result index, as the word of the integer sum over the source indices that drop to it. -/
theorem hostSum_eq {s t u : Shape} {dims : List (Fin s.rank)} (x : s.Idx → BitVec 32) (z : s.Idx → ℤ) (hz : ∀ i, x i = W (z i))
    (init : u.Idx → BitVec 32) (hi : ∀ i, init i = 0#32) (h : s.ReducesTo dims t) (hu : 0 < u.numel) (j : t.Idx) :
    Host.reduce IntOp.addi x init h hu j = W (∑ i ∈ Finset.univ.filter (fun i => h.drop i = j), z i) := by
  unfold Host.reduce
  rw [hi, show (0#32 : BitVec 32) = W 0 from rfl,
    foldl_addi (fun n => x (s.rowMajor.symm n)) (fun n => z (s.rowMajor.symm n)) (fun n => hz _),
    sum_map_filter (fun n => h.drop (s.rowMajor.symm n) = j), ← Fin.sum_univ_def, zero_add, Finset.sum_filter]
  exact congrArg W (Equiv.sum_comp s.rowMajor.symm fun i => if h.drop i = j then z i else 0)

end Cert.Hand
-- ==== Proof.ReferenceIdeal.Value.lean ====
/- The reference's six results as functions of its arguments. -/
module

public import proofs.«01_k».proof.Proof.ReferenceIdeal.Words
public import proofs.«01_k».proof.Proof.Math.HostSum
public import Idealize.ShloMosaic.Lib.Pointwise.Reduce

@[expose] public section

set_option maxRecDepth 8192

noncomputable section

namespace Cert.ReferenceIdeal.Hand

open Cert.ReferenceIdeal Cert.ReferenceIdeal.Gen Cert.ReferenceIdeal.Value Cert.Hand
open Idealize.ShloMosaic Idealize.ShloMosaic.TcCoe

variable (V : Valuation τ sig (Elt Ideal))

/-- The input as integers. -/
def rX (i : Fin 8192) (j : Fin 16384) : ℤ := BitVec.toInt (a0 V (ix3 (n0 := 1) (n1 := 8192) (n2 := 16384) 0 i j) : BitVec 32)
/-- A weight array as integers. -/
def rWt (w : Vec Ideal S16384x20480 .i8) (t : Fin 16384) (j : Fin 20480) : ℤ :=
  BitVec.toInt (w (ix2 (n0 := 16384) (n1 := 20480) t j) : BitVec 8)
/-- A column's exponent. -/
def rEx (e : Vec Ideal S20480 .i32) (j : Fin 20480) : BitVec 32 := e (ix1 (n0 := 20480) j)
/-- The hidden values. -/
def rHid : Fin 8192 → Fin 20480 → ℤ := hiddenZ (rX V) (rWt (a1 V)) (rWt (a3 V)) (rEx (a2 V)) (rEx (a4 V))

/-- An index whose first axis has length 1. -/
theorem eta_x (y : S1x8192x16384.Idx) : y = ix3 (n0 := 1) (n1 := 8192) (n2 := 16384) 0 (y 1) (y 2) :=
  funext fun a => match a with
    | ⟨0, _⟩ => Subsingleton.elim (α := Fin 1) _ _
    | ⟨1, _⟩ => rfl
    | ⟨2, _⟩ => rfl

/-- An index of the rows by its one coordinate. -/
theorem eta_row (y : S1x8192.Idx) : y = ix2 (n0 := 1) (n1 := 8192) 0 (y 1) :=
  funext fun a => match a with
    | ⟨0, _⟩ => Subsingleton.elim (α := Fin 1) _ _
    | ⟨1, _⟩ => rfl

/-- An index of the groups by its two coordinates. -/
theorem eta_grp (y : S1x8192x160.Idx) : y = ix3 (n0 := 1) (n1 := 8192) (n2 := 160) 0 (y 1) (y 2) :=
  funext fun a => match a with
    | ⟨0, _⟩ => Subsingleton.elim (α := Fin 1) _ _
    | ⟨1, _⟩ => rfl
    | ⟨2, _⟩ => rfl

/-- An index of the grouped hidden values by its three coordinates. -/
theorem eta_x4 (y : S1x8192x160x128.Idx) : y = ix4 (n0 := 1) (n1 := 8192) (n2 := 160) (n3 := 128) 0 (y 1) (y 2) (y 3) :=
  funext fun a => match a with
    | ⟨0, _⟩ => Subsingleton.elim (α := Fin 1) _ _
    | ⟨1, _⟩ => rfl
    | ⟨2, _⟩ => rfl
    | ⟨3, _⟩ => rfl

/-- What the reference computes from a maximum in range. -/
theorem refM_ofNat {r : ℕ} (h : 1 ≤ r) (h2 : r < 8388608) : refM (BitVec.ofNat 32 r) = W (qm r) := by
  have e : (BitVec.ofNat 32 r).toNat = r := toNat_ofNat (by omega)
  rw [refM_eq (by omega) (by omega), e]

/-- The reference's code from a maximum given as a number. -/
theorem refCode_ofNat {r : ℕ} {x : BitVec 32} (h : 1 ≤ r) (h2 : r < 8388608) (hx : x.toInt.natAbs ≤ r) :
    refCode (BitVec.ofNat 32 r) x = (W (qcode r x.toInt)).setWidth 8 := by
  have e : (BitVec.ofNat 32 r).toNat = r := toNat_ofNat (by omega)
  rw [refCode_eq (by omega) (by omega) (by omega), e]

/-! ## The input's quantization -/

/-- The reference's row maximum is a fold over the row, at least 1. -/
theorem v3_eq : res_main_v3 V = fun y => IntOp.maxsi (Host.reduce IntOp.maxsi (fun i => IntOp.absi (a0 V i)) (constantI S_ 32 2147483648#32) reducesTo_S1x8192x16384_S1x8192_d2 h_S_ y) 1#32 := by
  unfold res_main_v3
  rw [bc0]
  rfl

variable (hX : ∀ i j, (rX V i j).natAbs < 8388608)

include hX in
/-- A row's maximum is the word of the rows' maximum, in range. -/
theorem mx_eq (i : Fin 8192) : mx V (ix2 (n0 := 1) (n1 := 8192) 0 i) = BitVec.ofNat 32 (rowMx (rX V) i)
    ∧ IsMaxOf (rowMx (rX V) i) {z | ∃ k, z = rX V i k} ∧ rowMx (rX V) i < 8388608 := by
  obtain ⟨r, h1, h2, h3⟩ := hostMax_isMaxOf (a0 V) (constantI S_ 32 2147483648#32) (fun _ => rfl) reducesTo_S1x8192x16384_S1x8192_d2 h_S_
    (ix2 (n0 := 1) (n1 := 8192) 0 i) (fun y => by rw [eta_x y]; exact hX _ _)
  have hs : {z | ∃ y, (reducesTo_S1x8192x16384_S1x8192_d2).drop y = ix2 (n0 := 1) (n1 := 8192) 0 i ∧ z = (a0 V y).toInt} = {z | ∃ k, z = rX V i k} := by
    ext z
    constructor
    · rintro ⟨y, hy, rfl⟩
      obtain ⟨k, rfl⟩ := (Shape.ReducesTo.fiber_r3_a2 reducesTo_S1x8192x16384_S1x8192_d2 _ _).1 hy
      exact ⟨k, rfl⟩
    · rintro ⟨k, rfl⟩
      exact ⟨ix3 (n0 := 1) (n1 := 8192) (n2 := 16384) 0 i k, (Shape.ReducesTo.fiber_r3_a2 reducesTo_S1x8192x16384_S1x8192_d2 _ _).2 ⟨k, rfl⟩, rfl⟩
  rw [hs] at h2
  have e : rowMx (rX V) i = r := h2.theMax_eq
  rw [e]
  exact ⟨(congrFun (v3_eq V) _).trans h1, h2, h3⟩

include hX in
/-- The reference's multipliers are the specified ones. -/
theorem refM_mx (i : Fin 8192) : refM (mx V (ix2 (n0 := 1) (n1 := 8192) 0 i)) = multW (rX V) i := by
  obtain ⟨h1, h2, h3⟩ := mx_eq V hX i
  rw [h1, refM_ofNat h2.1 h3, multW]

include hX in
/-- The reference's exponents are the specified ones. -/
theorem refK_mx (i : Fin 8192) : refK (mx V (ix2 (n0 := 1) (n1 := 8192) 0 i)) = expoW (rX V) i := by
  rw [(mx_eq V hX i).1, expoW]

include hX in
/-- The codes. -/
theorem out3 : res_main_v35_0 V = fun y : S1x8192x16384.Idx => codeB (rX V) (y 1) (y 2) := by
  rw [v35_eq]
  funext y
  obtain ⟨h1, h2, h3⟩ := mx_eq V hX (y 1)
  have hy : a0 V y = a0 V (ix3 (n0 := 1) (n1 := 8192) (n2 := 16384) 0 (y 1) (y 2)) := congrArg (a0 V) (eta_x y)
  rw [h1, hy]
  exact refCode_ofNat h2.1 h3 (h2.2.1 _ ⟨y 2, rfl⟩)

include hX in
/-- The multipliers. -/
theorem out4 : id (res_main_v12 V) = fun y : S1x8192.Idx => multW (rX V) (y 1) := by
  simp only [id]
  rw [v12_eq]
  funext y
  exact (congrArg (fun q => refM (mx V q)) (eta_row y)).trans (refM_mx V hX (y 1))

include hX in
/-- The exponents. -/
theorem out5 : id (addi (subi (broadcastInDim S1x8192 ![] bcast_S_S1x8192 (constantI S_ 32 15#32)) (res_main_v6 V)) (broadcastInDim S1x8192 ![] bcast_S_S1x8192 (constantI S_ 32 10#32)))
    = fun y : S1x8192.Idx => expoW (rX V) (y 1) := by
  simp only [id]
  rw [expo_eq]
  funext y
  exact (congrArg (fun q => refK (mx V q)) (eta_row y)).trans (refK_mx V hX (y 1))

/-! ## The scaled entries -/

/-- A widened byte is the word of its integer. -/
theorem ext_byte (b : BitVec 8) : b.signExtend 32 = W b.toInt := rfl

/-- The codes as a matrix. -/
theorem cast_codes (v : S1x8192x16384.Idx → BitVec 8) (i : Fin 8192) (t : Fin 16384) :
    shapeCast S8192x16384 v shapeCasts_S1x8192x16384_S8192x16384 (ix2 (n0 := 8192) (n1 := 16384) i t)
      = v (ix3 (n0 := 1) (n1 := 8192) (n2 := 16384) 0 i t) :=
  shapeCast_apply _ _ _ _ (by
    rw [Shape.rowMajor_val_three, Shape.rowMajor_val_two]
    show ((0 : ℕ) * 8192 + i.val) * 16384 + t.val = i.val * 16384 + t.val
    omega)

include hX in
/-- The reference's integer product is the specified sum. -/
theorem prod_eq (w : Vec Ideal S16384x20480 .i8) (i : Fin 8192) (j : Fin 20480) :
    prod V w (ix2 (n0 := 8192) (n1 := 20480) i j) = dotW (codeZ (rX V) i) (fun t => rWt w t j) := by
  unfold prod
  refine (hostSum_eq _ (fun k : S8192x16384x20480.Idx => codeZ (rX V) (k 0) (k 1) * rWt w (k 1) (k 2)) ?_ _ (fun _ => rfl) _ _ _).trans ?_
  · intro k
    rw [bcCode, bcCodes, bcWt, bcWts, out3 V hX]
    have e1 : extsi 32 (shapeCast S8192x16384 (fun y : S1x8192x16384.Idx => codeB (rX V) (y 1) (y 2)) shapeCasts_S1x8192x16384_S8192x16384) natLt_8_32
        (ix2 (n0 := 8192) (n1 := 16384) (k 0) (k 1)) = W (codeZ (rX V) (k 0) (k 1)) := by
      refine (congrArg (fun b : BitVec 8 => b.signExtend 32) (cast_codes _ (k 0) (k 1))).trans ?_
      rw [ext_byte]
      exact congrArg W (codeB_toInt _ _ _)
    exact (congrArg₂ IntOp.muli e1 (ext_byte (w (ix2 (n0 := 16384) (n1 := 20480) (k 1) (k 2))))).trans (mul_W _ _)
  · exact congrArg W (Shape.ReducesTo.sum_fiber_r3_a1 reducesTo_S8192x16384x20480_S8192x20480_d1 (ix2 (n0 := 8192) (n1 := 20480) i j) _)

/-- The reference's and the kernel's order of adding a column's exponent. -/
theorem shift_comm (k e : BitVec 32) : IntOp.subi (IntOp.addi k e) 8#32 = IntOp.addi (IntOp.subi k 8#32) e := by
  show k + e - 8#32 = k - 8#32 + e
  rw [BitVec.sub_eq_add_neg, BitVec.sub_eq_add_neg, BitVec.add_assoc, BitVec.add_comm e, ← BitVec.add_assoc]

include hX in
/-- The reference's entries are the specified ones. -/
theorem ent_eq (w : Vec Ideal S16384x20480 .i8) (e : Vec Ideal S20480 .i32) (y : S1x8192x20480.Idx) :
    ent V w e y = W (entZ (codeZ (rX V) (y 1)) (fun t => rWt w t (y 2)) (multW (rX V) (y 1)) (expoW (rX V) (y 1)) (rEx e (y 2))) := by
  unfold ent
  rw [prod_eq V hX w (y 1) (y 2), refM_mx V hX (y 1), refK_mx V hX (y 1), shift_comm, rScale_eq, entZ]
  simp only [rEx]

/-! ## The hidden values -/

include hX in
/-- The reference's hidden words are those of the specified hidden values. -/
theorem hid_eq : (fun y => rH (ent V (a1 V) (a2 V) y) (ent V (a3 V) (a4 V) y)) = fun y : S1x8192x20480.Idx => W (rHid V (y 1) (y 2)) := by
  funext y
  rw [ent_eq V hX, ent_eq V hX, rH_eq (entZ_range _ _ _ _ _).1 (entZ_range _ _ _ _ _).2 (entZ_range _ _ _ _ _).1 (entZ_range _ _ _ _ _).2]
  rfl

/-- A hidden value is below 2^18 in magnitude. -/
theorem rHid_range (i : Fin 8192) (j : Fin 20480) : (rHid V i j).natAbs < 262144 :=
  swH_range (entZ_range _ _ _ _ _).1 (entZ_range _ _ _ _ _).2 (entZ_range _ _ _ _ _).1 (entZ_range _ _ _ _ _).2

/-- The hidden values by row, group and column of the group. -/
theorem cast_hid {α : Type} (v : S1x8192x20480.Idx → α) (i : Fin 8192) (p : Fin 160) (l : Fin 128) :
    shapeCast S1x8192x160x128 v shapeCasts_S1x8192x20480_S1x8192x160x128 (ix4 (n0 := 1) (n1 := 8192) (n2 := 160) (n3 := 128) 0 i p l)
      = v (ix3 (n0 := 1) (n1 := 8192) (n2 := 20480) 0 i (grpCol p l)) :=
  shapeCast_apply _ _ _ _ (by
    rw [Shape.rowMajor_val_three, Shape.rowMajor_val_four]
    show ((0 : ℕ) * 8192 + i.val) * 20480 + (128 * p.val + l.val) = (((0 : ℕ) * 8192 + i.val) * 160 + p.val) * 128 + l.val
    omega)

include hX in
/-- The grouped hidden values, element by element. -/
theorem v121_at (i : Fin 8192) (p : Fin 160) (l : Fin 128) :
    res_main_v121 V (ix4 (n0 := 1) (n1 := 8192) (n2 := 160) (n3 := 128) 0 i p l) = W (rHid V i (grpCol p l)) := by
  rw [v121_eq, hid_eq V hX]
  exact cast_hid _ i p l

include hX in
/-- The same, read as integers. -/
theorem v121_toInt (i : Fin 8192) (p : Fin 160) (l : Fin 128) :
    BitVec.toInt (res_main_v121 V (ix4 (n0 := 1) (n1 := 8192) (n2 := 160) (n3 := 128) 0 i p l) : BitVec 32) = rHid V i (grpCol p l) := by
  have := rHid_range V i (grpCol p l)
  exact (congrArg BitVec.toInt (v121_at V hX i p l)).trans (toInt_W (by omega) (by omega))

/-! ## The hidden values' quantization -/

/-- The reference's group maximum is a fold over the group, at least 1. -/
theorem v125_eq : res_main_v125 V = fun y => IntOp.maxsi (Host.reduce IntOp.maxsi (fun i => IntOp.absi (res_main_v121 V i)) (constantI S_ 32 2147483648#32) reducesTo_S1x8192x160x128_S1x8192x160_d3 h_S_ y) 1#32 := by
  unfold res_main_v125
  rw [bc0]
  rfl

include hX in
/-- A group's maximum is the word of the groups' maximum, in range. -/
theorem gmx_eq (i : Fin 8192) (p : Fin 160) : gmx V (ix3 (n0 := 1) (n1 := 8192) (n2 := 160) 0 i p) = BitVec.ofNat 32 (grpMx (rHid V) i p)
    ∧ IsMaxOf (grpMx (rHid V) i p) {z | ∃ l, z = rHid V i (grpCol p l)} ∧ grpMx (rHid V) i p < 8388608 := by
  obtain ⟨r, h1, h2, h3⟩ := hostMax_isMaxOf (res_main_v121 V : S1x8192x160x128.Idx → BitVec 32) (constantI S_ 32 2147483648#32) (fun _ => rfl) reducesTo_S1x8192x160x128_S1x8192x160_d3 h_S_
    (ix3 (n0 := 1) (n1 := 8192) (n2 := 160) 0 i p) (fun y => by
      rw [eta_x4 y]
      have := rHid_range V (y 1) (grpCol (y 2) (y 3))
      have e := v121_toInt V hX (y 1) (y 2) (y 3)
      omega)
  have hs : {z | ∃ y, (reducesTo_S1x8192x160x128_S1x8192x160_d3).drop y = ix3 (n0 := 1) (n1 := 8192) (n2 := 160) 0 i p ∧ z = BitVec.toInt (res_main_v121 V y : BitVec 32)} = {z | ∃ l, z = rHid V i (grpCol p l)} := by
    ext z
    constructor
    · rintro ⟨y, hy, rfl⟩
      obtain ⟨k, rfl⟩ := (Shape.ReducesTo.fiber_r4_a3 reducesTo_S1x8192x160x128_S1x8192x160_d3 _ _).1 hy
      exact ⟨k, v121_toInt V hX i p k⟩
    · rintro ⟨k, rfl⟩
      exact ⟨ix4 (n0 := 1) (n1 := 8192) (n2 := 160) (n3 := 128) 0 i p k, (Shape.ReducesTo.fiber_r4_a3 reducesTo_S1x8192x160x128_S1x8192x160_d3 _ _).2 ⟨k, rfl⟩, (v121_toInt V hX i p k).symm⟩
  replace h2 := (congrArg (IsMaxOf r) hs).mp h2
  have e : grpMx (rHid V) i p = r := h2.theMax_eq
  rw [e]
  exact ⟨(congrFun (v125_eq V) _).trans h1, h2, h3⟩

include hX in
/-- The groups' multipliers. -/
theorem out1 : id (res_main_v134 V) = fun y : S1x8192x160.Idx => hidM (rHid V) (y 1) (y 2) := by
  simp only [id]
  rw [v134_eq]
  funext y
  obtain ⟨h1, h2, h3⟩ := gmx_eq V hX (y 1) (y 2)
  exact (congrArg (fun q => refM (gmx V q)) (eta_grp y)).trans ((congrArg refM h1).trans (refM_ofNat h2.1 h3))

include hX in
/-- The groups' exponents. -/
theorem out2 : id (addi (subi (broadcastInDim S1x8192x160 ![] bcast_S_S1x8192x160 (constantI S_ 32 15#32)) (res_main_v128 V)) (broadcastInDim S1x8192x160 ![] bcast_S_S1x8192x160 (constantI S_ 32 10#32)))
    = fun y : S1x8192x160.Idx => hidK (rHid V) (y 1) (y 2) := by
  simp only [id]
  rw [gexpo_eq]
  funext y
  exact (congrArg (fun q => refK (gmx V q)) (eta_grp y)).trans (congrArg refK (gmx_eq V hX (y 1) (y 2)).1)

include hX in
/-- The hidden codes, element by element. -/
theorem hcode_at (i : Fin 8192) (p : Fin 160) (l : Fin 128) :
    refCode (gmx V (ix3 (n0 := 1) (n1 := 8192) (n2 := 160) 0 i p)) (res_main_v121 V (ix4 (n0 := 1) (n1 := 8192) (n2 := 160) (n3 := 128) 0 i p l))
      = (W (qcode (grpMx (rHid V) i p) (rHid V i (grpCol p l)))).setWidth 8 := by
  obtain ⟨h1, h2, h3⟩ := gmx_eq V hX i p
  have e := v121_toInt V hX i p l
  rw [h1]
  refine (refCode_ofNat h2.1 h3 ?_).trans ?_
  · rw [e]; exact h2.2.1 _ ⟨l, rfl⟩
  · rw [e]

include hX in
/-- The hidden codes. -/
theorem out0 : shapeCast S1x8192x20480 (fun y : S1x8192x160x128.Idx => refCode (gmx V (ix3 (n0 := 1) (n1 := 8192) (n2 := 160) 0 (y 1) (y 2))) (res_main_v121 V y)) shapeCasts_S1x8192x160x128_S1x8192x20480
    = fun y : S1x8192x20480.Idx => hidB (rHid V) (y 1) (y 2) := by
  funext y
  have hj := (y 2).isLt
  have hl : (y 2).val % 128 < 128 := Nat.mod_lt _ (by norm_num)
  have hg : grpCol (grpOf (y 2)) ⟨(y 2).val % 128, hl⟩ = y 2 := Fin.ext (by
    show 128 * ((y 2).val / 128) + (y 2).val % 128 = (y 2).val
    omega)
  have h0 : (y 0).val = 0 := by have : (y 0).val < 1 := (y 0).isLt; omega
  refine (shapeCast_apply _ _ _ (ix4 (n0 := 1) (n1 := 8192) (n2 := 160) (n3 := 128) 0 (y 1) (grpOf (y 2)) ⟨(y 2).val % 128, hl⟩) (by
    rw [Shape.rowMajor_val_three, Shape.rowMajor_val_four]
    show (((0 : ℕ) * 8192 + (y 1).val) * 160 + (y 2).val / 128) * 128 + (y 2).val % 128 = ((y 0).val * 8192 + (y 1).val) * 20480 + (y 2).val
    omega)).trans ?_
  refine (hcode_at V hX (y 1) (grpOf (y 2)) ⟨(y 2).val % 128, hl⟩).trans ?_
  rw [hg]
  rfl

end Cert.ReferenceIdeal.Hand
-- ==== Proof.ReferenceIdeal.Result.lean ====
/- The reference's run: its results as functions of its arguments, its arguments unchanged, its counters at zero. -/
module

public import proofs.«01_k».proof.Proof.ReferenceIdeal.Value
public import Idealize.ShloMosaic.Lib.Quiescent

@[expose] public section

set_option maxRecDepth 8192

noncomputable section

namespace Cert.ReferenceIdeal.Hand

open Cert.ReferenceIdeal Cert.ReferenceIdeal.Gen Cert.ReferenceIdeal.Value Cert.Hand
open Idealize.ShloMosaic Idealize.ShloMosaic.TcCoe Idealize.ShloMosaic.StableHlo Idealize.SL.Sem

variable (m : (ℓ : Loc nD τ sig) → Buf (Elt Ideal) ℓ) (ρ : Dev nD → PrngReg)

/-- The reference ends with its arguments as launched and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2.2.2, sem_eq_zero_of_no_sems rfl r.2⟩) (Value.run m ρ)

/-- The reference's six results, for an input in range. -/
theorem run_out (hX : ∀ c i j, (rX (launchContents m c) i j).natAbs < 8388608) :
    θ_run defs (onTc (τ := τ) (main (F := Ideal))) ⟨m, fun _ => 0, ρ⟩ (fun r => ∀ c : Dev nD,
      r.2.mem ((c.tc : Thread nD τ).loc main_v158) = (fun y : S1x8192x20480.Idx => hidB (rHid (launchContents m c)) (y 1) (y 2))
      ∧ r.2.mem ((c.tc : Thread nD τ).loc main_v157_1) = (fun y : S1x8192x160.Idx => hidM (rHid (launchContents m c)) (y 1) (y 2))
      ∧ r.2.mem ((c.tc : Thread nD τ).loc main_v157_2) = (fun y : S1x8192x160.Idx => hidK (rHid (launchContents m c)) (y 1) (y 2))
      ∧ r.2.mem ((c.tc : Thread nD τ).loc main_v35_0) = (fun y : S1x8192x16384.Idx => codeB (rX (launchContents m c)) (y 1) (y 2))
      ∧ r.2.mem ((c.tc : Thread nD τ).loc main_v35_1) = (fun y : S1x8192.Idx => multW (rX (launchContents m c)) (y 1))
      ∧ r.2.mem ((c.tc : Thread nD τ).loc main_v35_2) = (fun y : S1x8192.Idx => expoW (rX (launchContents m c)) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Value.run m ρ)
  obtain ⟨h0, h1, h2, h3, h4, h5, ha⟩ := h c
  rw [hcode_eq] at h0
  exact ⟨h0.trans (out0 _ (hX c)), h1.trans (out1 _ (hX c)), h2.trans (out2 _ (hX c)), h3.trans (out3 _ (hX c)), h4.trans (out4 _ (hX c)), h5.trans (out5 _ (hX c)), ha⟩

end Cert.ReferenceIdeal.Hand
-- ==== Proof.Algebraic.lean ====
/- The kernel over the reals and the reference end with equal results. -/
module

public import proofs.«01_k».proof.Defs
public import proofs.«01_k».proof.Proof.Gen.Pre_in_range
public import proofs.«01_k».proof.Proof.KernelIdeal.Result
public import proofs.«01_k».proof.Proof.ReferenceIdeal.Result

@[expose] public section

set_option maxRecDepth 8192

noncomputable section

namespace Cert.Hand

open Idealize.ShloMosaic Idealize.ShloMosaic.TcCoe Idealize.ShloMosaic.StableHlo Idealize.SL.Sem

/-- A word between the two bounds of the precondition is of magnitude below 2^23. -/
theorem word_range (x : BitVec 32) (h : IntOp.andi (IntOp.cmpi .sge x 4286578689#32) (IntOp.cmpi .sle x 8388607#32) = 1#1) :
    x.toInt.natAbs < 8388608 := by
  have h1 : IntOp.cmpi .sge x 4286578689#32 = BitVec.ofBool (decide (-8388607 ≤ x.toInt)) := rfl
  have h2 : IntOp.cmpi .sle x 8388607#32 = BitVec.ofBool (decide (x.toInt ≤ 8388607)) := rfl
  rw [h1, h2] at h
  by_cases a : -8388607 ≤ x.toInt
  · by_cases b : x.toInt ≤ 8388607
    · omega
    · rw [decide_eq_true a, decide_eq_false b] at h
      exact absurd h (by decide)
  · rw [decide_eq_false a] at h
    by_cases b : x.toInt ≤ 8388607
    · rw [decide_eq_true b] at h
      exact absurd h (by decide)
    · rw [decide_eq_false b] at h
      exact absurd h (by decide)

/-- The precondition, index by index. -/
theorem arg_range (m : (ℓ : Loc Cert.KernelIdeal.nD Cert.KernelIdeal.τ Cert.KernelIdeal.sig) → Buf (Elt Ideal) ℓ)
    (h : Cert.Pre_KernelIdeal_in_range (hPre_in_range := Cert.Pre_in_range.Gen.facts) m) (c : Dev Cert.KernelIdeal.nD) (i : Fin 8192) (j : Fin 16384) :
    (Cert.KernelIdeal.Hand.argX m c i j).natAbs < 8388608 :=
  word_range _ (congrFun (h c) (ix3 (n0 := 1) (n1 := 8192) (n2 := 16384) 0 i j))

/-- Equal arguments give the reference the integers the kernel has. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.rX (launchContents m' c) = Cert.KernelIdeal.Hand.argX m c
    ∧ Cert.ReferenceIdeal.Hand.rHid (launchContents m' c) = Cert.KernelIdeal.Hand.argH m c := by
  have e0 : Cert.ReferenceIdeal.Hand.rX (launchContents m' c) = Cert.KernelIdeal.Hand.argX m c := by
    funext i j
    exact congrArg BitVec.toInt (congrFun h0 (ix3 (n0 := 1) (n1 := 8192) (n2 := 16384) 0 i j))
  have e1 : Cert.ReferenceIdeal.Hand.rWt (Cert.ReferenceIdeal.Hand.a1 (launchContents m' c)) = Cert.KernelIdeal.Hand.argG m c := by
    funext t j
    exact congrArg BitVec.toInt (congrFun h1 (ix2 (n0 := 16384) (n1 := 20480) t j))
  have e2 : Cert.ReferenceIdeal.Hand.rEx (Cert.ReferenceIdeal.Hand.a2 (launchContents m' c)) = Cert.KernelIdeal.Hand.argGe m c := by
    funext j
    exact congrFun h2 (ix1 (n0 := 20480) j)
  have e3 : Cert.ReferenceIdeal.Hand.rWt (Cert.ReferenceIdeal.Hand.a3 (launchContents m' c)) = Cert.KernelIdeal.Hand.argU m c := by
    funext t j
    exact congrArg BitVec.toInt (congrFun h3 (ix2 (n0 := 16384) (n1 := 20480) t j))
  have e4 : Cert.ReferenceIdeal.Hand.rEx (Cert.ReferenceIdeal.Hand.a4 (launchContents m' c)) = Cert.KernelIdeal.Hand.argUe m c := by
    funext j
    exact congrFun h4 (ix1 (n0 := 20480) j)
  refine ⟨e0, ?_⟩
  unfold Cert.ReferenceIdeal.Hand.rHid Cert.KernelIdeal.Hand.argH
  rw [e0, e1, e2, e3, e4]

/-- The kernel's run over the reals: each result the function of the arguments the reference computes. -/
theorem kernel_out (m : (ℓ : Loc Cert.KernelIdeal.nD Cert.KernelIdeal.τ Cert.KernelIdeal.sig) → Buf (Elt Ideal) ℓ) (g : Dev Cert.KernelIdeal.nD → PrngReg)
    (hX : ∀ c i j, (Cert.KernelIdeal.Hand.argX m c i j).natAbs < 8388608) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5) = (fun y : Cert.KernelIdeal.S1x8192x20480.Idx => hidB (Cert.KernelIdeal.Hand.argH m c) (y 1) (y 2))
      ∧ r.2.mem ((c.tc : Thread Cert.KernelIdeal.nD Cert.KernelIdeal.τ).loc Cert.KernelIdeal.main_v6) = (fun y : Cert.KernelIdeal.S1x8192x160.Idx => hidM (Cert.KernelIdeal.Hand.argH m c) (y 1) (y 2))
      ∧ r.2.mem ((c.tc : Thread Cert.KernelIdeal.nD Cert.KernelIdeal.τ).loc Cert.KernelIdeal.main_v7) = (fun y : Cert.KernelIdeal.S1x8192x160.Idx => hidK (Cert.KernelIdeal.Hand.argH m c) (y 1) (y 2))
      ∧ r.2.mem ((c.tc : Thread Cert.KernelIdeal.nD Cert.KernelIdeal.τ).loc Cert.KernelIdeal.main_v8) = (fun y : Cert.KernelIdeal.S1x8192x16384.Idx => codeB (Cert.KernelIdeal.Hand.argX m c) (y 1) (y 2))
      ∧ r.2.mem ((c.tc : Thread Cert.KernelIdeal.nD Cert.KernelIdeal.τ).loc Cert.KernelIdeal.main_v9) = (fun y : Cert.KernelIdeal.S1x8192.Idx => multW (Cert.KernelIdeal.Hand.argX m c) (y 1))
      ∧ r.2.mem ((c.tc : Thread Cert.KernelIdeal.nD Cert.KernelIdeal.τ).loc Cert.KernelIdeal.main_v10) = (fun y : Cert.KernelIdeal.S1x8192.Idx => expoW (Cert.KernelIdeal.Hand.argX m c) (y 1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run Cert.KernelIdeal.defs _ _).mono (fun r h c => ?_) (Cert.KernelIdeal.Hand.run_named m g)
  have k := fun r => Cert.KernelIdeal.Hand.W5_keeps m c r
  exact ⟨(h.1 c _ rfl).trans (Cert.KernelIdeal.Hand.res_v5 m c (hX c)), (h.1 c _ rfl).trans (Cert.KernelIdeal.Hand.res_v6 m c (hX c)),
    (h.1 c _ rfl).trans (Cert.KernelIdeal.Hand.res_v7 m c (hX c)), (h.1 c _ rfl).trans (Cert.KernelIdeal.Hand.res_v8 m c (hX c)),
    (h.1 c _ rfl).trans (Cert.KernelIdeal.Hand.res_v9 m c (hX c)), (h.1 c _ rfl).trans (Cert.KernelIdeal.Hand.res_v10 m c (hX c)),
    (h.1 c _ rfl).trans (k Cert.KernelIdeal.main_arg0 (by decide) (by decide) (by decide) (by decide) (by decide)),
    (h.1 c _ rfl).trans (k Cert.KernelIdeal.main_arg1 (by decide) (by decide) (by decide) (by decide) (by decide)),
    (h.1 c _ rfl).trans (k Cert.KernelIdeal.main_arg2 (by decide) (by decide) (by decide) (by decide) (by decide)),
    (h.1 c _ rfl).trans (k Cert.KernelIdeal.main_arg3 (by decide) (by decide) (by decide) (by decide) (by decide)),
    (h.1 c _ rfl).trans (k Cert.KernelIdeal.main_arg4 (by decide) (by decide) (by decide) (by decide) (by decide))⟩

/-- The value claim. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hX := fun c => arg_range m hpre c
  have ha := fun c => args_eq m m' c (hargs c).1 (hargs c).2.1 (hargs c).2.2.1 (hargs c).2.2.2.1 (hargs c).2.2.2.2
  have hX' : ∀ c i j, (Cert.ReferenceIdeal.Hand.rX (launchContents m' c) i j).natAbs < 8388608 := fun c i j => by
    rw [(ha c).1]; exact hX c i j
  refine ⟨fun c => (fun y : Cert.KernelIdeal.S1x8192x20480.Idx => hidB (Cert.KernelIdeal.Hand.argH m c) (y 1) (y 2)),
    fun c => (fun y : Cert.KernelIdeal.S1x8192x160.Idx => hidM (Cert.KernelIdeal.Hand.argH m c) (y 1) (y 2)),
    fun c => (fun y : Cert.KernelIdeal.S1x8192x160.Idx => hidK (Cert.KernelIdeal.Hand.argH m c) (y 1) (y 2)),
    fun c => (fun y : Cert.KernelIdeal.S1x8192x16384.Idx => codeB (Cert.KernelIdeal.Hand.argX m c) (y 1) (y 2)),
    fun c => (fun y : Cert.KernelIdeal.S1x8192.Idx => multW (Cert.KernelIdeal.Hand.argX m c) (y 1)),
    fun c => (fun y : Cert.KernelIdeal.S1x8192.Idx => expoW (Cert.KernelIdeal.Hand.argX m c) (y 1)),
    kernel_out m g hX, ?_⟩
  refine (θ_run Cert.ReferenceIdeal.defs _ _).mono (fun r h c => ?_) (Cert.ReferenceIdeal.Hand.run_out m' g' hX')
  have hc := h c
  rw [(ha c).1, (ha c).2] at hc
  exact hc

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Kernel.Run
public import proofs.«01_k».proof.Proof.KernelIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the frames from the runs of the two kernels and the reference, the equal results from `Proof/Algebraic.lean`. -/
theorem claim : Cert.Claim := ⟨Cert.Kernel.Gen.facts, Cert.KernelIdeal.Gen.facts, Cert.ReferenceIdeal.Gen.facts, Cert.Pre_in_range.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Hand.frame m ρ,
  fun m ρ _ => Cert.ReferenceIdeal.Hand.frame m ρ,
  trivial,
  Cert.Hand.algebraic⟩

end Cert.Proof

end
